-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S128x128x128 : Shape := ⟨3, ![128, 128, 128]⟩
abbrev S1x128x128 : Shape := ⟨3, ![1, 128, 128]⟩
abbrev S128x1 : Shape := ⟨2, ![128, 1]⟩
abbrev S128 : Shape := ⟨1, ![128]⟩
abbrev S128x128 : Shape := ⟨2, ![128, 128]⟩
abbrev S1x128 : Shape := ⟨2, ![1, 128]⟩
abbrev S1 : Shape := ⟨1, ![1]⟩
abbrev S384x256 : Shape := ⟨2, ![384, 256]⟩
abbrev S384x128 : Shape := ⟨2, ![384, 128]⟩
abbrev S384 : Shape := ⟨1, ![384]⟩
abbrev S_ : Shape := ⟨0, ![]⟩

class Facts : Prop where
  shapeCasts_S1x128x128_S128x128 : S1x128x128.ShapeCasts S128x128
  bcast_S_S128x128 : S_.BroadcastsInDim S128x128 (![] : Fin 0 → Fin S128x128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)

variable [Facts]

def fn {F : FTy → Type} [FloatOps F] (main_arg0 : FVec F S128x128x128 .f32) (main_arg1 : FVec F S1x128x128 .f32) (main_arg2 : FVec F S128x1 .f32) (main_arg3 : FVec F S128 .f32) (main_arg4 : FVec F S128x128 .f32) (main_arg5 : FVec F S128 .f32) (main_arg6 : FVec F S128x128 .f32) (main_arg7 : FVec F S128 .f32) (main_arg8 : FVec F S1x128 .f32) (main_arg9 : FVec F S1 .f32) (main_arg10 : FVec F S384x256 .f32) (main_arg11 : FVec F S384x128 .f32) (main_arg12 : FVec F S384 .f32) (main_arg13 : FVec F S384 .f32) (main_arg14 : FVec F S128x128 .f32) (main_arg15 : FVec F S128 .f32) : IVec S128x128 1 :=
  let main_v0 : FVec F S128x128 .f32 := shapeCast S128x128 main_arg1 shapeCasts_S1x128x128_S128x128
  let main_v1 : FVec F S128x128 .f32 := Host.absf main_v0
  let main_cst : FVec F S_ .f32 := constant S_ .f32 0x7F800000#32
  let main_v2 : FVec F S128x128 .f32 := broadcastInDim S128x128 ![] bcast_S_S128x128 main_cst
  let main_v3 : IVec S128x128 1 := cmpf .olt main_v1 main_v2
  let main_v4 : FVec F S128x128 .f32 := Host.absf main_arg14
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_v7 : IVec S128x128 1 := andi main_v3 main_v6
  let main_v8 : FVec F S128 .f32 := Host.absf main_arg15
  let main_v9 : FVec F S1x128 .f32 := broadcastInDim S1x128 ![1] bcast_S128_S1x128_1 main_v8
  let main_cst_1 : FVec F S_ .f32 := constant S_ .f32 0x7F800000#32
  let main_v10 : FVec F S1x128 .f32 := broadcastInDim S1x128 ![] bcast_S_S1x128 main_cst_1
  let main_v11 : IVec S1x128 1 := cmpf .olt main_v9 main_v10
  let main_v12 : IVec S128x128 1 := broadcastInDim S128x128 ![0, 1] bcast_S1x128_S128x128_0_1 main_v11
  let main_v13 : IVec S128x128 1 := andi main_v7 main_v12
  main_v13
-- ==== Kernel.lean ====
abbrev S128x128x128 : Shape := ⟨3, ![128, 128, 128]⟩
abbrev S1x128x128 : Shape := ⟨3, ![1, 128, 128]⟩
abbrev S128x1 : Shape := ⟨2, ![128, 1]⟩
abbrev S128 : Shape := ⟨1, ![128]⟩
abbrev S128x128 : Shape := ⟨2, ![128, 128]⟩
abbrev S1x128 : Shape := ⟨2, ![1, 128]⟩
abbrev S1 : Shape := ⟨1, ![1]⟩
abbrev S384x256 : Shape := ⟨2, ![384, 256]⟩
abbrev S384x128 : Shape := ⟨2, ![384, 128]⟩
abbrev S384 : Shape := ⟨1, ![384]⟩
abbrev S1x1 : Shape := ⟨2, ![1, 1]⟩
abbrev S384x1 : Shape := ⟨2, ![384, 1]⟩
abbrev S128x1x128 : Shape := ⟨3, ![128, 1, 128]⟩
abbrev S256x128 : Shape := ⟨2, ![256, 128]⟩
abbrev S1x1x128 : Shape := ⟨3, ![1, 1, 128]⟩

abbrev nBuf : Space → Nat
  | .hbm => 35
  | .vmem => 27
  | .smem => 0
  | _ => 0

abbrev bufTy : (tb : Table) → Fin (tcTables nBuf tb) → BufTy
  | .hbm, ⟨0, _⟩ => ⟨S128x128x128, .f32⟩
  | .hbm, ⟨1, _⟩ => ⟨S1x128x128, .f32⟩
  | .hbm, ⟨2, _⟩ => ⟨S128x1, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1, .f32⟩
  | .hbm, ⟨10, _⟩ => ⟨S384x256, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S128x128, .f32⟩
  | .hbm, ⟨15, _⟩ => ⟨S128, .f32⟩
  | .hbm, ⟨16, _⟩ => ⟨S128x128x128, .f32⟩
  | .hbm, ⟨17, _⟩ => ⟨S128x128, .f32⟩
  | .hbm, ⟨18, _⟩ => ⟨S128x128, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S1x1, .f32⟩
  | .hbm, ⟨23, _⟩ => ⟨S384x1, .f32⟩
  | .hbm, ⟨24, _⟩ => ⟨S384x1, .f32⟩
  | .hbm, ⟨25, _⟩ => ⟨S128x1, .f32⟩
  | .hbm, ⟨26, _⟩ => ⟨S128x128x128, .f32⟩
  | .hbm, ⟨27, _⟩ => ⟨S128x1x128, .f32⟩
  | .hbm, ⟨28, _⟩ => ⟨S128x1x128, .f32⟩
  | .hbm, ⟨29, _⟩ => ⟨S128x128, .f32⟩
  | .hbm, ⟨30, _⟩ => ⟨S128x128, .f32⟩
  | .hbm, ⟨31, _⟩ => ⟨S128x1x128, .f32⟩
  | .hbm, ⟨32, _⟩ => ⟨S128x128, .f32⟩
  | .hbm, ⟨33, _⟩ => ⟨S128x128, .f32⟩
  | .hbm, ⟨34, _⟩ => ⟨S128x128x128, .f32⟩
  | .local _ .vmem, ⟨0, _⟩ => ⟨S128x128x128, .f32⟩
  | .local _ .vmem, ⟨1, _⟩ => ⟨S128x128x128, .f32⟩
  | .local _ .vmem, ⟨2, _⟩ => ⟨S128x128, .f32⟩
  | .local _ .vmem, ⟨3, _⟩ => ⟨S128x1, .f32⟩
  | .local _ .vmem, ⟨4, _⟩ => ⟨S128x1, .f32⟩
  | .local _ .vmem, ⟨5, _⟩ => ⟨S128x128, .f32⟩
  | .local _ .vmem, ⟨6, _⟩ => ⟨S128x1, .f32⟩
  | .local _ .vmem, ⟨7, _⟩ => ⟨S128x128, .f32⟩
  | .local _ .vmem, ⟨8, _⟩ => ⟨S128x1, .f32⟩
  | .local _ .vmem, ⟨9, _⟩ => ⟨S1x128, .f32⟩
  | .local _ .vmem, ⟨10, _⟩ => ⟨S1x1, .f32⟩
  | .local _ .vmem, ⟨11, _⟩ => ⟨S384x256, .f32⟩
  | .local _ .vmem, ⟨12, _⟩ => ⟨S384x128, .f32⟩
  | .local _ .vmem, ⟨13, _⟩ => ⟨S384x1, .f32⟩
  | .local _ .vmem, ⟨14, _⟩ => ⟨S384x1, .f32⟩
  | .local _ .vmem, ⟨15, _⟩ => ⟨S128x128, .f32⟩
  | .local _ .vmem, ⟨16, _⟩ => ⟨S128x1, .f32⟩
  | .local _ .vmem, ⟨17, _⟩ => ⟨S128x128x128, .f32⟩
  | .local _ .vmem, ⟨18, _⟩ => ⟨S128x1x128, .f32⟩
  | .local _ .vmem, ⟨19, _⟩ => ⟨S128x1x128, .f32⟩
  | .local _ .vmem, ⟨20, _⟩ => ⟨S128x128x128, .f32⟩
  | .local _ .vmem, ⟨21, _⟩ => ⟨S128x128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | _, _ => ⟨S128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10_0 : Ref sig .tc := ⟨.hbm, 26, rfl⟩
abbrev main_call0_v10_1 : Ref sig .tc := ⟨.hbm, 27, rfl⟩
abbrev main_call0_v10_2 : Ref sig .tc := ⟨.hbm, 28, rfl⟩
abbrev main_call0_v11 : Ref sig .tc := ⟨.hbm, 29, rfl⟩
abbrev main_call0_v12 : Ref sig .tc := ⟨.hbm, 30, rfl⟩
abbrev main_v0_0 : Ref sig .tc := ⟨.hbm, 31, rfl⟩
abbrev main_call0_v14 : Ref sig .tc := ⟨.hbm, 32, rfl⟩
abbrev main_v0_1 : Ref sig .tc := ⟨.hbm, 33, rfl⟩
abbrev main_v0_2 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v3 : BitVec 32 := Scalar.addi c0_i32 c128_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg27 : BitVec 32 := Scf.iv c0_i32 c1_i32 k0_t1
  let v42 : Index := Scalar.indexCast arg27
  let c0_43 : Index := 0#32
  let c0_44 : Index := 0#32
  ![v42.toNat, 0, 0]
@[reducible] def k0_t2_loop : Scf.Loop 32 :=
  let c0_i32_39 : BitVec 32 := 0#32
  let c128_i32_40 : BitVec 32 := 128#32
  let v40 : BitVec 32 := Scalar.addi c0_i32_39 c128_i32_40
  let c1_i32_41 : BitVec 32 := 1#32
  ⟨c0_i32_39, v40, c1_i32_41⟩
def k0_off2 (k0_t2 : Fin k0_t2_loop.trips) : Fin 3 → Nat :=
  let c0_i32_39 : BitVec 32 := 0#32
  let c1_i32_41 : BitVec 32 := 1#32
  let arg27 : BitVec 32 := Scf.iv c0_i32_39 c1_i32_41 k0_t2
  let v1349 : Index := Scalar.indexCast arg27
  let c0_700 : Index := 0#32
  let c0_701 : Index := 0#32
  ![v1349.toNat, 0, 0]
def k0_off3 (k0_t2 : Fin k0_t2_loop.trips) : Fin 3 → Nat :=
  let c0_i32_39 : BitVec 32 := 0#32
  let c1_i32_41 : BitVec 32 := 1#32
  let arg27 : BitVec 32 := Scf.iv c0_i32_39 c1_i32_41 k0_t2
  let v2578 : Index := Scalar.indexCast arg27
  let c0_1488 : Index := 0#32
  let c0_1489 : Index := 0#32
  ![v2578.toNat, 0, 0]
abbrev stage0_0 : Fin 1 → Memref sig .tc .vmem S128x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S384x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S384x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S384x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S384x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== ReferenceIdeal.lean ====
abbrev S128x128x128 : Shape := ⟨3, ![128, 128, 128]⟩
abbrev S1x128x128 : Shape := ⟨3, ![1, 128, 128]⟩
abbrev S128x1 : Shape := ⟨2, ![128, 1]⟩
abbrev S128 : Shape := ⟨1, ![128]⟩
abbrev S128x128 : Shape := ⟨2, ![128, 128]⟩
abbrev S1x128 : Shape := ⟨2, ![1, 128]⟩
abbrev S1 : Shape := ⟨1, ![1]⟩
abbrev S384x256 : Shape := ⟨2, ![384, 256]⟩
abbrev S384x128 : Shape := ⟨2, ![384, 128]⟩
abbrev S384 : Shape := ⟨1, ![384]⟩
abbrev S1x1x128 : Shape := ⟨3, ![1, 1, 128]⟩
abbrev S_ : Shape := ⟨0, ![]⟩
abbrev S128x1x128 : Shape := ⟨3, ![128, 1, 128]⟩
abbrev S128x128x1 : Shape := ⟨3, ![128, 128, 1]⟩
abbrev S128x256 : Shape := ⟨2, ![128, 256]⟩
abbrev S256x384 : Shape := ⟨2, ![256, 384]⟩
abbrev S128x384 : Shape := ⟨2, ![128, 384]⟩
abbrev S1x384 : Shape := ⟨2, ![1, 384]⟩
abbrev S128x2 : Shape := ⟨2, ![128, 2]⟩
abbrev S128x1x1 : Shape := ⟨3, ![128, 1, 1]⟩
abbrev S1x1x1 : Shape := ⟨3, ![1, 1, 1]⟩

abbrev nBuf : Space → Nat
  | .hbm => 247
  | .vmem => 0
  | .smem => 0
  | _ => 0

abbrev hbmTy0_0 (i : Nat) : BufTy := match i % 128 with
  | 0 => ⟨S128x128x128, .f32⟩
  | 1 => ⟨S1x128x128, .f32⟩
  | 2 => ⟨S128x1, .f32⟩
  | 3 => ⟨S128, .f32⟩
  | 4 => ⟨S128x128, .f32⟩
  | 5 => ⟨S128, .f32⟩
  | 6 => ⟨S128x128, .f32⟩
  | 7 => ⟨S128, .f32⟩
  | 8 => ⟨S1x128, .f32⟩
  | 9 => ⟨S1, .f32⟩
  | 10 => ⟨S384x256, .f32⟩
  | 11 => ⟨S384x128, .f32⟩
  | 12 => ⟨S384, .f32⟩
  | 13 => ⟨S384, .f32⟩
  | 14 => ⟨S128x128, .f32⟩
  | 15 => ⟨S128, .f32⟩
  | 16 => ⟨S128x128, .f32⟩
  | 17 => ⟨S128x128x128, .f32⟩
  | 18 => ⟨S1x1x128, .f32⟩
  | 19 => ⟨S128x128x128, .f32⟩
  | 20 => ⟨S128x128x128, .f32⟩
  | 21 => ⟨S128x128, .f32⟩
  | 22 => ⟨S_, .i1⟩
  | 23 => ⟨S128x128, .i1⟩
  | 24 => ⟨S_, .f32⟩
  | 25 => ⟨S128x1, .f32⟩
  | 26 => ⟨S_, .i32⟩
  | 27 => ⟨S128, .i32⟩
  | 28 => ⟨S128, .i32⟩
  | 29 => ⟨S_, .f32⟩
  | 30 => ⟨S128x128x128, .f32⟩
  | 31 => ⟨S_, .f32⟩
  | 32 => ⟨S128x128, .f32⟩
  | 33 => ⟨S_, .f32⟩
  | 34 => ⟨S128x128, .f32⟩
  | 35 => ⟨S_, .i32⟩
  | 36 => ⟨S128, .i32⟩
  | 37 => ⟨S128x1, .f32⟩
  | 38 => ⟨S128, .f32⟩
  | 39 => ⟨S128x128, .f32⟩
  | 40 => ⟨S128, .f32⟩
  | 41 => ⟨S128x128x128, .f32⟩
  | 42 => ⟨S1x128, .f32⟩
  | 43 => ⟨S1, .f32⟩
  | 44 => ⟨S128x128x128, .f32⟩
  | 45 => ⟨S384x256, .f32⟩
  | 46 => ⟨S384, .f32⟩
  | 47 => ⟨S384x128, .f32⟩
  | 48 => ⟨S384, .f32⟩
  | 49 => ⟨S128x128, .f32⟩
  | 50 => ⟨S128, .f32⟩
  | 51 => ⟨S_, .i32⟩
  | 52 => ⟨S128x128, .f32⟩
  | 53 => ⟨S128x128, .i1⟩
  | 54 => ⟨S128x1, .f32⟩
  | 55 => ⟨S128, .i32⟩
  | 56 => ⟨S128x128x128, .f32⟩
  | 57 => ⟨S128x128, .f32⟩
  | 58 => ⟨S128x128, .f32⟩
  | 59 => ⟨S_, .i32⟩
  | 60 => ⟨S_, .i1⟩
  | 61 => ⟨S1, .i32⟩
  | 62 => ⟨S_, .i32⟩
  | 63 => ⟨S1x128, .f32⟩
  | 64 => ⟨S128x128, .f32⟩
  | 65 => ⟨S1x128, .f32⟩
  | 66 => ⟨S128x128, .f32⟩
  | 67 => ⟨S128x128, .f32⟩
  | 68 => ⟨S128x128, .f32⟩
  | 69 => ⟨S128x128, .f32⟩
  | 70 => ⟨S1x128, .f32⟩
  | 71 => ⟨S128x128, .f32⟩
  | 72 => ⟨S128x128, .f32⟩
  | 73 => ⟨S128x1x128, .f32⟩
  | 74 => ⟨S128x128x128, .f32⟩
  | 75 => ⟨S128x128x128, .f32⟩
  | 76 => ⟨S128x128x128, .f32⟩
  | 77 => ⟨S128x1, .f32⟩
  | 78 => ⟨S128x128x1, .f32⟩
  | 79 => ⟨S128x128, .f32⟩
  | 80 => ⟨S_, .f32⟩
  | 81 => ⟨S128x128, .f32⟩
  | 82 => ⟨S128x128, .f32⟩
  | 83 => ⟨S_, .f32⟩
  | 84 => ⟨S128, .f32⟩
  | 85 => ⟨S_, .f32⟩
  | 86 => ⟨S128, .f32⟩
  | 87 => ⟨S128, .f32⟩
  | 88 => ⟨S128x1, .f32⟩
  | 89 => ⟨S128x128, .f32⟩
  | 90 => ⟨S128x128, .f32⟩
  | 91 => ⟨S128x128, .f32⟩
  | 92 => ⟨S_, .f32⟩
  | 93 => ⟨S128, .f32⟩
  | 94 => ⟨S128x1, .f32⟩
  | 95 => ⟨S128x128, .f32⟩
  | 96 => ⟨S128x128, .f32⟩
  | 97 => ⟨S128x128, .f32⟩
  | 98 => ⟨S128x256, .f32⟩
  | 99 => ⟨S256x384, .f32⟩
  | 100 => ⟨S128x384, .f32⟩
  | 101 => ⟨S1x384, .f32⟩
  | 102 => ⟨S128x384, .f32⟩
  | 103 => ⟨S128x384, .f32⟩
  | 104 => ⟨S128x384, .f32⟩
  | 105 => ⟨S128x384, .f32⟩
  | 106 => ⟨S1x384, .f32⟩
  | 107 => ⟨S128x384, .f32⟩
  | 108 => ⟨S128x384, .f32⟩
  | 109 => ⟨S128x128, .f32⟩
  | 110 => ⟨S128x128, .f32⟩
  | 111 => ⟨S128x128, .f32⟩
  | 112 => ⟨S128x128, .f32⟩
  | 113 => ⟨S128x128, .f32⟩
  | 114 => ⟨S128x128, .f32⟩
  | 115 => ⟨S128x128, .f32⟩
  | 116 => ⟨S128x128, .f32⟩
  | 117 => ⟨S128x128, .f32⟩
  | 118 => ⟨S_, .f32⟩
  | 119 => ⟨S128x128, .f32⟩
  | 120 => ⟨S128x128, .f32⟩
  | 121 => ⟨S_, .f32⟩
  | 122 => ⟨S128x128, .f32⟩
  | 123 => ⟨S128x128, .f32⟩
  | 124 => ⟨S128x128, .f32⟩
  | 125 => ⟨S128x128, .f32⟩
  | 126 => ⟨S128x128, .f32⟩
  | 127 => ⟨S_, .f32⟩
  | _ => ⟨S128x128x128, .f32⟩

abbrev hbmTy0_1 (i : Nat) : BufTy := match i % 128 with
  | 0 => ⟨S128x128, .f32⟩
  | 1 => ⟨S128x128, .f32⟩
  | 2 => ⟨S_, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S_, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128x128, .f32⟩
  | 15 => ⟨S128x128, .f32⟩
  | 16 => ⟨S1x128, .f32⟩
  | 17 => ⟨S128x128, .f32⟩
  | 18 => ⟨S128x128, .f32⟩
  | 19 => ⟨S128x1, .f32⟩
  | 20 => ⟨S128x1, .i32⟩
  | 21 => ⟨S128, .i32⟩
  | 22 => ⟨S128x1, .i32⟩
  | 23 => ⟨S128x1, .f32⟩
  | 24 => ⟨S_, .i32⟩
  | 25 => ⟨S_, .i1⟩
  | 26 => ⟨S_, .f32⟩
  | 27 => ⟨S128x128, .f32⟩
  | 28 => ⟨S_, .i32⟩
  | 29 => ⟨S1, .i32⟩
  | 30 => ⟨S_, .f32⟩
  | 31 => ⟨S128, .f32⟩
  | 32 => ⟨S128x128, .f32⟩
  | 33 => ⟨S128, .i32⟩
  | 34 => ⟨S_, .i32⟩
  | 35 => ⟨S128, .i32⟩
  | 36 => ⟨S128, .i1⟩
  | 37 => ⟨S_, .i32⟩
  | 38 => ⟨S128, .i32⟩
  | 39 => ⟨S128, .i32⟩
  | 40 => ⟨S128, .i32⟩
  | 41 => ⟨S_, .i32⟩
  | 42 => ⟨S128, .i32⟩
  | 43 => ⟨S128, .i1⟩
  | 44 => ⟨S_, .i32⟩
  | 45 => ⟨S128, .i32⟩
  | 46 => ⟨S128, .i32⟩
  | 47 => ⟨S128, .i32⟩
  | 48 => ⟨S128x1, .i32⟩
  | 49 => ⟨S128x1, .i32⟩
  | 50 => ⟨S128x2, .i32⟩
  | 51 => ⟨S_, .i1⟩
  | 52 => ⟨S128, .i1⟩
  | 53 => ⟨S128x128, .i1⟩
  | 54 => ⟨S_, .f32⟩
  | 55 => ⟨S_, .f32⟩
  | 56 => ⟨S128x128, .f32⟩
  | 57 => ⟨S128x128, .f32⟩
  | 58 => ⟨S128x128, .f32⟩
  | 59 => ⟨S128x128, .i1⟩
  | 60 => ⟨S128x1, .f32⟩
  | 61 => ⟨S128x1, .i32⟩
  | 62 => ⟨S128, .i32⟩
  | 63 => ⟨S_, .f32⟩
  | 64 => ⟨S128, .f32⟩
  | 65 => ⟨S_, .f32⟩
  | 66 => ⟨S128, .f32⟩
  | 67 => ⟨S128, .f32⟩
  | 68 => ⟨S128x1, .f32⟩
  | 69 => ⟨S128x128, .f32⟩
  | 70 => ⟨S128x128, .f32⟩
  | 71 => ⟨S128x128, .f32⟩
  | 72 => ⟨S_, .f32⟩
  | 73 => ⟨S128, .f32⟩
  | 74 => ⟨S128x1, .f32⟩
  | 75 => ⟨S128x1, .f32⟩
  | 76 => ⟨S128x128, .f32⟩
  | 77 => ⟨S128x128, .f32⟩
  | 78 => ⟨S128x1, .i32⟩
  | 79 => ⟨S_, .i32⟩
  | 80 => ⟨S128x1, .i32⟩
  | 81 => ⟨S128x1, .i1⟩
  | 82 => ⟨S_, .i32⟩
  | 83 => ⟨S128x1, .i32⟩
  | 84 => ⟨S128x1, .i32⟩
  | 85 => ⟨S128x1, .i32⟩
  | 86 => ⟨S128x1x1, .i32⟩
  | 87 => ⟨S1, .i32⟩
  | 88 => ⟨S_, .i32⟩
  | 89 => ⟨S128x1x1, .i32⟩
  | 90 => ⟨S128x1x1, .i1⟩
  | 91 => ⟨S1x1x1, .i32⟩
  | 92 => ⟨S128x1x1, .i32⟩
  | 93 => ⟨S128x1x1, .i1⟩
  | 94 => ⟨S128x1x1, .i1⟩
  | 95 => ⟨S_, .i1⟩
  | 96 => ⟨S128x1, .i1⟩
  | 97 => ⟨S128x1, .f32⟩
  | 98 => ⟨S_, .f32⟩
  | 99 => ⟨S128x1, .f32⟩
  | 100 => ⟨S128x1, .f32⟩
  | 101 => ⟨S128, .f32⟩
  | 102 => ⟨S128, .f32⟩
  | 103 => ⟨S1x128x128, .f32⟩
  | 104 => ⟨S_, .i32⟩
  | 105 => ⟨S_, .i32⟩
  | 106 => ⟨S128x128x128, .f32⟩
  | 107 => ⟨S1x128, .f32⟩
  | 108 => ⟨S_, .i32⟩
  | 109 => ⟨S128x128, .f32⟩
  | 110 => ⟨S1x128, .f32⟩
  | 111 => ⟨S_, .i32⟩
  | 112 => ⟨S128x128, .f32⟩
  | 113 => ⟨S_, .i32⟩
  | 114 => ⟨S_, .i32⟩
  | 115 => ⟨S128x128x128, .f32⟩
  | 116 => ⟨S128x128, .f32⟩
  | 117 => ⟨S128x1x128, .f32⟩
  | 118 => ⟨S128x128, .f32⟩
  | _ => ⟨S128x128x128, .f32⟩

abbrev hbmTy (i : Nat) : BufTy := match i / 128 with
  | 0 => hbmTy0_0 i
  | 1 => hbmTy0_1 i
  | _ => ⟨S128x128x128, .f32⟩

abbrev bufTy : (tb : Table) → Fin (tcTables nBuf tb) → BufTy
  | .hbm, ⟨i, _⟩ => hbmTy i
  | _, _ => ⟨S128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_c_4 : Ref sig .tc := ⟨.hbm, 35, rfl⟩
abbrev main_v13_0 : Ref sig .tc := ⟨.hbm, 36, rfl⟩
abbrev main_v13_1 : Ref sig .tc := ⟨.hbm, 37, rfl⟩
abbrev main_v13_2 : Ref sig .tc := ⟨.hbm, 38, rfl⟩
abbrev main_v13_3 : Ref sig .tc := ⟨.hbm, 39, rfl⟩
abbrev main_v13_4 : Ref sig .tc := ⟨.hbm, 40, rfl⟩
abbrev main_v13_5 : Ref sig .tc := ⟨.hbm, 41, rfl⟩
abbrev main_v13_6 : Ref sig .tc := ⟨.hbm, 42, rfl⟩
abbrev main_v13_7 : Ref sig .tc := ⟨.hbm, 43, rfl⟩
abbrev main_v13_8 : Ref sig .tc := ⟨.hbm, 44, rfl⟩
abbrev main_v13_9 : Ref sig .tc := ⟨.hbm, 45, rfl⟩
abbrev main_v13_10 : Ref sig .tc := ⟨.hbm, 46, rfl⟩
abbrev main_v13_11 : Ref sig .tc := ⟨.hbm, 47, rfl⟩
abbrev main_v13_12 : Ref sig .tc := ⟨.hbm, 48, rfl⟩
abbrev main_v13_13 : Ref sig .tc := ⟨.hbm, 49, rfl⟩
abbrev main_v13_14 : Ref sig .tc := ⟨.hbm, 50, rfl⟩
abbrev main_v13_15 : Ref sig .tc := ⟨.hbm, 51, rfl⟩
abbrev main_v13_16 : Ref sig .tc := ⟨.hbm, 52, rfl⟩
abbrev main_v13_17 : Ref sig .tc := ⟨.hbm, 53, rfl⟩
abbrev main_v13_18 : Ref sig .tc := ⟨.hbm, 54, rfl⟩
abbrev main_v13_19 : Ref sig .tc := ⟨.hbm, 55, rfl⟩
abbrev main_v13_20 : Ref sig .tc := ⟨.hbm, 56, rfl⟩
abbrev main_v13_21 : Ref sig .tc := ⟨.hbm, 57, rfl⟩
abbrev main_v13_22 : Ref sig .tc := ⟨.hbm, 58, rfl⟩
abbrev main_while0c_c_27 : Ref sig .tc := ⟨.hbm, 59, rfl⟩
abbrev main_while0c_v18 : Ref sig .tc := ⟨.hbm, 60, rfl⟩
abbrev main_while0b_call0_v0 : Ref sig .tc := ⟨.hbm, 61, rfl⟩
abbrev main_while0b_v18 : Ref sig .tc := ⟨.hbm, 62, rfl⟩
abbrev main_while0b_v19 : Ref sig .tc := ⟨.hbm, 63, rfl⟩
abbrev main_while0b_v20 : Ref sig .tc := ⟨.hbm, 64, rfl⟩
abbrev main_while0b_v21 : Ref sig .tc := ⟨.hbm, 65, rfl⟩
abbrev main_while0b_v22 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_v28 : Ref sig .tc := ⟨.hbm, 72, rfl⟩
abbrev main_while0b_v29 : Ref sig .tc := ⟨.hbm, 73, rfl⟩
abbrev main_while0b_v30 : Ref sig .tc := ⟨.hbm, 74, rfl⟩
abbrev main_while0b_v31 : Ref sig .tc := ⟨.hbm, 75, rfl⟩
abbrev main_while0b_v32 : Ref sig .tc := ⟨.hbm, 76, rfl⟩
abbrev main_while0b_v33 : Ref sig .tc := ⟨.hbm, 77, rfl⟩
abbrev main_while0b_v34 : Ref sig .tc := ⟨.hbm, 78, rfl⟩
abbrev main_while0b_v35 : Ref sig .tc := ⟨.hbm, 79, rfl⟩
abbrev main_while0b_v36 : Ref sig .tc := ⟨.hbm, 80, rfl⟩
abbrev main_while0b_v37 : Ref sig .tc := ⟨.hbm, 81, rfl⟩
abbrev main_while0b_v38 : Ref sig .tc := ⟨.hbm, 82, rfl⟩
abbrev main_while0b_cst_27 : Ref sig .tc := ⟨.hbm, 83, rfl⟩
abbrev main_while0b_v39 : Ref sig .tc := ⟨.hbm, 84, rfl⟩
abbrev main_while0b_cst_28 : Ref sig .tc := ⟨.hbm, 85, rfl⟩
abbrev main_while0b_v40 : Ref sig .tc := ⟨.hbm, 86, rfl⟩
abbrev main_while0b_v41 : Ref sig .tc := ⟨.hbm, 87, rfl⟩
abbrev main_while0b_v42 : Ref sig .tc := ⟨.hbm, 88, rfl⟩
abbrev main_while0b_v43 : Ref sig .tc := ⟨.hbm, 89, rfl⟩
abbrev main_while0b_v44 : Ref sig .tc := ⟨.hbm, 90, rfl⟩
abbrev main_while0b_v45 : Ref sig .tc := ⟨.hbm, 91, rfl⟩
abbrev main_while0b_cst_29 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_v51 : Ref sig .tc := ⟨.hbm, 98, rfl⟩
abbrev main_while0b_v52 : Ref sig .tc := ⟨.hbm, 99, rfl⟩
abbrev main_while0b_v53 : Ref sig .tc := ⟨.hbm, 100, rfl⟩
abbrev main_while0b_v54 : Ref sig .tc := ⟨.hbm, 101, rfl⟩
abbrev main_while0b_v55 : Ref sig .tc := ⟨.hbm, 102, rfl⟩
abbrev main_while0b_v56 : Ref sig .tc := ⟨.hbm, 103, rfl⟩
abbrev main_while0b_v57 : Ref sig .tc := ⟨.hbm, 104, rfl⟩
abbrev main_while0b_v58 : Ref sig .tc := ⟨.hbm, 105, rfl⟩
abbrev main_while0b_v59 : Ref sig .tc := ⟨.hbm, 106, rfl⟩
abbrev main_while0b_v60 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_v64 : Ref sig .tc := ⟨.hbm, 111, rfl⟩
abbrev main_while0b_v65 : Ref sig .tc := ⟨.hbm, 112, rfl⟩
abbrev main_while0b_v66 : Ref sig .tc := ⟨.hbm, 113, rfl⟩
abbrev main_while0b_v67 : Ref sig .tc := ⟨.hbm, 114, rfl⟩
abbrev main_while0b_v68 : Ref sig .tc := ⟨.hbm, 115, rfl⟩
abbrev main_while0b_v69 : Ref sig .tc := ⟨.hbm, 116, rfl⟩
abbrev main_while0b_v70 : Ref sig .tc := ⟨.hbm, 117, rfl⟩
abbrev main_while0b_cst_30 : Ref sig .tc := ⟨.hbm, 118, rfl⟩
abbrev main_while0b_v71 : Ref sig .tc := ⟨.hbm, 119, rfl⟩
abbrev main_while0b_v72 : Ref sig .tc := ⟨.hbm, 120, rfl⟩
abbrev main_while0b_cst_31 : Ref sig .tc := ⟨.hbm, 121, rfl⟩
abbrev main_while0b_v73 : Ref sig .tc := ⟨.hbm, 122, rfl⟩
abbrev main_while0b_v74 : Ref sig .tc := ⟨.hbm, 123, rfl⟩
abbrev main_while0b_v75 : Ref sig .tc := ⟨.hbm, 124, rfl⟩
abbrev main_while0b_v76 : Ref sig .tc := ⟨.hbm, 125, rfl⟩
abbrev main_while0b_v77 : Ref sig .tc := ⟨.hbm, 126, rfl⟩
abbrev main_while0b_cst_32 : Ref sig .tc := ⟨.hbm, 127, rfl⟩
abbrev main_while0b_v78 : Ref sig .tc := ⟨.hbm, 128, rfl⟩
abbrev main_while0b_v79 : Ref sig .tc := ⟨.hbm, 129, rfl⟩
abbrev main_while0b_cst_33 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_v84 : Ref sig .tc := ⟨.hbm, 135, rfl⟩
abbrev main_while0b_cst_34 : Ref sig .tc := ⟨.hbm, 136, rfl⟩
abbrev main_while0b_v85 : Ref sig .tc := ⟨.hbm, 137, rfl⟩
abbrev main_while0b_v86 : Ref sig .tc := ⟨.hbm, 138, rfl⟩
abbrev main_while0b_v87 : Ref sig .tc := ⟨.hbm, 139, rfl⟩
abbrev main_while0b_v88 : Ref sig .tc := ⟨.hbm, 140, rfl⟩
abbrev main_while0b_v89 : Ref sig .tc := ⟨.hbm, 141, rfl⟩
abbrev main_while0b_v90 : Ref sig .tc := ⟨.hbm, 142, rfl⟩
abbrev main_while0b_v91 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_values : Ref sig .tc := ⟨.hbm, 147, rfl⟩
abbrev main_while0b_indices : Ref sig .tc := ⟨.hbm, 148, rfl⟩
abbrev main_while0b_v95 : Ref sig .tc := ⟨.hbm, 149, rfl⟩
abbrev main_while0b_v96 : Ref sig .tc := ⟨.hbm, 150, rfl⟩
abbrev main_while0b_v97 : Ref sig .tc := ⟨.hbm, 151, rfl⟩
abbrev main_while0b_c_35 : Ref sig .tc := ⟨.hbm, 152, rfl⟩
abbrev main_while0b_v98 : Ref sig .tc := ⟨.hbm, 153, rfl⟩
abbrev main_while0b_cst_36 : Ref sig .tc := ⟨.hbm, 154, rfl⟩
abbrev main_while0b_v99 : Ref sig .tc := ⟨.hbm, 155, rfl⟩
abbrev main_while0b_c_37 : Ref sig .tc := ⟨.hbm, 156, rfl⟩
abbrev main_while0b_v100 : Ref sig .tc := ⟨.hbm, 157, rfl⟩
abbrev main_while0b_cst_38 : Ref sig .tc := ⟨.hbm, 158, rfl⟩
abbrev main_while0b_v101 : Ref sig .tc := ⟨.hbm, 159, rfl⟩
abbrev main_while0b_v102 : Ref sig .tc := ⟨.hbm, 160, rfl⟩
abbrev main_while0b_v103 : Ref sig .tc := ⟨.hbm, 161, rfl⟩
abbrev main_while0b_c_39 : Ref sig .tc := ⟨.hbm, 162, rfl⟩
abbrev main_while0b_v104 : Ref sig .tc := ⟨.hbm, 163, rfl⟩
abbrev main_while0b_v105 : Ref sig .tc := ⟨.hbm, 164, rfl⟩
abbrev main_while0b_c_40 : Ref sig .tc := ⟨.hbm, 165, rfl⟩
abbrev main_while0b_v106 : Ref sig .tc := ⟨.hbm, 166, rfl⟩
abbrev main_while0b_v107 : Ref sig .tc := ⟨.hbm, 167, rfl⟩
abbrev main_while0b_v108 : Ref sig .tc := ⟨.hbm, 168, rfl⟩
abbrev main_while0b_c_41 : Ref sig .tc := ⟨.hbm, 169, rfl⟩
abbrev main_while0b_v109 : Ref sig .tc := ⟨.hbm, 170, rfl⟩
abbrev main_while0b_v110 : Ref sig .tc := ⟨.hbm, 171, rfl⟩
abbrev main_while0b_c_42 : Ref sig .tc := ⟨.hbm, 172, rfl⟩
abbrev main_while0b_v111 : Ref sig .tc := ⟨.hbm, 173, rfl⟩
abbrev main_while0b_v112 : Ref sig .tc := ⟨.hbm, 174, rfl⟩
abbrev main_while0b_v113 : Ref sig .tc := ⟨.hbm, 175, rfl⟩
abbrev main_while0b_v114 : Ref sig .tc := ⟨.hbm, 176, rfl⟩
abbrev main_while0b_v115 : Ref sig .tc := ⟨.hbm, 177, rfl⟩
abbrev main_while0b_v116 : Ref sig .tc := ⟨.hbm, 178, rfl⟩
abbrev main_while0b_c_43 : Ref sig .tc := ⟨.hbm, 179, rfl⟩
abbrev main_while0b_v117 : Ref sig .tc := ⟨.hbm, 180, rfl⟩
abbrev main_while0b_v118 : Ref sig .tc := ⟨.hbm, 181, rfl⟩
abbrev main_while0b_cst_44 : Ref sig .tc := ⟨.hbm, 182, rfl⟩
abbrev main_while0b_call1_v0 : Ref sig .tc := ⟨.hbm, 183, rfl⟩
abbrev main_while0b_call1_v1 : Ref sig .tc := ⟨.hbm, 184, rfl⟩
abbrev main_while0b_v119 : Ref sig .tc := ⟨.hbm, 185, rfl⟩
abbrev main_while0b_v120 : Ref sig .tc := ⟨.hbm, 186, rfl⟩
abbrev main_while0b_v121 : Ref sig .tc := ⟨.hbm, 187, rfl⟩
abbrev main_while0b_values_45 : Ref sig .tc := ⟨.hbm, 188, rfl⟩
abbrev main_while0b_indices_46 : Ref sig .tc := ⟨.hbm, 189, rfl⟩
abbrev main_while0b_v122 : Ref sig .tc := ⟨.hbm, 190, rfl⟩
abbrev main_while0b_call4_cst : Ref sig .tc := ⟨.hbm, 191, rfl⟩
abbrev main_while0b_call4_v0 : Ref sig .tc := ⟨.hbm, 192, rfl⟩
abbrev main_while0b_call4_cst_0 : Ref sig .tc := ⟨.hbm, 193, rfl⟩
abbrev main_while0b_call4_v1 : Ref sig .tc := ⟨.hbm, 194, rfl⟩
abbrev main_while0b_call4_v2 : Ref sig .tc := ⟨.hbm, 195, rfl⟩
abbrev main_while0b_call4_v3 : Ref sig .tc := ⟨.hbm, 196, rfl⟩
abbrev main_while0b_call4_v4 : Ref sig .tc := ⟨.hbm, 197, rfl⟩
abbrev main_while0b_call4_v5 : Ref sig .tc := ⟨.hbm, 198, rfl⟩
abbrev main_while0b_call4_v6 : Ref sig .tc := ⟨.hbm, 199, rfl⟩
abbrev main_while0b_call4_cst_1 : Ref sig .tc := ⟨.hbm, 200, rfl⟩
abbrev main_while0b_call4_v7 : Ref sig .tc := ⟨.hbm, 201, rfl⟩
abbrev main_while0b_call4_v8 : Ref sig .tc := ⟨.hbm, 202, rfl⟩
abbrev main_while0b_call4_v9 : Ref sig .tc := ⟨.hbm, 203, rfl⟩
abbrev main_while0b_call4_v10 : Ref sig .tc := ⟨.hbm, 204, rfl⟩
abbrev main_while0b_v123 : Ref sig .tc := ⟨.hbm, 205, rfl⟩
abbrev main_while0b_v124 : Ref sig .tc := ⟨.hbm, 206, rfl⟩
abbrev main_while0b_call5_c : Ref sig .tc := ⟨.hbm, 207, rfl⟩
abbrev main_while0b_call5_v0 : Ref sig .tc := ⟨.hbm, 208, rfl⟩
abbrev main_while0b_call5_v1 : Ref sig .tc := ⟨.hbm, 209, rfl⟩
abbrev main_while0b_call5_c_0 : Ref sig .tc := ⟨.hbm, 210, rfl⟩
abbrev main_while0b_call5_v2 : Ref sig .tc := ⟨.hbm, 211, rfl⟩
abbrev main_while0b_call5_v3 : Ref sig .tc := ⟨.hbm, 212, rfl⟩
abbrev main_while0b_call5_v4 : Ref sig .tc := ⟨.hbm, 213, rfl⟩
abbrev main_while0b_call5_v5 : Ref sig .tc := ⟨.hbm, 214, rfl⟩
abbrev main_while0b_call5_c_1 : Ref sig .tc := ⟨.hbm, 215, rfl⟩
abbrev main_while0b_call5_c_2 : Ref sig .tc := ⟨.hbm, 216, rfl⟩
abbrev main_while0b_call5_v6 : Ref sig .tc := ⟨.hbm, 217, rfl⟩
abbrev main_while0b_call5_v7 : Ref sig .tc := ⟨.hbm, 218, rfl⟩
abbrev main_while0b_call5_v8 : Ref sig .tc := ⟨.hbm, 219, rfl⟩
abbrev main_while0b_call5_v9 : Ref sig .tc := ⟨.hbm, 220, rfl⟩
abbrev main_while0b_call5_v10 : Ref sig .tc := ⟨.hbm, 221, rfl⟩
abbrev main_while0b_call5_v11 : Ref sig .tc := ⟨.hbm, 222, rfl⟩
abbrev main_while0b_call5_c_3 : Ref sig .tc := ⟨.hbm, 223, rfl⟩
abbrev main_while0b_call5_v12 : Ref sig .tc := ⟨.hbm, 224, rfl⟩
abbrev main_while0b_call5_v13 : Ref sig .tc := ⟨.hbm, 225, rfl⟩
abbrev main_while0b_call5_cst : Ref sig .tc := ⟨.hbm, 226, rfl⟩
abbrev main_while0b_call5_v14 : Ref sig .tc := ⟨.hbm, 227, rfl⟩
abbrev main_while0b_v125 : Ref sig .tc := ⟨.hbm, 228, rfl⟩
abbrev main_while0b_v126 : Ref sig .tc := ⟨.hbm, 229, rfl⟩
abbrev main_while0b_v127 : Ref sig .tc := ⟨.hbm, 230, rfl⟩
abbrev main_while0b_call6_v0 : Ref sig .tc := ⟨.hbm, 231, rfl⟩
abbrev main_while0b_call6_c : Ref sig .tc := ⟨.hbm, 232, rfl⟩
abbrev main_while0b_call6_c_0 : Ref sig .tc := ⟨.hbm, 233, rfl⟩
abbrev main_while0b_v128 : Ref sig .tc := ⟨.hbm, 234, rfl⟩
abbrev main_while0b_call7_v0 : Ref sig .tc := ⟨.hbm, 235, rfl⟩
abbrev main_while0b_call7_c : Ref sig .tc := ⟨.hbm, 236, rfl⟩
abbrev main_while0b_v129 : Ref sig .tc := ⟨.hbm, 237, rfl⟩
abbrev main_while0b_call8_v0 : Ref sig .tc := ⟨.hbm, 238, rfl⟩
abbrev main_while0b_call8_c : Ref sig .tc := ⟨.hbm, 239, rfl⟩
abbrev main_while0b_v130 : Ref sig .tc := ⟨.hbm, 240, rfl⟩
abbrev main_while0b_c_47 : Ref sig .tc := ⟨.hbm, 241, rfl⟩
abbrev main_while0b_v131 : Ref sig .tc := ⟨.hbm, 242, rfl⟩
abbrev main_v14 : Ref sig .tc := ⟨.hbm, 243, rfl⟩
abbrev main_v15 : Ref sig .tc := ⟨.hbm, 244, rfl⟩
abbrev main_v16 : Ref sig .tc := ⟨.hbm, 245, rfl⟩
abbrev main_v17 : Ref sig .tc := ⟨.hbm, 246, rfl⟩

abbrev nD : Nat := 1
abbrev τ : Topo := Topo.v7x

variable {F : FTy → Type} [FloatOps F]

abbrev main_while0_count : Scf.Loop 32 := ⟨0#32, 128#32, 1#32⟩
-- ==== Proof.KernelIdealTrip.lean ====
module

public import proofs.«01_k».proof.Proof.Gen.KernelIdeal.Frame
public import proofs.«01_k».proof.Proof.Gen.KernelIdeal.Loops

@[expose] public section

set_option maxRecDepth 16384

noncomputable section

namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

section Trip
variable (c : Dev nD)
  (arg0 : Memref sig .tc .vmem S128x128x128 .f32) (harg0 : arg0.IsWhole) (arg1 : Memref sig .tc .vmem S128x128x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S384x256 .f32) (harg11 : arg11.IsWhole) (arg12 : Memref sig .tc .vmem S384x128 .f32) (harg12 : arg12.IsWhole) (arg13 : Memref sig .tc .vmem S384x1 .f32) (harg13 : arg13.IsWhole) (arg14 : Memref sig .tc .vmem S384x1 .f32) (harg14 : arg14.IsWhole) (arg15 : Memref sig .tc .vmem S128x128 .f32) (harg15 : arg15.IsWhole) (arg16 : Memref sig .tc .vmem S128x1 .f32) (harg16 : arg16.IsWhole) (arg17 : Memref sig .tc .vmem S128x128x128 .f32) (harg17 : arg17.IsWhole) (arg18 : Memref sig .tc .vmem S128x1x128 .f32) (harg18 : arg18.IsWhole) (arg19 : Memref sig .tc .vmem S128x1x128 .f32) (harg19 : arg19.IsWhole) (arg20 : Memref sig .tc .vmem S128x128x128 .f32) (harg20 : arg20.IsWhole) (arg21 : Memref sig .tc .vmem S128x128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S1x128 .f32) (harg26 : arg26.IsWhole)
  (v4 : Vec F S128x1 .f32) (v6 : FVec F S128x1 .f32) (v7 : Vec F S128x128 .f32) (v9 : FVec F S128x1 .f32) (v10 : Vec F S1x128 .f32) (v12 : FVec F S1x1 .f32) (v13 : Vec F S384x256 .f32) (v14 : Vec F S384x128 .f32) (v16 : FVec F S384x1 .f32) (v18 : FVec F S384x1 .f32) (v19 : Vec F S128x128 .f32) (v21 : FVec F S128x1 .f32) (v22 : IVec S128x128 32) (cst_38 : F .f32)
  (X1 : BufTy.Contents (Elt F) arg1.view.ty) (X20 : BufTy.Contents (Elt F) arg20.view.ty)
  (M : BufTy.Contents (Elt F) arg24.view.ty) (O : BufTy.Contents (Elt F) arg25.view.ty) (D : BufTy.Contents (Elt F) arg26.view.ty)

abbrev TripRes (f17 : BufTy.Contents (Elt F) arg17.view.ty) (f18 : BufTy.Contents (Elt F) arg18.view.ty) (f19 : BufTy.Contents (Elt F) arg19.view.ty)
    (f21 : BufTy.Contents (Elt F) arg21.view.ty) (f22 : BufTy.Contents (Elt F) arg22.view.ty) (f23 : BufTy.Contents (Elt F) arg23.view.ty)
    (f24 : BufTy.Contents (Elt F) arg24.view.ty) (f25 : BufTy.Contents (Elt F) arg25.view.ty) (f26 : BufTy.Contents (Elt F) arg26.view.ty) : sProp 𝕄 :=
  iprop((arg1.view.loc (c : Thread nD τ) ↦[arg1.view.set]{fullShare} X1) ∗ (arg20.view.loc (c : Thread nD τ) ↦[arg20.view.set]{fullShare} X20) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26))

@[irreducible] def trip (k : Fin k0_t2_loop.trips) (acc : FVec F S128x128 .f32) :
    Σ' (acc' : FVec F S128x128 .f32) (L17 : List (View.Piece (Elt F) S128x128x128 .f32)) (L18 : List (View.Piece (Elt F) S128x1x128 .f32)) (L19 : List (View.Piece (Elt F) S128x1x128 .f32)) (L21 : List (View.Piece (Elt F) S128x128x128 .f32)) (L22 : List (View.Piece (Elt F) S128x128 .f32)) (L23 : List (View.Piece (Elt F) S128x128 .f32)) (L24 : List (View.Piece (Elt F) S128x128 .f32)) (L25 : List (View.Piece (Elt F) S128x128 .f32)),
    { L26 : List (View.Piece (Elt F) S1x128 .f32) // ∀ f17 f18 f19 f21 f22 f23,
      TripRes (F := F) c arg1 arg17 arg18 arg19 arg20 arg21 arg22 arg23 arg24 arg25 arg26 X1 X20 f17 f18 f19 f21 f22 f23 M O D
      ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 k acc)
        (fun r => iprop(⌜r = acc'⌝ ∗ TripRes (F := F) c arg1 arg17 arg18 arg19 arg20 arg21 arg22 arg23 arg24 arg25 arg26 X1 X20
          (arg17.view.writes (Elt F) f17 L17) (arg18.view.writes (Elt F) f18 L18) (arg19.view.writes (Elt F) f19 L19) (arg21.view.writes (Elt F) f21 L21) (arg22.view.writes (Elt F) f22 L22) (arg23.view.writes (Elt F) f23 L23) (arg24.view.writes (Elt F) M L24) (arg25.view.writes (Elt F) O L25) (arg26.view.writes (Elt F) D L26))) } := by
  have hk : k.val < 128 := Nat.lt_of_lt_of_le k.isLt k0_t2_abs.2.1
  refine ⟨?_, ?_, ?_, ?_, ?_, ?_, ?_, ?_, ?_, ?_, fun f17 f18 f19 f21 f22 f23 => ?run⟩
  case run =>
    unfold k0_t2_body
    iintro ⟨H1, H20, H17, H18, H19, H21, H22, H23, H24, H25, H26⟩
    sl_exec_parts
    sl_step
    isplitr
    · ipureintro; rfl
    sl_close

/-- What the loop carries before a trip: the hidden state and the contents of the six buffers whose contents matter
    from one trip to the next or after the loop. -/
structure LoopSt where
  h : FVec F S128x128 .f32
  f17 : BufTy.Contents (Elt F) arg17.view.ty
  f18 : BufTy.Contents (Elt F) arg18.view.ty
  f19 : BufTy.Contents (Elt F) arg19.view.ty
  f24 : BufTy.Contents (Elt F) arg24.view.ty
  f25 : BufTy.Contents (Elt F) arg25.view.ty
  f26 : BufTy.Contents (Elt F) arg26.view.ty

/-- One trip's effect on that state: the trip's yield, and its pieces written over each buffer. -/
@[irreducible] def loopStep (k : ℕ) (s : LoopSt (F := F) arg17 arg18 arg19 arg24 arg25 arg26) : LoopSt (F := F) arg17 arg18 arg19 arg24 arg25 arg26 :=
  if hk : k < k0_t2_loop.trips then
    { h := (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 ⟨k, hk⟩ s.h).1
      f17 := arg17.view.writes (Elt F) s.f17 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 ⟨k, hk⟩ s.h).2.1
      f18 := arg18.view.writes (Elt F) s.f18 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 ⟨k, hk⟩ s.h).2.2.1
      f19 := arg19.view.writes (Elt F) s.f19 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 ⟨k, hk⟩ s.h).2.2.2.1
      f24 := arg24.view.writes (Elt F) s.f24 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 ⟨k, hk⟩ s.h).2.2.2.2.2.2.2.1
      f25 := arg25.view.writes (Elt F) s.f25 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 ⟨k, hk⟩ s.h).2.2.2.2.2.2.2.2.1
      f26 := arg26.view.writes (Elt F) s.f26 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 ⟨k, hk⟩ s.h).2.2.2.2.2.2.2.2.2.1 }
  else s

variable (h₀ : FVec F S128x128 .f32) (G17 : BufTy.Contents (Elt F) arg17.view.ty) (G18 : BufTy.Contents (Elt F) arg18.view.ty) (G19 : BufTy.Contents (Elt F) arg19.view.ty) (G24 : BufTy.Contents (Elt F) arg24.view.ty) (G25 : BufTy.Contents (Elt F) arg25.view.ty) (G26 : BufTy.Contents (Elt F) arg26.view.ty)

/-- The state before trip `k`, from the loop's entry. -/
def loopSt : ℕ → LoopSt (F := F) arg17 arg18 arg19 arg24 arg25 arg26
  | 0 => ⟨h₀, G17, G18, G19, G24, G25, G26⟩
  | k + 1 => loopStep (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 k (loopSt k)

theorem loopStep_pos (k : Fin k0_t2_loop.trips) (s : LoopSt (F := F) arg17 arg18 arg19 arg24 arg25 arg26) :
    loopStep (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 k.val s =
    { h := (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 k s.h).1
      f17 := arg17.view.writes (Elt F) s.f17 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 k s.h).2.1
      f18 := arg18.view.writes (Elt F) s.f18 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 k s.h).2.2.1
      f19 := arg19.view.writes (Elt F) s.f19 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 k s.h).2.2.2.1
      f24 := arg24.view.writes (Elt F) s.f24 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 k s.h).2.2.2.2.2.2.2.1
      f25 := arg25.view.writes (Elt F) s.f25 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 k s.h).2.2.2.2.2.2.2.2.1
      f26 := arg26.view.writes (Elt F) s.f26 (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 k s.h).2.2.2.2.2.2.2.2.2.1 } := by
  unfold loopStep; exact dif_pos k.isLt

/-- The loop's resources before a trip, at a state `s`. -/
abbrev LoopRes (s : LoopSt (F := F) arg17 arg18 arg19 arg24 arg25 arg26) : sProp 𝕄 :=
  iprop((arg1.view.loc (c : Thread nD τ) ↦[arg1.view.set]{fullShare} X1) ∗ (arg20.view.loc (c : Thread nD τ) ↦[arg20.view.set]{fullShare} X20) ∗ (arg17.view.loc (c : Thread nD τ) ↦[arg17.view.set]{fullShare} s.f17) ∗ (arg18.view.loc (c : Thread nD τ) ↦[arg18.view.set]{fullShare} s.f18) ∗ (arg19.view.loc (c : Thread nD τ) ↦[arg19.view.set]{fullShare} s.f19) ∗ (arg24.view.loc (c : Thread nD τ) ↦[arg24.view.set]{fullShare} s.f24) ∗ (arg25.view.loc (c : Thread nD τ) ↦[arg25.view.set]{fullShare} s.f25) ∗ (arg26.view.loc (c : Thread nD τ) ↦[arg26.view.set]{fullShare} s.f26) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))

set_option maxHeartbeats 1000000 in
/-- One trip from the state `s`. -/
theorem loop_trip (k : Fin k0_t2_loop.trips) (s : LoopSt (F := F) arg17 arg18 arg19 arg24 arg25 arg26) :
    LoopRes (F := F) c arg1 arg17 arg18 arg19 arg20 arg21 arg22 arg23 arg24 arg25 arg26 X1 X20 s
    ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 k s.h)
      (fun r => iprop(LoopRes (F := F) c arg1 arg17 arg18 arg19 arg20 arg21 arg22 arg23 arg24 arg25 arg26 X1 X20 (loopStep (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 k.val s) ∗ ⌜r = (loopStep (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 k.val s).h⌝)) := by
  rw [loopStep_pos]
  have T := (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 s.f24 s.f25 s.f26 k s.h).2.2.2.2.2.2.2.2.2.2
  iintro ⟨H1, H20, H17, H18, H19, H24, H25, H26, ⟨%f21, H21⟩, ⟨%f22, H22⟩, ⟨%f23, H23⟩⟩
  iapply (wp_wand_r Idealize.ShloMosaic.frame (wpE (defs₀ (F := F)) Variants.none (c : Thread nD τ) none) Set.univ)
  isplitr []
  · iapply (T s.f17 s.f18 s.f19 f21 f22 f23)
    isplitl [H1]; · iexact H1
    isplitl [H20]; · iexact H20
    isplitl [H17]; · iexact H17
    isplitl [H18]; · iexact H18
    isplitl [H19]; · iexact H19
    isplitl [H21]; · iexact H21
    isplitl [H22]; · iexact H22
    isplitl [H23]; · iexact H23
    isplitl [H24]; · iexact H24
    isplitl [H25]; · iexact H25
    iexact H26
  · iintro %r ⟨%hr, H1, H20, H17, H18, H19, H21, H22, H23, H24, H25, H26⟩
    isplitl
    · isplitl [H1]; · iexact H1
      isplitl [H20]; · iexact H20
      isplitl [H17]; · iexact H17
      isplitl [H18]; · iexact H18
      isplitl [H19]; · iexact H19
      isplitl [H24]; · iexact H24
      isplitl [H25]; · iexact H25
      isplitl [H26]; · iexact H26
      isplitl [H21]; · iexists _; iexact H21
      isplitl [H22]; · iexists _; iexact H22
      iexists _; iexact H23
    · ipureintro; exact hr

set_option warn.classDefReducibility false in
/-- The main loop's invariant: before trip `k` the carried value and the buffers are `loopSt k`'s. -/
@[sl_loop] def loopInv2 : LoopInvTy_k0_t2 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 h₀ where
  inv k acc := iprop(LoopRes (F := F) c arg1 arg17 arg18 arg19 arg20 arg21 arg22 arg23 arg24 arg25 arg26 X1 X20 (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 h₀ G17 G18 G19 G24 G25 G26 k) ∗ ⌜acc = (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 h₀ G17 G18 G19 G24 G25 G26 k).h⌝)
  step k acc := by
    iintro ⟨H, %hacc⟩
    subst hacc
    rw [loopSt]
    iapply (loop_trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 k (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 h₀ G17 G18 G19 G24 G25 G26 k.val))
    iexact H
end Trip
end Cert.Proof.KernelIdeal
-- ==== Proof.KernelIdealPure.lean ====
module

public import proofs.«01_k».proof.Proof.Gen.KernelIdeal.Frame
public import proofs.«01_k».proof.Proof.KernelIdealTrip
public import Idealize.ShloMosaic.Lib.PointwiseCore
public import Idealize.ShloMosaic.Lib.VecWindow

@[expose] public section

set_option maxRecDepth 16384

noncomputable section

namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The loop's loop-invariant values: the weights as the body reads them, the row iota and the −∞ it masks with. -/
structure Wts (F : FTy → Type) [FloatOps F] where
  v4 : Vec F S128x1 .f32
  v6 : FVec F S128x1 .f32
  v7 : Vec F S128x128 .f32
  v9 : FVec F S128x1 .f32
  v10 : Vec F S1x128 .f32
  v12 : FVec F S1x1 .f32
  v13 : Vec F S384x256 .f32
  v14 : Vec F S384x128 .f32
  v16 : FVec F S384x1 .f32
  v18 : FVec F S384x1 .f32
  v19 : Vec F S128x128 .f32
  v21 : FVec F S128x1 .f32
  v22 : IVec S128x128 32
  cst_38 : F .f32

/-- The `n` first of 128 things, the last first. -/
def rowsL {α : Type*} (p : Fin 128 → α) : (n : ℕ) → n ≤ 128 → List α
  | 0, _ => []
  | n + 1, h => p ⟨n, h⟩ :: rowsL p n (Nat.le_of_succ_le h)

theorem mem_rowsL {α : Type*} (p : Fin 128 → α) : ∀ (n : ℕ) (h : n ≤ 128) (x : α), x ∈ rowsL p n h → ∃ b, x = p b
  | 0, _, x, hx => absurd hx List.not_mem_nil
  | n + 1, h, x, hx => by
    rcases List.mem_cons.mp hx with rfl | hx
    · exact ⟨_, rfl⟩
    · exact mem_rowsL p n _ x hx

theorem rowsL_mem {α : Type*} (p : Fin 128 → α) : ∀ (n : ℕ) (h : n ≤ 128) (b : Fin 128), b.val < n → p b ∈ rowsL p n h
  | n + 1, h, b, hb => by
    rcases Nat.lt_succ_iff_lt_or_eq.mp hb with hb | hb
    · exact List.mem_cons_of_mem _ (rowsL_mem p n _ b hb)
    · exact List.mem_cons.mpr (Or.inl (by congr 1; exact Fin.ext hb))

theorem inbRow (s : Fin 128) : ∀ a, (![s.val, 0] : Fin 2 → ℕ) a + S1x128.size a ≤ S128x128.size a := fun a =>
  match a with
  | ⟨0, _⟩ => s.isLt
  | ⟨1, _⟩ => le_refl _

theorem inbRow3 (s : Fin 128) : ∀ a, (![s.val, 0, 0] : Fin 3 → ℕ) a + S1x128x128.size a ≤ S128x128x128.size a := fun a =>
  match a with
  | ⟨0, _⟩ => s.isLt
  | ⟨1, _⟩ => le_refl _
  | ⟨2, _⟩ => le_refl _

/-- Row `s` of a stack of planes. -/
def rowAt (e : Vec F S128x128x128 .f32) (s : Fin 128) : Vec F S1x128x128 .f32 := fun x => e (ix3 s (x 1) (x 2))

theorem slRow (b : Fin 128) : S128x128.Slices ![b.val, 0] S1x128 := ⟨rfl, fun a =>
  match a with
  | ⟨0, _⟩ => b.isLt
  | ⟨1, _⟩ => le_refl _⟩

/-- The context's row `b`: row `b` of the transposed weights times the batch's keys. -/
def ctxRow (wT : FVec F S128x128 .f32) (b : Fin 128) (r : Vec F S1x128x128 .f32) : FVec F S1x128 .f32 :=
  shapeCast S1x128 (matmul dot_S1x128_S128x128_S1x128_1_0_0_1_n_n none (extractStridedSlice S1x128 ![b.val, 0] wT (slRow b))
    (shapeCast S128x128 r shapeCasts_S1x128x128_S128x128) (constant S1x128 .f32 0x00000000#32)) shapeCasts_S1x128_S1x128

/-- The attention weights of the scores. -/
def smaxV (sc : Vec F S128x128 .f32) : FVec F S128x128 .f32 :=
  k0_pay181 (k0_pay170 sc) (k0_pay172 (k0_pay170 sc) (k0_pay171 sc)) (k0_pay173 (k0_pay170 sc)) (k0_pay175 (k0_pay170 sc) (k0_pay174 (k0_pay170 sc)))
    (k0_pay176 (k0_pay170 sc)) (k0_pay178 (k0_pay170 sc) (k0_pay177 (k0_pay170 sc))) (k0_pay179 (k0_pay170 sc)) (k0_pay180 (k0_pay170 sc))

/-- The scores of the energies `e`. -/
def scV (w : Wts F) (e : Vec F S128x128x128 .f32) : Vec F S128x128 .f32 := fun y => k0_pay10 w.v10 w.v12 (rowAt e (y 0)) (ix2 0 (y 1))

/-- The context of the attention weights over the encoder's outputs. -/
def ctxV (a : FVec F S128x128 .f32) (E : Vec F S128x128x128 .f32) : Vec F S128x128 .f32 := fun y => ctxRow (k0_pay183 a) (y 0) (rowAt E (y 0)) (ix2 0 (y 1))

/-- What the loop carries, as vectors: the hidden state, the mask, the chosen one-hot and the decoder's input. -/
structure PSt (F : FTy → Type) [FloatOps F] where
  h : FVec F S128x128 .f32
  m : Vec F S128x128 .f32
  o : Vec F S128x128 .f32
  d : Vec F S1x128 .f32

section Step
variable (w : Wts F) (E K : Vec F S128x128x128 .f32) (k : ℕ) (s : PSt F)

def attP : FVec F S128x128 .f32 := smaxV (scV w (k0_pay9 w.v7 w.v9 s.h K))
def ctxP : Vec F S128x128 .f32 := ctxV (attP w K s) E
def embP : FVec F S128x128 .f32 := k0_pay8 w.v4 w.v6 s.d
def hP : FVec F S128x128 .f32 := k0_pay341 w.v13 w.v14 w.v16 w.v18 s.h (embP w s) (ctxP w E K s)
def lgP : FVec F S128x128 .f32 := k0_pay342 w.v13 w.v14 w.v16 w.v18 w.v19 w.v21 s.h (embP w s) (ctxP w E K s)
def decP : FVec F S1x128 .f32 := k0_pay343 w.v13 w.v14 w.v16 w.v18 w.v19 w.v21 w.v22 s.h (embP w s) (ctxP w E K s)
def nmP : FVec F S128x128 .f32 := k0_pay344 w.cst_38 s.m s.o
def firstP (k : ℕ) : BitVec 1 := Scalar.cmpi CmpIPredicate.eq (Scf.iv 0#32 1#32 k) 0#32
def idxP : IVec S1x128 32 := k0_pay351 w.v22 w.cst_38 (lgP w E K s) (nmP w s) (firstP k) (k0_pay345 w.v22) k0_pay346 (k0_pay347 w.cst_38)
def ohP : FVec F S128x128 .f32 := k0_pay352 w.v22 w.cst_38 (lgP w E K s) (nmP w s) (firstP k) (k0_pay345 w.v22) k0_pay346 (k0_pay347 w.cst_38)
def exP : FVec F S128x128 .f32 := k0_pay353 w.cst_38 (lgP w E K s) (nmP w s) (firstP k) (k0_pay345 w.v22) k0_pay346 (k0_pay347 w.cst_38)
def lpP : FVec F S1x1x128 .f32 :=
  k0_pay367 (exP w E K k s) (k0_pay354 w.cst_38 (lgP w E K s) (nmP w s) (firstP k) (k0_pay345 w.v22) k0_pay346 (k0_pay347 w.cst_38))
    (k0_pay356 (exP w E K k s) (k0_pay355 w.cst_38 (lgP w E K s) (nmP w s) (firstP k) (k0_pay345 w.v22) k0_pay346 (k0_pay347 w.cst_38)))
    (k0_pay357 (exP w E K k s)) (k0_pay359 (exP w E K k s) (k0_pay358 (exP w E K k s)))
    (k0_pay362 (k0_pay360 (exP w E K k s)) (k0_pay361 (exP w E K k s))) (k0_pay363 (exP w E K k s)) (k0_pay364 (exP w E K k s)) (k0_pay365 (exP w E K k s))
def mP : Vec F S128x128 .f32 := k0_pay349 s.m (nmP w s) (firstP k)

/-- One step of the decoder, as vectors. -/
def stepP : PSt F := ⟨hP w E K s, k0_pay5 (mP w k s), k0_pay6 (ohP w E K k s), k0_pay7 (decP w E K s)⟩
end Step

section TripEqs
variable (w : Wts F) (c : Dev nD)
  (arg0 : Memref sig .tc .vmem S128x128x128 .f32) (harg0 : arg0.IsWhole) (arg1 : Memref sig .tc .vmem S128x128x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S384x256 .f32) (harg11 : arg11.IsWhole) (arg12 : Memref sig .tc .vmem S384x128 .f32) (harg12 : arg12.IsWhole) (arg13 : Memref sig .tc .vmem S384x1 .f32) (harg13 : arg13.IsWhole) (arg14 : Memref sig .tc .vmem S384x1 .f32) (harg14 : arg14.IsWhole) (arg15 : Memref sig .tc .vmem S128x128 .f32) (harg15 : arg15.IsWhole) (arg16 : Memref sig .tc .vmem S128x1 .f32) (harg16 : arg16.IsWhole) (arg17 : Memref sig .tc .vmem S128x128x128 .f32) (harg17 : arg17.IsWhole) (arg18 : Memref sig .tc .vmem S128x1x128 .f32) (harg18 : arg18.IsWhole) (arg19 : Memref sig .tc .vmem S128x1x128 .f32) (harg19 : arg19.IsWhole) (arg20 : Memref sig .tc .vmem S128x128x128 .f32) (harg20 : arg20.IsWhole) (arg21 : Memref sig .tc .vmem S128x128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S1x128 .f32) (harg26 : arg26.IsWhole)
  (X1 : BufTy.Contents (Elt F) arg1.view.ty) (X20 : BufTy.Contents (Elt F) arg20.view.ty)
  (M : BufTy.Contents (Elt F) arg24.view.ty) (O : BufTy.Contents (Elt F) arg25.view.ty) (D : BufTy.Contents (Elt F) arg26.view.ty)
  (k : Fin k0_t2_loop.trips) (acc : FVec F S128x128 .f32)

/-- The energies' one piece. -/
def ePc (K : Vec F S128x128x128 .f32) : View.Piece (Elt F) S128x128x128 .f32 :=
  ⟨Rect.unit ![0, 0, 0] S128x128x128.size inb_S128x128x128_S128x128x128_0_0_0, k0_pay9 w.v7 w.v9 acc K⟩

/-- The scores' piece of row `s`. -/
def scPc (K : Vec F S128x128x128 .f32) (s : Fin 128) : View.Piece (Elt F) S128x128 .f32 :=
  ⟨Rect.unit ![s.val, 0] S1x128.size (inbRow s), k0_pay10 w.v10 w.v12 (arg21.view.readCov [ePc w acc K] (Rect.unit (s := S128x128x128) ![s.val, 0, 0] S1x128x128.size (inbRow3 s)).toLoadRect)⟩

/-- The context's piece of row `b`. -/
def ctPc (a : FVec F S128x128 .f32) (b : Fin 128) : View.Piece (Elt F) S128x128 .f32 :=
  ⟨Rect.unit ![b.val, 0] S1x128.size (inbRow b), ctxRow (k0_pay183 a) b (arg1.view.readAt (Elt F) (Rect.unit (s := S128x128x128) ![b.val, 0, 0] S1x128x128.size (inbRow3 b)).toLoadRect X1)⟩

abbrev rdK : Vec F S128x128x128 .f32 := arg20.view.readAt (Elt F) (Rect.unit ![0, 0, 0] S128x128x128.size inb_S128x128x128_S128x128x128_0_0_0).toLoadRect X20

/-- The attention weights as the trip holds them. -/
def attT (K : Vec F S128x128x128 .f32) : FVec F S128x128 .f32 := smaxV (arg22.view.readCov (rowsL (scPc w arg21 acc K) 128 (le_refl _)) (Rect.unit ![0, 0] S128x128.size inb_S128x128_S128x128_0_0).toLoadRect)

/-- The context as the trip holds it. -/
def ctxT (a : FVec F S128x128 .f32) : Vec F S128x128 .f32 := arg23.view.readCov (rowsL (ctPc arg1 X1 a) 128 (le_refl _)) (Rect.unit ![0, 0] S128x128.size inb_S128x128_S128x128_0_0).toLoadRect
abbrev rdM : Vec F S128x128 .f32 := arg24.view.readAt (Elt F) (Rect.unit ![0, 0] S128x128.size inb_S128x128_S128x128_0_0).toLoadRect M
abbrev rdO : Vec F S128x128 .f32 := arg25.view.readAt (Elt F) (Rect.unit ![0, 0] S128x128.size inb_S128x128_S128x128_0_0).toLoadRect O
abbrev rdD : Vec F S1x128 .f32 := arg26.view.readAt (Elt F) (Rect.unit ![0, 0] S1x128.size inb_S1x128_S1x128_0_0).toLoadRect D

theorem sc_list : trip.sl.H22_128 (F := F) arg20 arg21 w.v7 w.v9 w.v10 w.v12 X20 acc = rowsL (scPc w arg21 acc (rdK arg20 X20)) 128 (le_refl _) := rfl

theorem att_trip : trip.sl.r_46 (F := F) arg20 arg21 arg22 w.v7 w.v9 w.v10 w.v12 X20 acc = attT w arg21 arg22 acc (rdK arg20 X20) := by
  unfold attT
  rw [← sc_list]
  rfl

theorem ct_list : trip.sl.H23_128 (F := F) arg1 arg20 arg21 arg22 w.v7 w.v9 w.v10 w.v12 X1 X20 acc
    = rowsL (ctPc arg1 X1 (trip.sl.r_46 (F := F) arg20 arg21 arg22 w.v7 w.v9 w.v10 w.v12 X20 acc)) 128 (le_refl _) := rfl

/-- What a view of 128 rows reads, each row stored once. -/
theorem read_rows (v : View sig .tc .vmem S128x128 .f32) (f : v.ty.Contents (Elt F)) (g : Fin 128 → S1x128.Idx → Elt F .f32) (y : S128x128.Idx) :
    v.read (Elt F) (v.writes (Elt F) f (rowsL (fun b => ⟨Rect.unit (s := S128x128) ![b.val, 0] S1x128.size (inbRow b), g b⟩) 128 (le_refl _))) y = g (y 0) (ix2 0 (y 1)) := by
  refine View.read_writes_apply_of_pieces v f (fun y => g (y 0) (ix2 0 (y 1))) _ (fun p hp x => ?_) y ?_
  · obtain ⟨b, rfl⟩ := mem_rowsL _ _ _ _ hp
    have h0 : (x 0).val = 0 := Nat.lt_one_iff.mp (x 0).isLt
    have e0 : ((Rect.unit (s := S128x128) ![b.val, 0] S1x128.size (inbRow b)).emb x) 0 = b := Fin.ext (by
      show b.val + 1 * (x 0).val = b.val; omega)
    have e1 : (ix2 0 (((Rect.unit (s := S128x128) ![b.val, 0] S1x128.size (inbRow b)).emb x) 1) : S1x128.Idx) = x := funext fun a => by
      match a with
      | ⟨0, _⟩ => exact Fin.ext h0.symm
      | ⟨1, _⟩ => exact Fin.ext (by show 0 + 1 * (x 1).val = (x 1).val; omega)
    show g b x = g _ _
    rw [e1, e0]
  · refine ⟨_, rowsL_mem _ 128 (le_refl _) (y 0) (y 0).isLt, ?_⟩
    exact (Rect.mem_set_unit (s := S128x128) (inb := inbRow (y 0))).mpr fun a => by
      match a with
      | ⟨0, _⟩ => exact ⟨le_refl _, Nat.lt_succ_self _⟩
      | ⟨1, _⟩ => exact ⟨Nat.zero_le _, by show (y 1).val < 0 + 128; have : (y 1).val < 128 := (y 1).isLt; omega⟩

/-- A plane loaded from a stack. -/
theorem readAt_row (v : View sig .tc .vmem S128x128x128 .f32) (f : v.ty.Contents (Elt F)) (s : Fin 128) :
    v.readAt (Elt F) (Rect.unit (s := S128x128x128) ![s.val, 0, 0] S1x128x128.size (inbRow3 s)).toLoadRect f = rowAt (v.read (Elt F) f) s := funext fun x => by
  show v.read (Elt F) f ((Rect.unit (s := S128x128x128) ![s.val, 0, 0] S1x128x128.size (inbRow3 s)).emb x) = v.read (Elt F) f _
  congr 1
  have h0 : (x 0).val = 0 := Nat.lt_one_iff.mp (x 0).isLt
  refine Rect.emb_eq_of_coords _ _ _ fun a => ?_
  match a with
  | ⟨0, _⟩ => show s.val = s.val + 1 * (x 0).val; omega
  | ⟨1, _⟩ => show (x 1).val = 0 + 1 * (x 1).val; omega
  | ⟨2, _⟩ => show (x 2).val = 0 + 1 * (x 2).val; omega

theorem attT_eq (K : Vec F S128x128x128 .f32) : attT w arg21 arg22 acc K = smaxV (scV w (k0_pay9 w.v7 w.v9 acc K)) := by
  unfold attT
  congr 1
  unfold View.readCov
  rw [View.readAt_full]
  funext y
  refine (read_rows arg22.view _ _ y).trans ?_
  refine congrArg (fun e => k0_pay10 w.v10 w.v12 e (ix2 0 (y 1))) ?_
  refine (readAt_row arg21.view _ (y 0)).trans ?_
  unfold ePc
  rw [View.read_writes_full]

theorem ctxT_eq (a : FVec F S128x128 .f32) : ctxT arg1 arg23 X1 a = ctxV a (arg1.view.read (Elt F) X1) := by
  unfold ctxT View.readCov
  rw [View.readAt_full]
  funext y
  refine (read_rows arg23.view _ _ y).trans ?_
  exact congrArg (fun e => ctxRow (k0_pay183 a) (y 0) e (ix2 0 (y 1))) (readAt_row arg1.view X1 (y 0))

/-- The carried vectors a trip starts from. -/
abbrev inP : PSt F := ⟨acc, arg24.view.read (Elt F) M, arg25.view.read (Elt F) O, arg26.view.read (Elt F) D⟩
/-- The same, as the trip loads them. -/
abbrev inT : PSt F := ⟨acc, rdM arg24 M, rdO arg25 O, rdD arg26 D⟩

theorem inT_eq : inT arg24 arg25 arg26 M O D acc = inP arg24 arg25 arg26 M O D acc := by
  unfold inT inP rdM rdO rdD
  rw [View.readAt_full, View.readAt_full, View.readAt_full]

theorem att_eq : trip.sl.r_46 (F := F) arg20 arg21 arg22 w.v7 w.v9 w.v10 w.v12 X20 acc = attP w (arg20.view.read (Elt F) X20) (inT arg24 arg25 arg26 M O D acc) := by
  rw [att_trip, attT_eq, rdK, View.readAt_full]
  rfl

theorem ctx_eq : trip.sl.v2248 (F := F) arg1 arg20 arg21 arg22 arg23 w.v7 w.v9 w.v10 w.v12 X1 X20 acc
    = ctxP w (arg1.view.read (Elt F) X1) (arg20.view.read (Elt F) X20) (inT arg24 arg25 arg26 M O D acc) := by
  refine Eq.trans ?_ (ctxT_eq arg1 arg23 X1 _)
  rw [← att_eq w arg20 arg21 arg22 arg24 arg25 arg26]
  unfold ctxT
  rw [← ct_list]
  rfl

section Tr

theorem trip_h : ((trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 M O D k acc)).1 = hP w (arg1.view.read (Elt F) X1) (arg20.view.read (Elt F) X20) (inP (F := F) arg24 arg25 arg26 M O D acc) := by
  rw [← inT_eq arg24 arg25 arg26 M O D acc]
  unfold hP
  rw [← ctx_eq w arg1 arg20 arg21 arg22 arg23]
  unfold trip
  rfl

theorem trip_17 : ((trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 M O D k acc)).2.1 = [⟨Rect.unit (s := S128x128x128) (k0_off2 k) S1x128x128.size (k0_off2_inb k), k0_pay182 (attP w (arg20.view.read (Elt F) X20) (inP (F := F) arg24 arg25 arg26 M O D acc))⟩] := by
  rw [← inT_eq arg24 arg25 arg26 M O D acc, ← att_eq w arg20 arg21 arg22]
  unfold trip
  rfl

theorem trip_18 : ((trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 M O D k acc)).2.2.1 = [⟨Rect.unit (s := S128x1x128) (k0_off3 k) S1x1x128.size (k0_off3_inb k), k0_pay366 (idxP w (arg1.view.read (Elt F) X1) (arg20.view.read (Elt F) X20) k.val (inP (F := F) arg24 arg25 arg26 M O D acc))⟩] := by
  rw [← inT_eq arg24 arg25 arg26 M O D acc]
  unfold idxP lgP
  rw [← ctx_eq w arg1 arg20 arg21 arg22 arg23]
  unfold trip
  rfl

theorem trip_19 : ((trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 M O D k acc)).2.2.2.1 = [⟨Rect.unit (s := S128x1x128) (k0_off3 k) S1x1x128.size (k0_off3_inb k), lpP w (arg1.view.read (Elt F) X1) (arg20.view.read (Elt F) X20) k.val (inP (F := F) arg24 arg25 arg26 M O D acc)⟩] := by
  rw [← inT_eq arg24 arg25 arg26 M O D acc]
  unfold lpP exP lgP
  rw [← ctx_eq w arg1 arg20 arg21 arg22 arg23]
  unfold trip
  rfl

theorem trip_24' (s : PSt F) (hs : inT (F := F) arg24 arg25 arg26 M O D acc = s) : ((trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 M O D k acc)).2.2.2.2.2.2.2.1 = [⟨Rect.unit (s := S128x128) ![0, 0] S128x128.size inb_S128x128_S128x128_0_0, k0_pay5 (mP w k.val s)⟩] := by
  subst hs
  unfold trip
  rfl

theorem oh_eq (s : PSt F) (hs : inT (F := F) arg24 arg25 arg26 M O D acc = s) : trip.sl.r_91 (F := F) arg1 arg20 arg21 arg22 arg23 arg24 arg25 arg26 w.v4 w.v6 w.v7 w.v9 w.v10 w.v12 w.v13 w.v14 w.v16 w.v18 w.v19 w.v21 w.v22 w.cst_38 X1 X20 M O D k acc = ohP w (arg1.view.read (Elt F) X1) (arg20.view.read (Elt F) X20) k.val s := by
  subst hs
  unfold ohP lgP
  rw [← ctx_eq w arg1 arg20 arg21 arg22 arg23]
  rfl

theorem dec_eq (s : PSt F) (hs : inT (F := F) arg24 arg25 arg26 M O D acc = s) : trip.sl.r_87 (F := F) arg1 arg20 arg21 arg22 arg23 arg26 w.v4 w.v6 w.v7 w.v9 w.v10 w.v12 w.v13 w.v14 w.v16 w.v18 w.v19 w.v21 w.v22 X1 X20 D acc = decP w (arg1.view.read (Elt F) X1) (arg20.view.read (Elt F) X20) s := by
  subst hs
  unfold decP
  rw [← ctx_eq w arg1 arg20 arg21 arg22 arg23]
  rfl

theorem trip_25' (s : PSt F) (hs : inT (F := F) arg24 arg25 arg26 M O D acc = s) : ((trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 M O D k acc)).2.2.2.2.2.2.2.2.1 = [⟨Rect.unit (s := S128x128) ![0, 0] S128x128.size inb_S128x128_S128x128_0_0, k0_pay6 (ohP w (arg1.view.read (Elt F) X1) (arg20.view.read (Elt F) X20) k.val s)⟩] := by
  unfold trip
  exact congrArg (fun x : FVec F S128x128 .f32 => ([⟨Rect.unit (s := S128x128) ![0, 0] S128x128.size inb_S128x128_S128x128_0_0, k0_pay6 x⟩] : List (View.Piece (Elt F) S128x128 .f32)))
    (oh_eq w arg1 arg20 arg21 arg22 arg23 arg24 arg25 arg26 X1 X20 M O D k acc s hs)

theorem trip_26' (s : PSt F) (hs : inT (F := F) arg24 arg25 arg26 M O D acc = s) : ((trip (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 M O D k acc)).2.2.2.2.2.2.2.2.2.1 = [⟨Rect.unit (s := S1x128) ![0, 0] S1x128.size inb_S1x128_S1x128_0_0, k0_pay7 (decP w (arg1.view.read (Elt F) X1) (arg20.view.read (Elt F) X20) s)⟩] := by
  unfold trip
  exact congrArg (fun x : FVec F S1x128 .f32 => ([⟨Rect.unit (s := S1x128) ![0, 0] S1x128.size inb_S1x128_S1x128_0_0, k0_pay7 x⟩] : List (View.Piece (Elt F) S1x128 .f32)))
    (dec_eq w arg1 arg20 arg21 arg22 arg23 arg24 arg25 arg26 X1 X20 M O D acc s hs)
end Tr
end TripEqs
end Cert.Proof.KernelIdeal
-- ==== Proof.KernelIdealLoop.lean ====
module

public import proofs.«01_k».proof.Proof.Gen.KernelIdeal.Frame
public import proofs.«01_k».proof.Proof.KernelIdealPure

@[expose] public section

set_option maxRecDepth 16384

noncomputable section

namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem trips_eq : k0_t2_loop.trips = 128 := by decide +kernel

/-- What a stack of 128 planes reads after a store of plane `k`. -/
theorem read_row3 (v : View sig .tc .vmem S128x128x128 .f32) (f : v.ty.Contents (Elt F)) (off : Fin 3 → ℕ) (k : Fin 128) (h : off = ![k.val, 0, 0])
    (inb : ∀ a, off a + S1x128x128.size a ≤ S128x128x128.size a) (p : FVec F S1x128x128 .f32) (j : Fin 128) (a : Fin 128) (b : Fin 128) :
    v.read (Elt F) (v.writes (Elt F) f [⟨Rect.unit (s := S128x128x128) off S1x128x128.size inb, p⟩]) (ix3 j a b)
      = if j = k then p (ix3 0 a b) else v.read (Elt F) f (ix3 j a b) := by
  subst h
  by_cases e : j = k
  · subst e
    rw [if_pos rfl]
    have e : (Rect.unit (s := S128x128x128) ![j.val, 0, 0] S1x128x128.size inb).emb (ix3 0 a b) = ix3 j a b :=
      Rect.emb_eq_of_coords _ _ _ fun i => by
        match i with
        | ⟨0, _⟩ => rfl
        | ⟨1, _⟩ => show a.val = 0 + 1 * a.val; omega
        | ⟨2, _⟩ => show b.val = 0 + 1 * b.val; omega
    rw [← e]
    exact View.read_writes_cons_emb v f _ _ _ _
  · rw [if_neg e]
    refine View.read_writes_apply_of_forall_not_mem v f _ _ fun q hq => ?_
    obtain rfl := List.mem_singleton.mp hq
    refine Rect.not_mem_set_of_axis _ _ 0 k.val 1 rfl rfl rfl ?_
    have : j.val ≠ k.val := fun h => e (Fin.ext h)
    show j.val < k.val ∨ k.val + 1 ≤ j.val
    omega

theorem read_row1 (v : View sig .tc .vmem S128x1x128 .f32) (f : v.ty.Contents (Elt F)) (off : Fin 3 → ℕ) (k : Fin 128) (h : off = ![k.val, 0, 0])
    (inb : ∀ a, off a + S1x1x128.size a ≤ S128x1x128.size a) (p : FVec F S1x1x128 .f32) (j : Fin 128) (a : Fin 1) (b : Fin 128) :
    v.read (Elt F) (v.writes (Elt F) f [⟨Rect.unit (s := S128x1x128) off S1x1x128.size inb, p⟩]) (ix3 j a b)
      = if j = k then p (ix3 0 a b) else v.read (Elt F) f (ix3 j a b) := by
  subst h
  by_cases e : j = k
  · subst e
    rw [if_pos rfl]
    have e : (Rect.unit (s := S128x1x128) ![j.val, 0, 0] S1x1x128.size inb).emb (ix3 0 a b) = ix3 j a b :=
      Rect.emb_eq_of_coords _ _ _ fun i => by
        match i with
        | ⟨0, _⟩ => rfl
        | ⟨1, _⟩ => show a.val = 0 + 1 * a.val; omega
        | ⟨2, _⟩ => show b.val = 0 + 1 * b.val; omega
    rw [← e]
    exact View.read_writes_cons_emb v f _ _ _ _
  · rw [if_neg e]
    refine View.read_writes_apply_of_forall_not_mem v f _ _ fun q hq => ?_
    obtain rfl := List.mem_singleton.mp hq
    refine Rect.not_mem_set_of_axis _ _ 0 k.val 1 rfl rfl rfl ?_
    have : j.val ≠ k.val := fun h => e (Fin.ext h)
    show j.val < k.val ∨ k.val + 1 ≤ j.val
    omega

theorem pst_congr {h h' : FVec F S128x128 .f32} {m m' o o' : Vec F S128x128 .f32} {d d' : Vec F S1x128 .f32} (eh : h = h') (em : m = m') (eo : o = o') (ed : d = d') :
    (⟨h, m, o, d⟩ : PSt F) = ⟨h', m', o', d'⟩ := by subst eh em eo ed; rfl

/-- The state before step `k`, from `s`. -/
def stP (w : Wts F) (E K : Vec F S128x128x128 .f32) (s : PSt F) : ℕ → PSt F
  | 0 => s
  | k + 1 => stepP w E K k (stP w E K s k)

section Loop
variable (w : Wts F) (c : Dev nD)
  (arg0 : Memref sig .tc .vmem S128x128x128 .f32) (harg0 : arg0.IsWhole) (arg1 : Memref sig .tc .vmem S128x128x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S384x256 .f32) (harg11 : arg11.IsWhole) (arg12 : Memref sig .tc .vmem S384x128 .f32) (harg12 : arg12.IsWhole) (arg13 : Memref sig .tc .vmem S384x1 .f32) (harg13 : arg13.IsWhole) (arg14 : Memref sig .tc .vmem S384x1 .f32) (harg14 : arg14.IsWhole) (arg15 : Memref sig .tc .vmem S128x128 .f32) (harg15 : arg15.IsWhole) (arg16 : Memref sig .tc .vmem S128x1 .f32) (harg16 : arg16.IsWhole) (arg17 : Memref sig .tc .vmem S128x128x128 .f32) (harg17 : arg17.IsWhole) (arg18 : Memref sig .tc .vmem S128x1x128 .f32) (harg18 : arg18.IsWhole) (arg19 : Memref sig .tc .vmem S128x1x128 .f32) (harg19 : arg19.IsWhole) (arg20 : Memref sig .tc .vmem S128x128x128 .f32) (harg20 : arg20.IsWhole) (arg21 : Memref sig .tc .vmem S128x128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S1x128 .f32) (harg26 : arg26.IsWhole)
  (X1 : BufTy.Contents (Elt F) arg1.view.ty) (X20 : BufTy.Contents (Elt F) arg20.view.ty)

/-- The carried vectors of a loop state. -/
def absSt (s : LoopSt (F := F) arg17 arg18 arg19 arg24 arg25 arg26) : PSt F :=
  ⟨s.h, arg24.view.read (Elt F) s.f24, arg25.view.read (Elt F) s.f25, arg26.view.read (Elt F) s.f26⟩

set_option maxHeartbeats 1000000 in
theorem loopStep_abs (k : Fin k0_t2_loop.trips) (s : LoopSt (F := F) arg17 arg18 arg19 arg24 arg25 arg26) :
    (absSt (F := F) arg17 arg18 arg19 arg24 arg25 arg26) (loopStep (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 k.val s) = stepP w (arg1.view.read (Elt F) X1) (arg20.view.read (Elt F) X20) k.val ((absSt (F := F) arg17 arg18 arg19 arg24 arg25 arg26) s) := by
  rw [loopStep_pos]
  have hs := inT_eq (F := F) arg24 arg25 arg26 s.f24 s.f25 s.f26 s.h
  have e1 : _ = hP w (arg1.view.read (Elt F) X1) (arg20.view.read (Elt F) X20) ((absSt (F := F) arg17 arg18 arg19 arg24 arg25 arg26) s) := trip_h w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 s.f24 s.f25 s.f26 k s.h
  have e4 : arg24.view.read (Elt F) (arg24.view.writes (Elt F) s.f24 _) = k0_pay5 (mP w k.val ((absSt (F := F) arg17 arg18 arg19 arg24 arg25 arg26) s)) :=
    (congrArg (fun L => arg24.view.read (Elt F) (arg24.view.writes (Elt F) s.f24 L)) (trip_24' w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 s.f24 s.f25 s.f26 k s.h _ hs)).trans (View.read_writes_full _ _ _ _ _)
  have e5 : arg25.view.read (Elt F) (arg25.view.writes (Elt F) s.f25 _) = k0_pay6 (ohP w (arg1.view.read (Elt F) X1) (arg20.view.read (Elt F) X20) k.val ((absSt (F := F) arg17 arg18 arg19 arg24 arg25 arg26) s)) :=
    (congrArg (fun L => arg25.view.read (Elt F) (arg25.view.writes (Elt F) s.f25 L)) (trip_25' w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 s.f24 s.f25 s.f26 k s.h _ hs)).trans (View.read_writes_full _ _ _ _ _)
  have e6 : arg26.view.read (Elt F) (arg26.view.writes (Elt F) s.f26 _) = k0_pay7 (decP w (arg1.view.read (Elt F) X1) (arg20.view.read (Elt F) X20) ((absSt (F := F) arg17 arg18 arg19 arg24 arg25 arg26) s)) :=
    (congrArg (fun L => arg26.view.read (Elt F) (arg26.view.writes (Elt F) s.f26 L)) (trip_26' w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 s.f24 s.f25 s.f26 k s.h _ hs)).trans (View.read_writes_full _ _ _ _ _)
  exact pst_congr e1 e4 e5 e6

theorem loopStep_17 (k : Fin k0_t2_loop.trips) (s : LoopSt (F := F) arg17 arg18 arg19 arg24 arg25 arg26) (j a b : Fin 128) :
    arg17.view.read (Elt F) (loopStep (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 k.val s).f17 (ix3 j a b)
      = if j = ⟨k.val, k.isLt.trans_eq trips_eq⟩ then k0_pay182 (attP w (arg20.view.read (Elt F) X20) ((absSt (F := F) arg17 arg18 arg19 arg24 arg25 arg26) s)) (ix3 0 a b) else arg17.view.read (Elt F) s.f17 (ix3 j a b) := by
  rw [loopStep_pos]
  have e := trip_17 w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 s.f24 s.f25 s.f26 k s.h
  dsimp only
  rw [e]
  exact read_row3 arg17.view s.f17 _ ⟨k.val, k.isLt.trans_eq trips_eq⟩ (k0_off2_eq k) _ _ j a b

theorem loopStep_18 (k : Fin k0_t2_loop.trips) (s : LoopSt (F := F) arg17 arg18 arg19 arg24 arg25 arg26) (j : Fin 128) (a : Fin 1) (b : Fin 128) :
    arg18.view.read (Elt F) (loopStep (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 k.val s).f18 (ix3 j a b)
      = if j = ⟨k.val, k.isLt.trans_eq trips_eq⟩ then k0_pay366 (idxP w (arg1.view.read (Elt F) X1) (arg20.view.read (Elt F) X20) k.val ((absSt (F := F) arg17 arg18 arg19 arg24 arg25 arg26) s)) (ix3 0 a b) else arg18.view.read (Elt F) s.f18 (ix3 j a b) := by
  rw [loopStep_pos]
  have e := trip_18 w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 s.f24 s.f25 s.f26 k s.h
  dsimp only
  rw [e]
  exact read_row1 arg18.view s.f18 _ ⟨k.val, k.isLt.trans_eq trips_eq⟩ (k0_off3_eq k) _ _ j a b

theorem loopStep_19 (k : Fin k0_t2_loop.trips) (s : LoopSt (F := F) arg17 arg18 arg19 arg24 arg25 arg26) (j : Fin 128) (a : Fin 1) (b : Fin 128) :
    arg19.view.read (Elt F) (loopStep (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 k.val s).f19 (ix3 j a b)
      = if j = ⟨k.val, k.isLt.trans_eq trips_eq⟩ then lpP w (arg1.view.read (Elt F) X1) (arg20.view.read (Elt F) X20) k.val ((absSt (F := F) arg17 arg18 arg19 arg24 arg25 arg26) s) (ix3 0 a b) else arg19.view.read (Elt F) s.f19 (ix3 j a b) := by
  rw [loopStep_pos]
  have e := trip_19 w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 s.f24 s.f25 s.f26 k s.h
  dsimp only
  rw [e]
  exact read_row1 arg19.view s.f19 _ ⟨k.val, k.isLt.trans_eq trips_eq⟩ (k0_off3_eq k) _ _ j a b

variable (h₀ : FVec F S128x128 .f32) (G17 : BufTy.Contents (Elt F) arg17.view.ty) (G18 : BufTy.Contents (Elt F) arg18.view.ty) (G19 : BufTy.Contents (Elt F) arg19.view.ty) (G24 : BufTy.Contents (Elt F) arg24.view.ty) (G25 : BufTy.Contents (Elt F) arg25.view.ty) (G26 : BufTy.Contents (Elt F) arg26.view.ty)

theorem loopSt_abs : ∀ k ≤ 128, (absSt (F := F) arg17 arg18 arg19 arg24 arg25 arg26) (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 h₀ G17 G18 G19 G24 G25 G26 k) = (stP w (arg1.view.read (Elt F) X1) (arg20.view.read (Elt F) X20) ((absSt (F := F) arg17 arg18 arg19 arg24 arg25 arg26) ⟨h₀, G17, G18, G19, G24, G25, G26⟩)) k
  | 0, _ => rfl
  | k + 1, h => by
    rw [loopSt, loopStep_abs w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 ⟨k, lt_of_lt_of_eq h trips_eq.symm⟩, loopSt_abs k (by omega)]
    rfl

theorem loopSt_17 (j a b : Fin 128) : ∀ k ≤ 128, j.val < k → arg17.view.read (Elt F) (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 h₀ G17 G18 G19 G24 G25 G26 k).f17 (ix3 j a b) = k0_pay182 (attP w (arg20.view.read (Elt F) X20) ((stP w (arg1.view.read (Elt F) X1) (arg20.view.read (Elt F) X20) ((absSt (F := F) arg17 arg18 arg19 arg24 arg25 arg26) ⟨h₀, G17, G18, G19, G24, G25, G26⟩)) j.val)) (ix3 0 a b)
  | k + 1, h, hj => by
    rw [loopSt, loopStep_17 w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 ⟨k, lt_of_lt_of_eq h trips_eq.symm⟩, loopSt_abs w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 h₀ G17 G18 G19 G24 G25 G26 k (by omega)]
    split
    · next e => rw [e]
    · next e =>
      have : j.val ≠ k := fun h => e (Fin.ext h)
      exact loopSt_17 j a b k (by omega) (by omega)

theorem loopSt_18 (j : Fin 128) (a : Fin 1) (b : Fin 128) : ∀ k ≤ 128, j.val < k → arg18.view.read (Elt F) (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 h₀ G17 G18 G19 G24 G25 G26 k).f18 (ix3 j a b) = k0_pay366 (idxP w (arg1.view.read (Elt F) X1) (arg20.view.read (Elt F) X20) j.val ((stP w (arg1.view.read (Elt F) X1) (arg20.view.read (Elt F) X20) ((absSt (F := F) arg17 arg18 arg19 arg24 arg25 arg26) ⟨h₀, G17, G18, G19, G24, G25, G26⟩)) j.val)) (ix3 0 a b)
  | k + 1, h, hj => by
    rw [loopSt, loopStep_18 w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 ⟨k, lt_of_lt_of_eq h trips_eq.symm⟩, loopSt_abs w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 h₀ G17 G18 G19 G24 G25 G26 k (by omega)]
    split
    · next e => rw [e]
    · next e =>
      have : j.val ≠ k := fun h => e (Fin.ext h)
      exact loopSt_18 j a b k (by omega) (by omega)

theorem loopSt_19 (j : Fin 128) (a : Fin 1) (b : Fin 128) : ∀ k ≤ 128, j.val < k → arg19.view.read (Elt F) (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 w.v4 w.v6 w.v7 w.v9 w.v10 w.v12 w.v13 w.v14 w.v16 w.v18 w.v19 w.v21 w.v22 w.cst_38 X1 X20 h₀ G17 G18 G19 G24 G25 G26 k).f19 (ix3 j a b) = lpP w (arg1.view.read (Elt F) X1) (arg20.view.read (Elt F) X20) j.val ((stP w (arg1.view.read (Elt F) X1) (arg20.view.read (Elt F) X20) ((absSt (F := F) arg17 arg18 arg19 arg24 arg25 arg26) ⟨h₀, G17, G18, G19, G24, G25, G26⟩)) j.val) (ix3 0 a b)
  | k + 1, h, hj => by
    rw [loopSt, loopStep_19 w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 ⟨k, lt_of_lt_of_eq h trips_eq.symm⟩, loopSt_abs w c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X1 X20 h₀ G17 G18 G19 G24 G25 G26 k (by omega)]
    split
    · next e => rw [e]
    · next e =>
      have : j.val ≠ k := fun h => e (Fin.ext h)
      exact loopSt_19 j a b k (by omega) (by omega)
end Loop

section LoopRun
variable (c : Dev nD)
  (arg0 : Memref sig .tc .vmem S128x128x128 .f32) (harg0 : arg0.IsWhole) (arg1 : Memref sig .tc .vmem S128x128x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S384x256 .f32) (harg11 : arg11.IsWhole) (arg12 : Memref sig .tc .vmem S384x128 .f32) (harg12 : arg12.IsWhole) (arg13 : Memref sig .tc .vmem S384x1 .f32) (harg13 : arg13.IsWhole) (arg14 : Memref sig .tc .vmem S384x1 .f32) (harg14 : arg14.IsWhole) (arg15 : Memref sig .tc .vmem S128x128 .f32) (harg15 : arg15.IsWhole) (arg16 : Memref sig .tc .vmem S128x1 .f32) (harg16 : arg16.IsWhole) (arg17 : Memref sig .tc .vmem S128x128x128 .f32) (harg17 : arg17.IsWhole) (arg18 : Memref sig .tc .vmem S128x1x128 .f32) (harg18 : arg18.IsWhole) (arg19 : Memref sig .tc .vmem S128x1x128 .f32) (harg19 : arg19.IsWhole) (arg20 : Memref sig .tc .vmem S128x128x128 .f32) (harg20 : arg20.IsWhole) (arg21 : Memref sig .tc .vmem S128x128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S1x128 .f32) (harg26 : arg26.IsWhole)
  (v4 : Vec F S128x1 .f32) (v6 : FVec F S128x1 .f32) (v7 : Vec F S128x128 .f32) (v9 : FVec F S128x1 .f32) (v10 : Vec F S1x128 .f32) (v12 : FVec F S1x1 .f32) (v13 : Vec F S384x256 .f32) (v14 : Vec F S384x128 .f32) (v16 : FVec F S384x1 .f32) (v18 : FVec F S384x1 .f32) (v19 : Vec F S128x128 .f32) (v21 : FVec F S128x1 .f32) (v22 : IVec S128x128 32) (cst_38 : F .f32)
  (X1 : BufTy.Contents (Elt F) arg1.view.ty) (X20 : BufTy.Contents (Elt F) arg20.view.ty)
  (h₀ : FVec F S128x128 .f32) (G17 : BufTy.Contents (Elt F) arg17.view.ty) (G18 : BufTy.Contents (Elt F) arg18.view.ty) (G19 : BufTy.Contents (Elt F) arg19.view.ty) (G24 : BufTy.Contents (Elt F) arg24.view.ty) (G25 : BufTy.Contents (Elt F) arg25.view.ty) (G26 : BufTy.Contents (Elt F) arg26.view.ty)

set_option maxHeartbeats 1000000 in
/-- The loop, from its first state to its last. -/
theorem loop_run (Q : PUnit → sProp 𝕄) :
    LoopRes (F := F) c arg1 arg17 arg18 arg19 arg20 arg21 arg22 arg23 arg24 arg25 arg26 X1 X20 ⟨h₀, G17, G18, G19, G24, G25, G26⟩
    ⊢ iprop((LoopRes (F := F) c arg1 arg17 arg18 arg19 arg20 arg21 arg22 arg23 arg24 arg25 arg26 X1 X20 (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 h₀ G17 G18 G19 G24 G25 G26 128) -∗ Q ⟨⟩)
      -∗ wp frame (wpE (defs₀ (F := F)) Variants.none (c : Thread nD τ) none) Set.univ
        (Scf.Loop.for k0_t2_loop k0_t2_ok h₀ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38) >>= fun _ => pure PUnit.unit) Q) := by
  have L := exec_loop (Q := Q) (kk := fun _ => pure PUnit.unit) _ _ _ _ _ _ _ _ _ (loopInv2 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 h₀ G17 G18 G19 G24 G25 G26)
  have E : ∀ k acc, LoopInv.inv Idealize.ShloMosaic.frame (wpE (defs₀ (F := F)) Variants.none (c : Thread nD τ) none) Set.univ k0_t2_ok h₀ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38) (self := loopInv2 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 h₀ G17 G18 G19 G24 G25 G26) k acc
      = iprop(LoopRes (F := F) c arg1 arg17 arg18 arg19 arg20 arg21 arg22 arg23 arg24 arg25 arg26 X1 X20 (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 h₀ G17 G18 G19 G24 G25 G26 k)
        ∗ ⌜acc = (loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v4 v6 v7 v9 v10 v12 v13 v14 v16 v18 v19 v21 v22 cst_38 X1 X20 h₀ G17 G18 G19 G24 G25 G26 k).h⌝) := fun _ _ => rfl
  simp only [E] at L
  rw [show Scf.trips k0_t2_loop.lb k0_t2_loop.ub k0_t2_loop.st = 128 from trips_eq] at L
  iintro H HK
  iapply L $$ [H]
  · isplitl
    · iexact H
    · ipureintro; rfl
  iintro %acc ⟨H, -⟩
  sl_step
  iapply HK
  iexact H
end LoopRun
end Cert.Proof.KernelIdeal
-- ==== Proof.KernelIdealRun.lean ====
module

public import proofs.«01_k».proof.Proof.Gen.KernelIdeal.Frame
public import proofs.«01_k».proof.Proof.KernelIdealLoop

@[expose] public section

set_option maxRecDepth 16384

noncomputable section

namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem trips1_eq : k0_t1_loop.trips = 128 := by decide +kernel

/-- The keys of the encoder's outputs, projected. -/
def keysP (v0 : Vec F S128x128 .f32) (v1 : Vec F S128x1 .f32) (e : Vec F S128x128x128 .f32) : Vec F S128x128x128 .f32 := fun y => k0_pay368 v0 v1 (rowAt e (y 0)) (ix3 0 (y 1) (y 2))

/-- The weights the loop's body reads, of the arrays. -/
def wtsOf (e3 : Vec F S128x1 .f32) (e4 : Vec F S128x1 .f32) (e5 : Vec F S128x128 .f32) (e6 : Vec F S128x1 .f32) (e9 : Vec F S1x128 .f32) (e10 : Vec F S1x1 .f32) (e11 : Vec F S384x256 .f32) (e12 : Vec F S384x128 .f32) (e13 : Vec F S384x1 .f32) (e14 : Vec F S384x1 .f32) (e15 : Vec F S128x128 .f32) (e16 : Vec F S128x1 .f32) : Wts F :=
  ⟨e3, k0_pay369 e4, e5, k0_pay370 e6, e9, k0_pay371 e10, e11, e12, k0_pay372 e13, k0_pay373 e14, e15, k0_pay374 e16, iota Kind.tc S128x128 32 [0] iota_S128x128_d0_w32, FloatOps.ofBits .f32 0xFF800000#32⟩

/-- The decoder's first state. -/
def st0 (e2 : Vec F S128x128 .f32) : PSt F := ⟨k0_pay4 e2, k0_pay1 k0_pay375, k0_pay2 (iota Kind.tc S128x128 32 [0] iota_S128x128_d0_w32), k0_pay3⟩

section Outs
variable (e0 : Vec F S128x128x128 .f32) (e1 : Vec F S128x128x128 .f32) (e2 : Vec F S128x128 .f32) (e3 : Vec F S128x1 .f32) (e4 : Vec F S128x1 .f32) (e5 : Vec F S128x128 .f32) (e6 : Vec F S128x1 .f32) (e7 : Vec F S128x128 .f32) (e8 : Vec F S128x1 .f32) (e9 : Vec F S1x128 .f32) (e10 : Vec F S1x1 .f32) (e11 : Vec F S384x256 .f32) (e12 : Vec F S384x128 .f32) (e13 : Vec F S384x1 .f32) (e14 : Vec F S384x1 .f32) (e15 : Vec F S128x128 .f32) (e16 : Vec F S128x1 .f32)

/-- The decoder's state before step `j`. -/
def stO (j : ℕ) : PSt F := stP (wtsOf e3 e4 e5 e6 e9 e10 e11 e12 e13 e14 e15 e16) e1 (keysP e7 e8 e0) (st0 e2) j
/-- The attention weights of every step. -/
def attO : Vec F S128x128x128 .f32 := fun y => k0_pay182 (attP (wtsOf e3 e4 e5 e6 e9 e10 e11 e12 e13 e14 e15 e16) (keysP e7 e8 e0) (stO e0 e1 e2 e3 e4 e5 e6 e7 e8 e9 e10 e11 e12 e13 e14 e15 e16 (y 0).val)) (ix3 0 (y 1) (y 2))
/-- The choices of every step. -/
def idxO : Vec F S128x1x128 .f32 := fun y => k0_pay366 (idxP (wtsOf e3 e4 e5 e6 e9 e10 e11 e12 e13 e14 e15 e16) e1 (keysP e7 e8 e0) (y 0).val (stO e0 e1 e2 e3 e4 e5 e6 e7 e8 e9 e10 e11 e12 e13 e14 e15 e16 (y 0).val)) (ix3 0 (y 1) (y 2))
/-- The choices' log-probabilities, of every step. -/
def lpO : Vec F S128x1x128 .f32 := fun y => lpP (wtsOf e3 e4 e5 e6 e9 e10 e11 e12 e13 e14 e15 e16) e1 (keysP e7 e8 e0) (y 0).val (stO e0 e1 e2 e3 e4 e5 e6 e7 e8 e9 e10 e11 e12 e13 e14 e15 e16 (y 0).val) (ix3 0 (y 1) (y 2))
end Outs

section Run
variable (c : Dev nD)
  (arg0 : Memref sig .tc .vmem S128x128x128 .f32) (harg0 : arg0.IsWhole) (arg1 : Memref sig .tc .vmem S128x128x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S384x256 .f32) (harg11 : arg11.IsWhole) (arg12 : Memref sig .tc .vmem S384x128 .f32) (harg12 : arg12.IsWhole) (arg13 : Memref sig .tc .vmem S384x1 .f32) (harg13 : arg13.IsWhole) (arg14 : Memref sig .tc .vmem S384x1 .f32) (harg14 : arg14.IsWhole) (arg15 : Memref sig .tc .vmem S128x128 .f32) (harg15 : arg15.IsWhole) (arg16 : Memref sig .tc .vmem S128x1 .f32) (harg16 : arg16.IsWhole) (arg17 : Memref sig .tc .vmem S128x128x128 .f32) (harg17 : arg17.IsWhole) (arg18 : Memref sig .tc .vmem S128x1x128 .f32) (harg18 : arg18.IsWhole) (arg19 : Memref sig .tc .vmem S128x1x128 .f32) (harg19 : arg19.IsWhole) (arg20 : Memref sig .tc .vmem S128x128x128 .f32) (harg20 : arg20.IsWhole) (arg21 : Memref sig .tc .vmem S128x128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S1x128 .f32) (harg26 : arg26.IsWhole)
  (x0 : BufTy.Contents (Elt F) arg0.view.ty) (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (x15 : BufTy.Contents (Elt F) arg15.view.ty) (x16 : BufTy.Contents (Elt F) arg16.view.ty)
  (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty)

theorem trip1 (v0 : Vec F S128x128 .f32) (v1 : Vec F S128x1 .f32) (k : Fin k0_t1_loop.trips) :
    tripL_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 x0 k
      = [⟨Rect.unit (s := S128x128x128) (k0_off1 k) S1x128x128.size (k0_off1_inb k), k0_pay368 v0 v1 (arg0.view.readAt (Elt F) (Rect.unit (s := S128x128x128) (k0_off1 k) S1x128x128.size (k0_off1_inb k)).toLoadRect x0)⟩] := by
  unfold tripL_k0_t1 trip_k0_t1
  rfl

theorem readAt_row' (v : View sig .tc .vmem S128x128x128 .f32) (f : v.ty.Contents (Elt F)) (off : Fin 3 → ℕ) (s : Fin 128) (h : off = ![s.val, 0, 0])
    (inb : ∀ a, off a + S1x128x128.size a ≤ S128x128x128.size a) :
    v.readAt (Elt F) (Rect.unit (s := S128x128x128) off S1x128x128.size inb).toLoadRect f = rowAt (v.read (Elt F) f) s := by
  subst h
  exact readAt_row v f s

theorem read_keys (v0 : Vec F S128x128 .f32) (v1 : Vec F S128x1 .f32) (j a b : Fin 128) : ∀ k ≤ 128, j.val < k →
    arg20.view.read (Elt F) (arg20.view.writes (Elt F) f20 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 x0 k)) (ix3 j a b)
      = keysP v0 v1 (arg0.view.read (Elt F) x0) (ix3 j a b)
  | k + 1, h, hj => by
    rw [pb_k0_t1_succ Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 x0 ⟨k, lt_of_lt_of_eq h trips1_eq.symm⟩, View.writes_append, trip1]
    refine (read_row3 arg20.view _ _ ⟨k, h⟩ (k0_off1_eq _) _ _ j a b).trans ?_
    split
    · next e =>
      subst e
      exact congrArg (fun r => k0_pay368 v0 v1 r (ix3 0 a b)) (readAt_row' arg0.view x0 _ ⟨k, h⟩ (k0_off1_eq _) _)
    · next e =>
      have : j.val ≠ k := fun h => e (Fin.ext h)
      exact read_keys v0 v1 j a b k (by omega) (by omega)

theorem eta3 {n : ℕ} (y : (⟨3, ![128, n, 128]⟩ : Shape).Idx) : y = ix3 (y 0) (y 1) (y 2) := funext fun a => by
  match a with
  | ⟨0, _⟩ => rfl
  | ⟨1, _⟩ => rfl
  | ⟨2, _⟩ => rfl

theorem wts_eq : (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)) = wtsOf (arg3.view.read (Elt F) x3) (arg4.view.read (Elt F) x4) (arg5.view.read (Elt F) x5) (arg6.view.read (Elt F) x6) (arg9.view.read (Elt F) x9) (arg10.view.read (Elt F) x10) (arg11.view.read (Elt F) x11) (arg12.view.read (Elt F) x12) (arg13.view.read (Elt F) x13) (arg14.view.read (Elt F) x14) (arg15.view.read (Elt F) x15) (arg16.view.read (Elt F) x16) := by
  rw [View.readAt_full, View.readAt_full, View.readAt_full, View.readAt_full, View.readAt_full, View.readAt_full, View.readAt_full, View.readAt_full, View.readAt_full, View.readAt_full, View.readAt_full, View.readAt_full]

theorem init_eq : absSt (F := F) arg17 arg18 arg19 arg24 arg25 arg26 ⟨(k0_pay4 (arg2.view.readAt (Elt F) (Rect.unit (s := S128x128) ![0, 0] S128x128.size inb_S128x128_S128x128_0_0).toLoadRect x2)), f17, f18, f19, (arg24.view.writes (Elt F) arg24.view.junk [⟨Rect.unit (s := S128x128) ![0, 0] S128x128.size inb_S128x128_S128x128_0_0, k0_pay1 k0_pay375⟩]), (arg25.view.writes (Elt F) arg25.view.junk [⟨Rect.unit (s := S128x128) ![0, 0] S128x128.size inb_S128x128_S128x128_0_0, k0_pay2 (iota Kind.tc S128x128 32 [0] iota_S128x128_d0_w32)⟩]), (arg26.view.writes (Elt F) arg26.view.junk [⟨Rect.unit (s := S1x128) ![0, 0] S1x128.size inb_S1x128_S1x128_0_0, k0_pay3⟩])⟩ = st0 (arg2.view.read (Elt F) x2) := by
  unfold absSt
  refine pst_congr ?_ (View.read_writes_full _ _ _ _ _) (View.read_writes_full _ _ _ _ _) (View.read_writes_full _ _ _ _ _)
  rw [View.readAt_full]

theorem keys_eq : arg20.view.read (Elt F) (arg20.view.writes (Elt F) f20 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (arg7.view.readAt (Elt F) (Rect.unit (s := S128x128) ![0, 0] S128x128.size inb_S128x128_S128x128_0_0).toLoadRect x7) (arg8.view.readAt (Elt F) (Rect.unit (s := S128x1) ![0, 0] S128x1.size inb_S128x1_S128x1_0_0).toLoadRect x8) x0 (Scf.trips k0_t1_loop.lb k0_t1_loop.ub k0_t1_loop.st))) = keysP (arg7.view.read (Elt F) x7) (arg8.view.read (Elt F) x8) (arg0.view.read (Elt F) x0) := by
  funext y
  rw [eta3 y, ← View.readAt_full arg7.view x7 inb_S128x128_S128x128_0_0, ← View.readAt_full arg8.view x8 inb_S128x1_S128x1_0_0]
  exact read_keys c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 f20 _ _ _ _ _ _ (le_of_eq trips1_eq) ((y 0).isLt.trans_eq trips1_eq.symm)

/-- The loop's end: what the three output arrays read. -/
theorem loop_out (s : LoopSt (F := F) arg17 arg18 arg19 arg24 arg25 arg26)
    (hs : s = loopSt (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v4 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v6 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v7 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v9 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v10 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v12 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v13 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v14 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v16 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v18 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v19 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v21 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v22 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).cst_38 x1 (arg20.view.writes (Elt F) f20 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (arg7.view.readAt (Elt F) (Rect.unit (s := S128x128) ![0, 0] S128x128.size inb_S128x128_S128x128_0_0).toLoadRect x7) (arg8.view.readAt (Elt F) (Rect.unit (s := S128x1) ![0, 0] S128x1.size inb_S128x1_S128x1_0_0).toLoadRect x8) x0 (Scf.trips k0_t1_loop.lb k0_t1_loop.ub k0_t1_loop.st))) (k0_pay4 (arg2.view.readAt (Elt F) (Rect.unit (s := S128x128) ![0, 0] S128x128.size inb_S128x128_S128x128_0_0).toLoadRect x2)) f17 f18 f19 (arg24.view.writes (Elt F) arg24.view.junk [⟨Rect.unit (s := S128x128) ![0, 0] S128x128.size inb_S128x128_S128x128_0_0, k0_pay1 k0_pay375⟩]) (arg25.view.writes (Elt F) arg25.view.junk [⟨Rect.unit (s := S128x128) ![0, 0] S128x128.size inb_S128x128_S128x128_0_0, k0_pay2 (iota Kind.tc S128x128 32 [0] iota_S128x128_d0_w32)⟩]) (arg26.view.writes (Elt F) arg26.view.junk [⟨Rect.unit (s := S1x128) ![0, 0] S1x128.size inb_S1x128_S1x128_0_0, k0_pay3⟩]) 128) :
    arg17.view.read (Elt F) s.f17 = attO (arg0.view.read (Elt F) x0) (arg1.view.read (Elt F) x1) (arg2.view.read (Elt F) x2) (arg3.view.read (Elt F) x3) (arg4.view.read (Elt F) x4) (arg5.view.read (Elt F) x5) (arg6.view.read (Elt F) x6) (arg7.view.read (Elt F) x7) (arg8.view.read (Elt F) x8) (arg9.view.read (Elt F) x9) (arg10.view.read (Elt F) x10) (arg11.view.read (Elt F) x11) (arg12.view.read (Elt F) x12) (arg13.view.read (Elt F) x13) (arg14.view.read (Elt F) x14) (arg15.view.read (Elt F) x15) (arg16.view.read (Elt F) x16) ∧ arg18.view.read (Elt F) s.f18 = idxO (arg0.view.read (Elt F) x0) (arg1.view.read (Elt F) x1) (arg2.view.read (Elt F) x2) (arg3.view.read (Elt F) x3) (arg4.view.read (Elt F) x4) (arg5.view.read (Elt F) x5) (arg6.view.read (Elt F) x6) (arg7.view.read (Elt F) x7) (arg8.view.read (Elt F) x8) (arg9.view.read (Elt F) x9) (arg10.view.read (Elt F) x10) (arg11.view.read (Elt F) x11) (arg12.view.read (Elt F) x12) (arg13.view.read (Elt F) x13) (arg14.view.read (Elt F) x14) (arg15.view.read (Elt F) x15) (arg16.view.read (Elt F) x16) ∧ arg19.view.read (Elt F) s.f19 = lpO (arg0.view.read (Elt F) x0) (arg1.view.read (Elt F) x1) (arg2.view.read (Elt F) x2) (arg3.view.read (Elt F) x3) (arg4.view.read (Elt F) x4) (arg5.view.read (Elt F) x5) (arg6.view.read (Elt F) x6) (arg7.view.read (Elt F) x7) (arg8.view.read (Elt F) x8) (arg9.view.read (Elt F) x9) (arg10.view.read (Elt F) x10) (arg11.view.read (Elt F) x11) (arg12.view.read (Elt F) x12) (arg13.view.read (Elt F) x13) (arg14.view.read (Elt F) x14) (arg15.view.read (Elt F) x15) (arg16.view.read (Elt F) x16) := by
  subst hs
  refine ⟨funext fun y => ?_, funext fun y => ?_, funext fun y => ?_⟩
  · rw [eta3 y]
    refine (loopSt_17 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x1 (arg20.view.writes (Elt F) f20 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (arg7.view.readAt (Elt F) (Rect.unit (s := S128x128) ![0, 0] S128x128.size inb_S128x128_S128x128_0_0).toLoadRect x7) (arg8.view.readAt (Elt F) (Rect.unit (s := S128x1) ![0, 0] S128x1.size inb_S128x1_S128x1_0_0).toLoadRect x8) x0 (Scf.trips k0_t1_loop.lb k0_t1_loop.ub k0_t1_loop.st))) (k0_pay4 (arg2.view.readAt (Elt F) (Rect.unit (s := S128x128) ![0, 0] S128x128.size inb_S128x128_S128x128_0_0).toLoadRect x2)) f17 f18 f19 (arg24.view.writes (Elt F) arg24.view.junk [⟨Rect.unit (s := S128x128) ![0, 0] S128x128.size inb_S128x128_S128x128_0_0, k0_pay1 k0_pay375⟩]) (arg25.view.writes (Elt F) arg25.view.junk [⟨Rect.unit (s := S128x128) ![0, 0] S128x128.size inb_S128x128_S128x128_0_0, k0_pay2 (iota Kind.tc S128x128 32 [0] iota_S128x128_d0_w32)⟩]) (arg26.view.writes (Elt F) arg26.view.junk [⟨Rect.unit (s := S1x128) ![0, 0] S1x128.size inb_S1x128_S1x128_0_0, k0_pay3⟩]) _ _ _ 128 (le_refl _) (y 0).isLt).trans ?_
    rw [wts_eq, init_eq, keys_eq]
    rfl
  · rw [eta3 y]
    refine (loopSt_18 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x1 (arg20.view.writes (Elt F) f20 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (arg7.view.readAt (Elt F) (Rect.unit (s := S128x128) ![0, 0] S128x128.size inb_S128x128_S128x128_0_0).toLoadRect x7) (arg8.view.readAt (Elt F) (Rect.unit (s := S128x1) ![0, 0] S128x1.size inb_S128x1_S128x1_0_0).toLoadRect x8) x0 (Scf.trips k0_t1_loop.lb k0_t1_loop.ub k0_t1_loop.st))) (k0_pay4 (arg2.view.readAt (Elt F) (Rect.unit (s := S128x128) ![0, 0] S128x128.size inb_S128x128_S128x128_0_0).toLoadRect x2)) f17 f18 f19 (arg24.view.writes (Elt F) arg24.view.junk [⟨Rect.unit (s := S128x128) ![0, 0] S128x128.size inb_S128x128_S128x128_0_0, k0_pay1 k0_pay375⟩]) (arg25.view.writes (Elt F) arg25.view.junk [⟨Rect.unit (s := S128x128) ![0, 0] S128x128.size inb_S128x128_S128x128_0_0, k0_pay2 (iota Kind.tc S128x128 32 [0] iota_S128x128_d0_w32)⟩]) (arg26.view.writes (Elt F) arg26.view.junk [⟨Rect.unit (s := S1x128) ![0, 0] S1x128.size inb_S1x128_S1x128_0_0, k0_pay3⟩]) _ _ _ 128 (le_refl _) (y 0).isLt).trans ?_
    rw [wts_eq, init_eq, keys_eq]
    rfl
  · rw [eta3 y]
    refine (loopSt_19 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x1 (arg20.view.writes (Elt F) f20 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (arg7.view.readAt (Elt F) (Rect.unit (s := S128x128) ![0, 0] S128x128.size inb_S128x128_S128x128_0_0).toLoadRect x7) (arg8.view.readAt (Elt F) (Rect.unit (s := S128x1) ![0, 0] S128x1.size inb_S128x1_S128x1_0_0).toLoadRect x8) x0 (Scf.trips k0_t1_loop.lb k0_t1_loop.ub k0_t1_loop.st))) (k0_pay4 (arg2.view.readAt (Elt F) (Rect.unit (s := S128x128) ![0, 0] S128x128.size inb_S128x128_S128x128_0_0).toLoadRect x2)) f17 f18 f19 (arg24.view.writes (Elt F) arg24.view.junk [⟨Rect.unit (s := S128x128) ![0, 0] S128x128.size inb_S128x128_S128x128_0_0, k0_pay1 k0_pay375⟩]) (arg25.view.writes (Elt F) arg25.view.junk [⟨Rect.unit (s := S128x128) ![0, 0] S128x128.size inb_S128x128_S128x128_0_0, k0_pay2 (iota Kind.tc S128x128 32 [0] iota_S128x128_d0_w32)⟩]) (arg26.view.writes (Elt F) arg26.view.junk [⟨Rect.unit (s := S1x128) ![0, 0] S1x128.size inb_S1x128_S1x128_0_0, k0_pay3⟩]) _ _ _ 128 (le_refl _) (y 0).isLt).trans ?_
    rw [wts_eq, init_eq, keys_eq]
    rfl

/-- What the kernel's program leaves. -/
abbrev RunPost : sProp 𝕄 :=
  iprop((arg0.view.loc (c : Thread nD τ) ↦[arg0.view.set]{fullShare} x0) ∗ (arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg15.view.loc (c : Thread nD τ) ↦[arg15.view.set]{fullShare} x15) ∗ (arg16.view.loc (c : Thread nD τ) ↦[arg16.view.set]{fullShare} x16)
        ∗ (∃ g, ⌜arg17.view.read (Elt F) g = attO (arg0.view.read (Elt F) x0) (arg1.view.read (Elt F) x1) (arg2.view.read (Elt F) x2) (arg3.view.read (Elt F) x3) (arg4.view.read (Elt F) x4) (arg5.view.read (Elt F) x5) (arg6.view.read (Elt F) x6) (arg7.view.read (Elt F) x7) (arg8.view.read (Elt F) x8) (arg9.view.read (Elt F) x9) (arg10.view.read (Elt F) x10) (arg11.view.read (Elt F) x11) (arg12.view.read (Elt F) x12) (arg13.view.read (Elt F) x13) (arg14.view.read (Elt F) x14) (arg15.view.read (Elt F) x15) (arg16.view.read (Elt F) x16)⌝ ∗ (arg17.view.loc (c : Thread nD τ) ↦[arg17.view.set]{fullShare} g)) ∗ (∃ g, ⌜arg18.view.read (Elt F) g = idxO (arg0.view.read (Elt F) x0) (arg1.view.read (Elt F) x1) (arg2.view.read (Elt F) x2) (arg3.view.read (Elt F) x3) (arg4.view.read (Elt F) x4) (arg5.view.read (Elt F) x5) (arg6.view.read (Elt F) x6) (arg7.view.read (Elt F) x7) (arg8.view.read (Elt F) x8) (arg9.view.read (Elt F) x9) (arg10.view.read (Elt F) x10) (arg11.view.read (Elt F) x11) (arg12.view.read (Elt F) x12) (arg13.view.read (Elt F) x13) (arg14.view.read (Elt F) x14) (arg15.view.read (Elt F) x15) (arg16.view.read (Elt F) x16)⌝ ∗ (arg18.view.loc (c : Thread nD τ) ↦[arg18.view.set]{fullShare} g)) ∗ (∃ g, ⌜arg19.view.read (Elt F) g = lpO (arg0.view.read (Elt F) x0) (arg1.view.read (Elt F) x1) (arg2.view.read (Elt F) x2) (arg3.view.read (Elt F) x3) (arg4.view.read (Elt F) x4) (arg5.view.read (Elt F) x5) (arg6.view.read (Elt F) x6) (arg7.view.read (Elt F) x7) (arg8.view.read (Elt F) x8) (arg9.view.read (Elt F) x9) (arg10.view.read (Elt F) x10) (arg11.view.read (Elt F) x11) (arg12.view.read (Elt F) x12) (arg13.view.read (Elt F) x13) (arg14.view.read (Elt F) x14) (arg15.view.read (Elt F) x15) (arg16.view.read (Elt F) x16)⌝ ∗ (arg19.view.loc (c : Thread nD τ) ↦[arg19.view.set]{fullShare} g))
        ∗ (∃ g, (arg20.view.loc (c : Thread nD τ) ↦[arg20.view.set]{fullShare} g)) ∗ (∃ g, (arg21.view.loc (c : Thread nD τ) ↦[arg21.view.set]{fullShare} g)) ∗ (∃ g, (arg22.view.loc (c : Thread nD τ) ↦[arg22.view.set]{fullShare} g)) ∗ (∃ g, (arg23.view.loc (c : Thread nD τ) ↦[arg23.view.set]{fullShare} g)) ∗ (∃ g, (arg24.view.loc (c : Thread nD τ) ↦[arg24.view.set]{fullShare} g)) ∗ (∃ g, (arg25.view.loc (c : Thread nD τ) ↦[arg25.view.set]{fullShare} g)) ∗ (∃ g, (arg26.view.loc (c : Thread nD τ) ↦[arg26.view.set]{fullShare} g)))

/-- The kernel's program: the windows' arrays unchanged, the three outputs at the decoder's values. -/
theorem kernel_run :
    iprop((arg0.view.loc (c : Thread nD τ) ↦[arg0.view.set]{fullShare} x0) ∗ (arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg15.view.loc (c : Thread nD τ) ↦[arg15.view.set]{fullShare} x15) ∗ (arg16.view.loc (c : Thread nD τ) ↦[arg16.view.set]{fullShare} x16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26))
    ⊢ wp frame (wpE (defs₀ (F := F)) Variants.none (c : Thread nD τ) none) Set.univ (cc0__decode_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
      (fun _ => RunPost (F := F) c arg0 arg1 arg2 arg3 arg4 arg5 arg6 arg7 arg8 arg9 arg10 arg11 arg12 arg13 arg14 arg15 arg16 arg17 arg18 arg19 arg20 arg21 arg22 arg23 arg24 arg25 arg26 x0 x1 x2 x3 x4 x5 x6 x7 x8 x9 x10 x11 x12 x13 x14 x15 x16) := by
  rw [cc0__decode_kernel_eq_skeleton]; unfold cc0__decode_kernel_skel
  iintro ⟨H0, H1, H2, H3, H4, H5, H6, H7, H8, H9, H10, H11, H12, H13, H14, H15, H16, H17, H18, H19, H20, H21, H22, H23, H24, H25, H26⟩
  sl_exec_parts
  have hL := loop_out c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 f17 f18 f19 f20 _ rfl
  have LR := fun Q : PUnit → sProp 𝕄 => loop_run (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v4 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v6 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v7 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v9 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v10 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v12 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v13 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v14 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v16 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v18 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v19 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v21 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).v22 (wtsOf (arg3.view.readAt (Elt F) (Rect.unit (s := S128x1) ![0, 0] S128x1.size inb_S128x1_S128x1_0_0).toLoadRect x3) (arg4.view.readAt (Elt F) (Rect.unit (s := S128x1) ![0, 0] S128x1.size inb_S128x1_S128x1_0_0).toLoadRect x4) (arg5.view.readAt (Elt F) (Rect.unit (s := S128x128) ![0, 0] S128x128.size inb_S128x128_S128x128_0_0).toLoadRect x5) (arg6.view.readAt (Elt F) (Rect.unit (s := S128x1) ![0, 0] S128x1.size inb_S128x1_S128x1_0_0).toLoadRect x6) (arg9.view.readAt (Elt F) (Rect.unit (s := S1x128) ![0, 0] S1x128.size inb_S1x128_S1x128_0_0).toLoadRect x9) (arg10.view.readAt (Elt F) (Rect.unit (s := S1x1) ![0, 0] S1x1.size inb_S1x1_S1x1_0_0).toLoadRect x10) (arg11.view.readAt (Elt F) (Rect.unit (s := S384x256) ![0, 0] S384x256.size inb_S384x256_S384x256_0_0).toLoadRect x11) (arg12.view.readAt (Elt F) (Rect.unit (s := S384x128) ![0, 0] S384x128.size inb_S384x128_S384x128_0_0).toLoadRect x12) (arg13.view.readAt (Elt F) (Rect.unit (s := S384x1) ![0, 0] S384x1.size inb_S384x1_S384x1_0_0).toLoadRect x13) (arg14.view.readAt (Elt F) (Rect.unit (s := S384x1) ![0, 0] S384x1.size inb_S384x1_S384x1_0_0).toLoadRect x14) (arg15.view.readAt (Elt F) (Rect.unit (s := S128x128) ![0, 0] S128x128.size inb_S128x128_S128x128_0_0).toLoadRect x15) (arg16.view.readAt (Elt F) (Rect.unit (s := S128x1) ![0, 0] S128x1.size inb_S128x1_S128x1_0_0).toLoadRect x16)).cst_38 x1 (arg20.view.writes (Elt F) f20 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (arg7.view.readAt (Elt F) (Rect.unit (s := S128x128) ![0, 0] S128x128.size inb_S128x128_S128x128_0_0).toLoadRect x7) (arg8.view.readAt (Elt F) (Rect.unit (s := S128x1) ![0, 0] S128x1.size inb_S128x1_S128x1_0_0).toLoadRect x8) x0 (Scf.trips k0_t1_loop.lb k0_t1_loop.ub k0_t1_loop.st))) (k0_pay4 (arg2.view.readAt (Elt F) (Rect.unit (s := S128x128) ![0, 0] S128x128.size inb_S128x128_S128x128_0_0).toLoadRect x2)) f17 f18 f19 (arg24.view.writes (Elt F) arg24.view.junk [⟨Rect.unit (s := S128x128) ![0, 0] S128x128.size inb_S128x128_S128x128_0_0, k0_pay1 k0_pay375⟩]) (arg25.view.writes (Elt F) arg25.view.junk [⟨Rect.unit (s := S128x128) ![0, 0] S128x128.size inb_S128x128_S128x128_0_0, k0_pay2 (iota Kind.tc S128x128 32 [0] iota_S128x128_d0_w32)⟩]) (arg26.view.writes (Elt F) arg26.view.junk [⟨Rect.unit (s := S1x128) ![0, 0] S1x128.size inb_S1x128_S1x128_0_0, k0_pay3⟩]) Q
  iapply (LR _) $$ [H1 H20 H17 H18 H19 H21 H22 H23 H24 H25 H26]
  · isplitl [H1]; · iexact H1
    isplitl [H20]; · iexact H20
    isplitl [H17]; · iexact H17
    isplitl [H18]; · iexact H18
    isplitl [H19]; · iexact H19
    isplitl [H24]; · iexact H24
    isplitl [H25]; · iexact H25
    isplitl [H26]; · iexact H26
    isplitl [H21]; · iexists _; iexact H21
    isplitl [H22]; · iexists _; iexact H22
    iexists _; iexact H23
  iintro ⟨H1, H20, H17, H18, H19, H24, H25, H26, H21, H22, H23⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iexists _
    isplitr [H17]
    · ipureintro; exact hL.1
    · iexact H17
  isplitl [H18]
  · iexists _
    isplitr [H18]
    · ipureintro; exact hL.2.1
    · iexact H18
  isplitl [H19]
  · iexists _
    isplitr [H19]
    · ipureintro; exact hL.2.2
    · iexact H19
  isplitl [H20]; · iexists _; iexact H20
  isplitl [H21]; · iexact H21
  isplitl [H22]; · iexact H22
  isplitl [H23]; · iexact H23
  isplitl [H24]; · iexists _; iexact H24
  isplitl [H25]; · iexists _; iexact H25
  iexists _; iexact H26
end Run
end Cert.Proof.KernelIdeal
-- ==== Proof.KernelIdealLaunch.lean ====
module

public import proofs.«01_k».proof.Proof.KernelIdealRun

/-! The program's run: the kernel inside its launch, and the arguments and the semaphores after it. -/

@[expose] public section

set_option maxRecDepth 16384

noncomputable section

namespace Cert.Proof.KernelIdeal
open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

section Owns
variable (c : Dev nD) (arg0 : Memref sig .tc .vmem S128x128x128 .f32) (harg0 : arg0.IsWhole) (arg1 : Memref sig .tc .vmem S128x128x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S384x256 .f32) (harg11 : arg11.IsWhole) (arg12 : Memref sig .tc .vmem S384x128 .f32) (harg12 : arg12.IsWhole) (arg13 : Memref sig .tc .vmem S384x1 .f32) (harg13 : arg13.IsWhole) (arg14 : Memref sig .tc .vmem S384x1 .f32) (harg14 : arg14.IsWhole) (arg15 : Memref sig .tc .vmem S128x128 .f32) (harg15 : arg15.IsWhole) (arg16 : Memref sig .tc .vmem S128x1 .f32) (harg16 : arg16.IsWhole) (arg17 : Memref sig .tc .vmem S128x128x128 .f32) (harg17 : arg17.IsWhole) (arg18 : Memref sig .tc .vmem S128x1x128 .f32) (harg18 : arg18.IsWhole) (arg19 : Memref sig .tc .vmem S128x1x128 .f32) (harg19 : arg19.IsWhole)
variable (X0 : Vec F S128x128x128 .f32) (X1 : Vec F S128x128x128 .f32) (X2 : Vec F S128x128 .f32) (X3 : Vec F S128x1 .f32) (X4 : Vec F S128x1 .f32) (X5 : Vec F S128x128 .f32) (X6 : Vec F S128x1 .f32) (X7 : Vec F S128x128 .f32) (X8 : Vec F S128x1 .f32) (X9 : Vec F S1x128 .f32) (X10 : Vec F S1x1 .f32) (X11 : Vec F S384x256 .f32) (X12 : Vec F S384x128 .f32) (X13 : Vec F S384x1 .f32) (X14 : Vec F S384x1 .f32) (X15 : Vec F S128x128 .f32) (X16 : Vec F S128x1 .f32)

/-- What the kernel is called with, the windows' buffers at their contents; -/
abbrev OwnsPre : sProp 𝕄 := iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ (∃ d, owns (c : Thread nD τ) arg17 fullShare d) ∗ (∃ d, owns (c : Thread nD τ) arg18 fullShare d) ∗ (∃ d, owns (c : Thread nD τ) arg19 fullShare d) ∗ Pipeline.scopedRest spec0 c)
/-- and what it leaves. -/
abbrev OwnsPost : sProp 𝕄 := iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare (attO (F := F) X0 X1 X2 X3 X4 X5 X6 X7 X8 X9 X10 X11 X12 X13 X14 X15 X16) ∗ owns (c : Thread nD τ) arg18 fullShare (idxO (F := F) X0 X1 X2 X3 X4 X5 X6 X7 X8 X9 X10 X11 X12 X13 X14 X15 X16) ∗ owns (c : Thread nD τ) arg19 fullShare (lpO (F := F) X0 X1 X2 X3 X4 X5 X6 X7 X8 X9 X10 X11 X12 X13 X14 X15 X16) ∗ Pipeline.scopedRest spec0 c)

set_option maxHeartbeats 1000000 in
theorem kernel_owns : OwnsPre (F := F) c arg0 arg1 arg2 arg3 arg4 arg5 arg6 arg7 arg8 arg9 arg10 arg11 arg12 arg13 arg14 arg15 arg16 arg17 arg18 arg19 X0 X1 X2 X3 X4 X5 X6 X7 X8 X9 X10 X11 X12 X13 X14 X15 X16
    ⊢ wp frame (wpE (defs₀ (F := F)) Variants.none (c : Thread nD τ) none) Set.univ (cc0__decode_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _))
      (fun _ => OwnsPost (F := F) c arg0 arg1 arg2 arg3 arg4 arg5 arg6 arg7 arg8 arg9 arg10 arg11 arg12 arg13 arg14 arg15 arg16 arg17 arg18 arg19 X0 X1 X2 X3 X4 X5 X6 X7 X8 X9 X10 X11 X12 X13 X14 X15 X16) := by
  unfold OwnsPre OwnsPost owns; rw [scopedRest0_eq]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, %hf17, H17⟩, ⟨%d18, %f18, %hf18, H18⟩, ⟨%d19, %f19, %hf19, H19⟩, ⟨%f20, G20⟩, ⟨%f21, G21⟩, ⟨%f22, G22⟩, ⟨%f23, G23⟩, ⟨%f24, G24⟩, ⟨%f25, G25⟩, ⟨%f26, G26⟩⟩
  have K := kernel_run (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f3 f4 f5 f6 f7 f8 f9 f10 f11 f12 f13 f14 f15 f16 f17 f18 f19 f20 f21 f22 f23 f24 f25 f26
  unfold RunPost at K
  simp only [Memref.view_whole, View.set_whole] at K
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 H19 G20 G21 G22 G23 G24 G25 G26]
  · iapply K
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [G20]; · iexact G20
    isplitl [G21]; · iexact G21
    isplitl [G22]; · iexact G22
    isplitl [G23]; · iexact G23
    isplitl [G24]; · iexact G24
    isplitl [G25]; · iexact G25
    iexact G26
  iintro %_ ⟨H0, H1, H2, H3, H4, H5, H6, H7, H8, H9, H10, H11, H12, H13, H14, H15, H16, ⟨%g17, %hg17, H17⟩, ⟨%g18, %hg18, H18⟩, ⟨%g19, %hg19, H19⟩, ⟨%g20, G20⟩, ⟨%g21, G21⟩, ⟨%g22, G22⟩, ⟨%g23, G23⟩, ⟨%g24, G24⟩, ⟨%g25, G25⟩, ⟨%g26, G26⟩⟩
  rw [hf0, hf1, hf2, hf3, hf4, hf5, hf6, hf7, hf8, hf9, hf10, hf11, hf12, hf13, hf14, hf15, hf16] at hg17 hg18 hg19
  isplitl [H0]
  · iexists _; isplitr [H0]
    · ipureintro; exact hf0
    · iexact H0
  isplitl [H1]
  · iexists _; isplitr [H1]
    · ipureintro; exact hf1
    · iexact H1
  isplitl [H2]
  · iexists _; isplitr [H2]
    · ipureintro; exact hf2
    · iexact H2
  isplitl [H3]
  · iexists _; isplitr [H3]
    · ipureintro; exact hf3
    · iexact H3
  isplitl [H4]
  · iexists _; isplitr [H4]
    · ipureintro; exact hf4
    · iexact H4
  isplitl [H5]
  · iexists _; isplitr [H5]
    · ipureintro; exact hf5
    · iexact H5
  isplitl [H6]
  · iexists _; isplitr [H6]
    · ipureintro; exact hf6
    · iexact H6
  isplitl [H7]
  · iexists _; isplitr [H7]
    · ipureintro; exact hf7
    · iexact H7
  isplitl [H8]
  · iexists _; isplitr [H8]
    · ipureintro; exact hf8
    · iexact H8
  isplitl [H9]
  · iexists _; isplitr [H9]
    · ipureintro; exact hf9
    · iexact H9
  isplitl [H10]
  · iexists _; isplitr [H10]
    · ipureintro; exact hf10
    · iexact H10
  isplitl [H11]
  · iexists _; isplitr [H11]
    · ipureintro; exact hf11
    · iexact H11
  isplitl [H12]
  · iexists _; isplitr [H12]
    · ipureintro; exact hf12
    · iexact H12
  isplitl [H13]
  · iexists _; isplitr [H13]
    · ipureintro; exact hf13
    · iexact H13
  isplitl [H14]
  · iexists _; isplitr [H14]
    · ipureintro; exact hf14
    · iexact H14
  isplitl [H15]
  · iexists _; isplitr [H15]
    · ipureintro; exact hf15
    · iexact H15
  isplitl [H16]
  · iexists _; isplitr [H16]
    · ipureintro; exact hf16
    · iexact H16
  isplitl [H17]
  · iexists _; isplitr [H17]
    · ipureintro; exact hg17
    · iexact H17
  isplitl [H18]
  · iexists _; isplitr [H18]
    · ipureintro; exact hg18
    · iexact H18
  isplitl [H19]
  · iexists _; isplitr [H19]
    · ipureintro; exact hg19
    · iexact H19
  isplitl [G20]; · iexists _; iexact G20
  isplitl [G21]; · iexists _; iexact G21
  isplitl [G22]; · iexists _; iexact G22
  isplitl [G23]; · iexists _; iexact G23
  isplitl [G24]; · iexists _; iexact G24
  isplitl [G25]; · iexists _; iexact G25
  iexists _; iexact G26
end Owns

variable (m : (ℓ : Loc nD τ sig) → Buf (Elt F) ℓ) (ρ : Dev nD → PrngReg)

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => attO (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => idxO (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => lpO (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 20, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = attO (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = idxO (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = lpO (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body is called with, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  unfold Pipeline.ΦA
  iintro ⟨⟨HR, Hprng⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 H19 HR]
  · iapply (kernel_owns (F := F) c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (st0_12 t) (hstage0_12 0) (st0_13 t) (hstage0_13 0) (st0_14 t) (hstage0_14 0) (st0_15 t) (hstage0_15 0) (st0_16 t) (hstage0_16 0) (st0_17 t) (hstage0_17 0) (st0_18 t) (hstage0_18 0) (st0_19 t) (hstage0_19 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    iexact HR
  iintro %_ ⟨H0, H1, H2, H3, H4, H5, H6, H7, H8, H9, H10, H11, H12, H13, H14, H15, H16, H17, H18, H19, HR⟩
  isplitl [Hprng HR]
  · isplitl [HR]; · iexact HR
    iexact Hprng
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The program runs to the launch's arrays and the host's lines after it, its semaphores at zero. -/
theorem run_main : θ_run defs (onTc (τ := τ) (main (F := F))) (s₀ m ρ) (fun r =>
    FramePost cfgs (dats m) 0 (afterTail₀ cfgs (dats m) 0 (V0 m) [hostOps1]) r ∧ r.2.sem = (fun _ => 0)) :=
  θ_run_frame_around cfgs (dats m) 0 launch0 defs₀ Variants.none m ρ main
    (hbody := fun c => (body_obligation m c).loose)
    (hshare := fun c => (dats m 0 c).share_full fun _ => rfl) (howed := fun _ _ => rfl)
    (V₀ := V0 m) (opss := [hostOps1]) (hsub := sfx_sub) (hfresh := sfx_fresh) (hkeep := sfx_keeps)
    (hmain := Gen.hmain m Variants.none) (hA := A_eq m) (hΦ := fun _ _ => rfl)
    (Q' := fun r => FramePost cfgs (dats m) 0 (afterTail₀ cfgs (dats m) 0 (V0 m) [hostOps1]) r ∧ r.2.sem = (fun _ => 0))
    (hQ' := fun _ h => h)

/-- After the launch the arguments are as they were. -/
theorem args_of (r : PUnit × MemSt nD τ sig (Elt F)) (h : FramePost cfgs (dats m) 0 (afterTail₀ cfgs (dats m) 0 (V0 m) [hostOps1]) r) :
    ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := fun c => ⟨((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      ((h c).1 9).trans (((dats m 0 c).arrAt_in 9 rfl _).trans ((A_eq m c 9).trans (V_main_arg8 m c))),
      (((h c).2 main_arg9 (Pipeline.mem_restRefs_of main_arg9 (by decide) (by decide))).trans (W_main_arg9 m (dats m) c)),
      ((h c).1 11).trans (((dats m 0 c).arrAt_in 11 rfl _).trans ((A_eq m c 11).trans (V_main_arg10 m c))),
      ((h c).1 12).trans (((dats m 0 c).arrAt_in 12 rfl _).trans ((A_eq m c 12).trans (V_main_arg11 m c))),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      ((h c).1 15).trans (((dats m 0 c).arrAt_in 15 rfl _).trans ((A_eq m c 15).trans (V_main_arg14 m c))),
      (((h c).2 main_arg15 (Pipeline.mem_restRefs_of main_arg15 (by decide) (by decide))).trans (W_main_arg15 m (dats m) c))⟩

end Cert.Proof.KernelIdeal
-- ==== Proof.KernelIdealArrays.lean ====
/- What the launch leaves in the kernel's three result arrays, as functions of the program's arguments: each window is
   its whole array, so the one grid point's blocks are the arrays themselves. -/
module

public import proofs.«01_k».proof.Proof.KernelIdealLaunch

@[expose] public section

set_option maxRecDepth 16384

noncomputable section

namespace Cert.Proof.KernelIdeal
open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The operands, of the arguments -/

/-- The kernel's operand 0. -/
def in0 : Vec F S128x128x128 .f32 := transpose S128x128x128 [1, 2, 0] (m ((c : Thread nD τ).loc main_arg0)) transposes_S128x128x128_S128x128x128_1_2_0
theorem iblk0 (t : Fin cfg0.N) : iblk m c 0 t = in0 m c := by
  have hV : V m c main_call0_v0 = in0 m c := by
    unfold V V0 in0
    simp only [hostOps0, List.flatten_cons, List.flatten_nil, List.append_nil]
    after_results
    rfl
  rw [← hV]
  funext i
  exact congrArg (V m c main_call0_v0) (funext fun a => Fin.ext (by show 0 * _ + _ = _; simp))

/-- The kernel's operand 1. -/
def in1 : Vec F S128x128x128 .f32 := m ((c : Thread nD τ).loc main_arg0)
theorem iblk1 (t : Fin cfg0.N) : iblk m c 1 t = in1 m c := by
  have hV : V m c main_arg0 = in1 m c := by
    exact V_main_arg0 m c
  rw [← hV]
  funext i
  exact congrArg (V m c main_arg0) (funext fun a => Fin.ext (by show 0 * _ + _ = _; simp))

/-- The kernel's operand 2. -/
def in2 : Vec F S128x128 .f32 := transpose S128x128 [1, 0] (shapeCast S128x128 (m ((c : Thread nD τ).loc main_arg1)) shapeCasts_S1x128x128_S128x128) transposes_S128x128_S128x128_1_0
theorem iblk2 (t : Fin cfg0.N) : iblk m c 2 t = in2 m c := by
  have hV : V m c main_call0_v2 = in2 m c := by
    unfold V V0 in2
    simp only [hostOps0, List.flatten_cons, List.flatten_nil, List.append_nil]
    after_results
    rfl
  rw [← hV]
  funext i
  exact congrArg (V m c main_call0_v2) (funext fun a => Fin.ext (by show 0 * _ + _ = _; simp))

/-- The kernel's operand 3. -/
def in3 : Vec F S128x1 .f32 := m ((c : Thread nD τ).loc main_arg2)
theorem iblk3 (t : Fin cfg0.N) : iblk m c 3 t = in3 m c := by
  have hV : V m c main_arg2 = in3 m c := by
    exact V_main_arg2 m c
  rw [← hV]
  funext i
  exact congrArg (V m c main_arg2) (funext fun a => Fin.ext (by show 0 * _ + _ = _; simp))

/-- The kernel's operand 4. -/
def in4 : Vec F S128x1 .f32 := broadcastInDim S128x1 ![0] bcast_S128_S128x1_0 (m ((c : Thread nD τ).loc main_arg3))
theorem iblk4 (t : Fin cfg0.N) : iblk m c 4 t = in4 m c := by
  have hV : V m c main_call0_v3 = in4 m c := by
    unfold V V0 in4
    simp only [hostOps0, List.flatten_cons, List.flatten_nil, List.append_nil]
    after_results
    rfl
  rw [← hV]
  funext i
  exact congrArg (V m c main_call0_v3) (funext fun a => Fin.ext (by show 0 * _ + _ = _; simp))

/-- The kernel's operand 5. -/
def in5 : Vec F S128x128 .f32 := m ((c : Thread nD τ).loc main_arg4)
theorem iblk5 (t : Fin cfg0.N) : iblk m c 5 t = in5 m c := by
  have hV : V m c main_arg4 = in5 m c := by
    exact V_main_arg4 m c
  rw [← hV]
  funext i
  exact congrArg (V m c main_arg4) (funext fun a => Fin.ext (by show 0 * _ + _ = _; simp))

/-- The kernel's operand 6. -/
def in6 : Vec F S128x1 .f32 := broadcastInDim S128x1 ![0] bcast_S128_S128x1_0 (m ((c : Thread nD τ).loc main_arg5))
theorem iblk6 (t : Fin cfg0.N) : iblk m c 6 t = in6 m c := by
  have hV : V m c main_call0_v4 = in6 m c := by
    unfold V V0 in6
    simp only [hostOps0, List.flatten_cons, List.flatten_nil, List.append_nil]
    after_results
    rfl
  rw [← hV]
  funext i
  exact congrArg (V m c main_call0_v4) (funext fun a => Fin.ext (by show 0 * _ + _ = _; simp))

/-- The kernel's operand 7. -/
def in7 : Vec F S128x128 .f32 := m ((c : Thread nD τ).loc main_arg6)
theorem iblk7 (t : Fin cfg0.N) : iblk m c 7 t = in7 m c := by
  have hV : V m c main_arg6 = in7 m c := by
    exact V_main_arg6 m c
  rw [← hV]
  funext i
  exact congrArg (V m c main_arg6) (funext fun a => Fin.ext (by show 0 * _ + _ = _; simp))

/-- The kernel's operand 8. -/
def in8 : Vec F S128x1 .f32 := broadcastInDim S128x1 ![0] bcast_S128_S128x1_0 (m ((c : Thread nD τ).loc main_arg7))
theorem iblk8 (t : Fin cfg0.N) : iblk m c 8 t = in8 m c := by
  have hV : V m c main_call0_v5 = in8 m c := by
    unfold V V0 in8
    simp only [hostOps0, List.flatten_cons, List.flatten_nil, List.append_nil]
    after_results
    rfl
  rw [← hV]
  funext i
  exact congrArg (V m c main_call0_v5) (funext fun a => Fin.ext (by show 0 * _ + _ = _; simp))

/-- The kernel's operand 9. -/
def in9 : Vec F S1x128 .f32 := m ((c : Thread nD τ).loc main_arg8)
theorem iblk9 (t : Fin cfg0.N) : iblk m c 9 t = in9 m c := by
  have hV : V m c main_arg8 = in9 m c := by
    exact V_main_arg8 m c
  rw [← hV]
  funext i
  exact congrArg (V m c main_arg8) (funext fun a => Fin.ext (by show 0 * _ + _ = _; simp))

/-- The kernel's operand 10. -/
def in10 : Vec F S1x1 .f32 := broadcastInDim S1x1 ![1] bcast_S1_S1x1_1 (m ((c : Thread nD τ).loc main_arg9))
theorem iblk10 (t : Fin cfg0.N) : iblk m c 10 t = in10 m c := by
  have hV : V m c main_call0_v6 = in10 m c := by
    unfold V V0 in10
    simp only [hostOps0, List.flatten_cons, List.flatten_nil, List.append_nil]
    after_results
    rfl
  rw [← hV]
  funext i
  exact congrArg (V m c main_call0_v6) (funext fun a => Fin.ext (by show 0 * _ + _ = _; simp))

/-- The kernel's operand 11. -/
def in11 : Vec F S384x256 .f32 := m ((c : Thread nD τ).loc main_arg10)
theorem iblk11 (t : Fin cfg0.N) : iblk m c 11 t = in11 m c := by
  have hV : V m c main_arg10 = in11 m c := by
    exact V_main_arg10 m c
  rw [← hV]
  funext i
  exact congrArg (V m c main_arg10) (funext fun a => Fin.ext (by show 0 * _ + _ = _; simp))

/-- The kernel's operand 12. -/
def in12 : Vec F S384x128 .f32 := m ((c : Thread nD τ).loc main_arg11)
theorem iblk12 (t : Fin cfg0.N) : iblk m c 12 t = in12 m c := by
  have hV : V m c main_arg11 = in12 m c := by
    exact V_main_arg11 m c
  rw [← hV]
  funext i
  exact congrArg (V m c main_arg11) (funext fun a => Fin.ext (by show 0 * _ + _ = _; simp))

/-- The kernel's operand 13. -/
def in13 : Vec F S384x1 .f32 := broadcastInDim S384x1 ![0] bcast_S384_S384x1_0 (m ((c : Thread nD τ).loc main_arg12))
theorem iblk13 (t : Fin cfg0.N) : iblk m c 13 t = in13 m c := by
  have hV : V m c main_call0_v7 = in13 m c := by
    unfold V V0 in13
    simp only [hostOps0, List.flatten_cons, List.flatten_nil, List.append_nil]
    after_results
    rfl
  rw [← hV]
  funext i
  exact congrArg (V m c main_call0_v7) (funext fun a => Fin.ext (by show 0 * _ + _ = _; simp))

/-- The kernel's operand 14. -/
def in14 : Vec F S384x1 .f32 := broadcastInDim S384x1 ![0] bcast_S384_S384x1_0 (m ((c : Thread nD τ).loc main_arg13))
theorem iblk14 (t : Fin cfg0.N) : iblk m c 14 t = in14 m c := by
  have hV : V m c main_call0_v8 = in14 m c := by
    unfold V V0 in14
    simp only [hostOps0, List.flatten_cons, List.flatten_nil, List.append_nil]
    after_results
    rfl
  rw [← hV]
  funext i
  exact congrArg (V m c main_call0_v8) (funext fun a => Fin.ext (by show 0 * _ + _ = _; simp))

/-- The kernel's operand 15. -/
def in15 : Vec F S128x128 .f32 := m ((c : Thread nD τ).loc main_arg14)
theorem iblk15 (t : Fin cfg0.N) : iblk m c 15 t = in15 m c := by
  have hV : V m c main_arg14 = in15 m c := by
    exact V_main_arg14 m c
  rw [← hV]
  funext i
  exact congrArg (V m c main_arg14) (funext fun a => Fin.ext (by show 0 * _ + _ = _; simp))

/-- The kernel's operand 16. -/
def in16 : Vec F S128x1 .f32 := broadcastInDim S128x1 ![0] bcast_S128_S128x1_0 (m ((c : Thread nD τ).loc main_arg15))
theorem iblk16 (t : Fin cfg0.N) : iblk m c 16 t = in16 m c := by
  have hV : V m c main_call0_v9 = in16 m c := by
    unfold V V0 in16
    simp only [hostOps0, List.flatten_cons, List.flatten_nil, List.append_nil]
    after_results
    rfl
  rw [← hV]
  funext i
  exact congrArg (V m c main_call0_v9) (funext fun a => Fin.ext (by show 0 * _ + _ = _; simp))

/-! ## The launch's result arrays -/

/-- The launch's result 0. -/
def attA : Vec F S128x128x128 .f32 := attO (in0 m c) (in1 m c) (in2 m c) (in3 m c) (in4 m c) (in5 m c) (in6 m c) (in7 m c) (in8 m c) (in9 m c) (in10 m c) (in11 m c) (in12 m c) (in13 m c) (in14 m c) (in15 m c) (in16 m c)

theorem mem_blk17 (t : Fin cfg0.N) (i : S128x128x128.Idx) : i ∈ ((cfg0.win 17).blk t).view.set := by
  show i ∈ ((View.whole main_call0_v10_0).slice (win0_17.rect t)).set
  rw [View.set_slice_whole, Rect.mem_set_unit]
  intro a
  have h := (i a).isLt
  show 0 * S128x128x128.size a ≤ (i a).val ∧ (i a).val < 0 * S128x128x128.size a + S128x128x128.size a
  omega

theorem arr17 : (dats m 0 c).arrAt 17 cfg0.N = attA m c :=
  (dats m 0 c).arrAt_eq_of_cover 17 (attA m c) (fun t _ => by
    show (cfg0.win 17).cut (grid0.coords t) ((dats m 0 c).after 17 t) = _
    rw [after0_17, iblk0, iblk1, iblk2, iblk3, iblk4, iblk5, iblk6, iblk7, iblk8, iblk9, iblk10, iblk11, iblk12, iblk13, iblk14, iblk15, iblk16]
    funext i
    exact congrArg (attA m c) (funext fun a => Fin.ext (by show _ = 0 * _ + _; simp)))
    fun i => ⟨t0_0, flush0_17 _, mem_blk17 t0_0 i⟩

/-- The launch's result 1. -/
def idxA : Vec F S128x1x128 .f32 := idxO (in0 m c) (in1 m c) (in2 m c) (in3 m c) (in4 m c) (in5 m c) (in6 m c) (in7 m c) (in8 m c) (in9 m c) (in10 m c) (in11 m c) (in12 m c) (in13 m c) (in14 m c) (in15 m c) (in16 m c)

theorem mem_blk18 (t : Fin cfg0.N) (i : S128x1x128.Idx) : i ∈ ((cfg0.win 18).blk t).view.set := by
  show i ∈ ((View.whole main_call0_v10_1).slice (win0_18.rect t)).set
  rw [View.set_slice_whole, Rect.mem_set_unit]
  intro a
  have h := (i a).isLt
  show 0 * S128x1x128.size a ≤ (i a).val ∧ (i a).val < 0 * S128x1x128.size a + S128x1x128.size a
  omega

theorem arr18 : (dats m 0 c).arrAt 18 cfg0.N = idxA m c :=
  (dats m 0 c).arrAt_eq_of_cover 18 (idxA m c) (fun t _ => by
    show (cfg0.win 18).cut (grid0.coords t) ((dats m 0 c).after 18 t) = _
    rw [after0_18, iblk0, iblk1, iblk2, iblk3, iblk4, iblk5, iblk6, iblk7, iblk8, iblk9, iblk10, iblk11, iblk12, iblk13, iblk14, iblk15, iblk16]
    funext i
    exact congrArg (idxA m c) (funext fun a => Fin.ext (by show _ = 0 * _ + _; simp)))
    fun i => ⟨t0_0, flush0_18 _, mem_blk18 t0_0 i⟩

/-- The launch's result 2. -/
def lpA : Vec F S128x1x128 .f32 := lpO (in0 m c) (in1 m c) (in2 m c) (in3 m c) (in4 m c) (in5 m c) (in6 m c) (in7 m c) (in8 m c) (in9 m c) (in10 m c) (in11 m c) (in12 m c) (in13 m c) (in14 m c) (in15 m c) (in16 m c)

theorem mem_blk19 (t : Fin cfg0.N) (i : S128x1x128.Idx) : i ∈ ((cfg0.win 19).blk t).view.set := by
  show i ∈ ((View.whole main_call0_v10_2).slice (win0_19.rect t)).set
  rw [View.set_slice_whole, Rect.mem_set_unit]
  intro a
  have h := (i a).isLt
  show 0 * S128x1x128.size a ≤ (i a).val ∧ (i a).val < 0 * S128x1x128.size a + S128x1x128.size a
  omega

theorem arr19 : (dats m 0 c).arrAt 19 cfg0.N = lpA m c :=
  (dats m 0 c).arrAt_eq_of_cover 19 (lpA m c) (fun t _ => by
    show (cfg0.win 19).cut (grid0.coords t) ((dats m 0 c).after 19 t) = _
    rw [after0_19, iblk0, iblk1, iblk2, iblk3, iblk4, iblk5, iblk6, iblk7, iblk8, iblk9, iblk10, iblk11, iblk12, iblk13, iblk14, iblk15, iblk16]
    funext i
    exact congrArg (lpA m c) (funext fun a => Fin.ext (by show _ = 0 * _ + _; simp)))
    fun i => ⟨t0_0, flush0_19 _, mem_blk19 t0_0 i⟩

/-! ## The host's lines after the launch -/

/-- The host leaves the choices in the first result, -/
theorem tail0 : Pipeline.afterTail₀ cfgs (dats m) 0 (V0 m) [hostOps1] c main_v0_0
    = broadcastInDim S128x1x128 ![0, 2] bcast_S128x128_S128x1x128_0_2
        (transpose S128x128 [1, 0] (shapeCast S128x128 (idxA m c) shapeCasts_S128x1x128_S128x128) transposes_S128x128_S128x128_1_0) := by
  unfold Pipeline.afterTail₀
  simp only [hostOps1, List.flatten_cons, List.flatten_nil, List.append_nil]
  after_results
  rw [← arr18]
  erw [Pipeline.withArrays_arr spec0 launch0.win.arr_inj c (V0 m c) (fun w => (dats m 0 c).arrAt w cfg0.N) 18]
  rfl

/-- their log-probabilities in the second, -/
theorem tail1 : Pipeline.afterTail₀ cfgs (dats m) 0 (V0 m) [hostOps1] c main_v0_1
    = transpose S128x128 [1, 0] (shapeCast S128x128 (lpA m c) shapeCasts_S128x1x128_S128x128) transposes_S128x128_S128x128_1_0 := by
  unfold Pipeline.afterTail₀
  simp only [hostOps1, List.flatten_cons, List.flatten_nil, List.append_nil]
  after_results
  rw [← arr19]
  erw [Pipeline.withArrays_arr spec0 launch0.win.arr_inj c (V0 m c) (fun w => (dats m 0 c).arrAt w cfg0.N) 19]
  rfl

/-- and the attention weights in the third. -/
theorem tail2 : Pipeline.afterTail₀ cfgs (dats m) 0 (V0 m) [hostOps1] c main_v0_2
    = transpose S128x128x128 [2, 0, 1] (attA m c) transposes_S128x128x128_S128x128x128_2_0_1 := by
  unfold Pipeline.afterTail₀
  simp only [hostOps1, List.flatten_cons, List.flatten_nil, List.append_nil]
  after_results
  rw [← arr17]
  erw [Pipeline.withArrays_arr spec0 launch0.win.arr_inj c (V0 m c) (fun w => (dats m 0 c).arrAt w cfg0.N) 17]
  rfl

/-- The three results of a run. -/
theorem results_of (r : PUnit × MemSt nD τ sig (Elt F)) (h : Pipeline.FramePost cfgs (dats m) 0 (Pipeline.afterTail₀ cfgs (dats m) 0 (V0 m) [hostOps1]) r) :
    r.2.mem ((c.tc : Thread nD τ).loc main_v0_0) = broadcastInDim S128x1x128 ![0, 2] bcast_S128x128_S128x1x128_0_2
        (transpose S128x128 [1, 0] (shapeCast S128x128 (idxA m c) shapeCasts_S128x1x128_S128x128) transposes_S128x128_S128x128_1_0)
    ∧ r.2.mem ((c.tc : Thread nD τ).loc main_v0_1)
      = transpose S128x128 [1, 0] (shapeCast S128x128 (lpA m c) shapeCasts_S128x1x128_S128x128) transposes_S128x128_S128x128_1_0
    ∧ r.2.mem ((c.tc : Thread nD τ).loc main_v0_2)
      = transpose S128x128x128 [2, 0, 1] (attA m c) transposes_S128x128x128_S128x128x128_2_0_1 :=
  ⟨((h c).2 main_v0_0 (Pipeline.mem_restRefs_of main_v0_0 (by decide) (by decide))).trans (tail0 m c),
    ((h c).2 main_v0_1 (Pipeline.mem_restRefs_of main_v0_1 (by decide) (by decide))).trans (tail1 m c),
    ((h c).2 main_v0_2 (Pipeline.mem_restRefs_of main_v0_2 (by decide) (by decide))).trans (tail2 m c)⟩

end Cert.Proof.KernelIdeal
-- ==== Proof.FirstMax.lean ====
module

public import Idealize.ShloMosaic.Lib.Pointwise
public import Idealize.ShloMosaic.Lib.SortFacts

@[expose] public section

set_option maxRecDepth 16384

noncomputable section

namespace Cert.Proof.FirstMax
open Idealize.ShloMosaic

/-- The greatest of 128 values. -/
abbrev mx (f : Fin 128 → EReal) : EReal := Finset.univ.fold max ⊥ f

/-- `p` is the first position at which `f` is greatest. -/
structure Is (f : Fin 128 → EReal) (p : Fin 128) : Prop where
  le : ∀ i, f i ≤ f p
  lt : ∀ i, i < p → f i < f p

theorem Is.unique {f : Fin 128 → EReal} {p q : Fin 128} (hp : Is f p) (hq : Is f q) : p = q := by
  rcases lt_trichotomy p q with h | h | h
  · exact absurd (hq.lt p h) (not_lt.mpr (hp.le q))
  · exact h
  · exact absurd (hp.lt q h) (not_lt.mpr (hq.le p))

theorem le_mx (f : Fin 128 → EReal) (i : Fin 128) : f i ≤ mx f :=
  (Finset.le_fold_max _).mpr (Or.inr ⟨i, Finset.mem_univ i, le_refl _⟩)

theorem Is.mx_eq {f : Fin 128 → EReal} {p : Fin 128} (hp : Is f p) : mx f = f p :=
  le_antisymm ((Finset.fold_max_le _).mpr ⟨bot_le, fun i _ => hp.le i⟩) (le_mx f p)

/-- The order of a sort that puts the greater first. -/
abbrev gtB (f : Fin 128 → EReal) (a b : Fin 128) : Bool := Ideal.cmpTotal .gt (f a) (f b) == 1#1

theorem gtB_iff (f : Fin 128 → EReal) (a b : Fin 128) : gtB f a b = true ↔ f b < f a := by
  show (BitVec.ofBool (decide (f b < f a)) == 1#1) = true ↔ _
  by_cases h : f b < f a <;> simp [h]

theorem head_stableSort (f : Fin 128 → EReal) : ∀ (l : List (Fin 128)), l.Pairwise (· < ·) → ∀ p t, stableSort (gtB f) l = p :: t →
    p ∈ l ∧ ∀ i ∈ l, f i ≤ f p ∧ (i < p → f i < f p)
  | [], _, p, t, h => by simp [stableSort] at h
  | a :: l, hl, p, t, h => by
    rw [List.pairwise_cons] at hl
    unfold stableSort at h
    cases hs : stableSort (gtB f) l with
    | nil =>
      have hn : l = [] := by
        have := length_stableSort (gtB f) l
        rw [hs] at this
        exact List.eq_nil_of_length_eq_zero this.symm
      rw [hs] at h
      subst hn
      simp only [insertBefore, List.cons.injEq] at h
      obtain ⟨rfl, _⟩ := h
      refine ⟨List.mem_cons_self, fun i hi => ?_⟩
      rw [List.mem_singleton] at hi
      subst hi
      exact ⟨le_refl _, fun h => absurd h (lt_irrefl _)⟩
    | cons b t' =>
      obtain ⟨hb, hle⟩ := head_stableSort f l hl.2 b t' hs
      rw [hs] at h
      unfold insertBefore at h
      by_cases hba : gtB f b a = true
      · rw [if_pos hba] at h
        obtain ⟨rfl, _⟩ := List.cons.inj h
        have hlt := (gtB_iff f b a).mp hba
        refine ⟨List.mem_cons_of_mem _ hb, fun i hi => ?_⟩
        rcases List.mem_cons.mp hi with rfl | hi
        · exact ⟨hlt.le, fun _ => hlt⟩
        · exact hle i hi
      · rw [if_neg hba] at h
        obtain ⟨rfl, _⟩ := List.cons.inj h
        have hge : f b ≤ f a := not_lt.mp fun hh => hba ((gtB_iff f b a).mpr hh)
        refine ⟨List.mem_cons_self, fun i hi => ?_⟩
        rcases List.mem_cons.mp hi with rfl | hi
        · exact ⟨le_refl _, fun h => absurd h (lt_irrefl _)⟩
        · exact ⟨(hle i hi).1.trans hge, fun h => absurd (hl.1 i hi) (not_lt.mpr h.le)⟩

theorem sorted_first (f : Fin 128 → EReal) : Is f (sortedFrom (gtB f) 0) := by
  have hlen : (sortPositions 128 (gtB f)).length = 128 := length_sortPositions _ _
  cases hs : sortPositions 128 (gtB f) with
  | nil => rw [hs] at hlen; simp at hlen
  | cons p t =>
    have hp : sortedFrom (gtB f) 0 = p := by
      unfold sortedFrom
      simp only [hs, List.get_eq_getElem]
      rfl
    obtain ⟨_, h⟩ := head_stableSort f (List.finRange 128) (List.pairwise_lt_finRange 128) p t hs
    rw [hp]
    exact ⟨fun i => (h i (List.mem_finRange i)).1, fun i => (h i (List.mem_finRange i)).2⟩

theorem toInt_minsi (x y : BitVec 32) : (IntOp.minsi x y).toInt = min x.toInt y.toInt := by
  unfold IntOp.minsi
  split <;> rename_i h
  · simp only [BitVec.slt, decide_eq_true_eq] at h; omega
  · simp only [BitVec.slt, decide_eq_true_eq] at h; omega

theorem toInt_small (n : ℕ) (h : n ≤ 128) : (BitVec.ofNat 32 n).toInt = n := by
  rw [BitVec.toInt_ofNat', Int.bmod_def]
  norm_num
  omega

/-- The least position at which `f` is greatest, as a kernel computes it: the least of the positions where it is, `128` elsewhere. -/
theorem fold_minsi (f : Fin 128 → EReal) (p : Fin 128) (hp : Is f p) :
    Finset.univ.fold IntOp.minsi 2147483647#32 (fun x : Fin 128 => if f x = mx f then BitVec.ofNat 32 x.val else 128#32) = BitVec.ofNat 32 p.val := by
  apply BitVec.eq_of_toInt_eq
  rw [Finset.fold_hom (op' := min) (f := fun x : Fin 128 => if f x = mx f then BitVec.ofNat 32 x.val else 128#32) (m := BitVec.toInt) (fun x y => toInt_minsi x y) |>.symm,
    toInt_small p.val p.isLt.le]
  apply le_antisymm
  · refine (Finset.fold_min_le _).mpr (Or.inr ⟨p, Finset.mem_univ p, ?_⟩)
    rw [if_pos hp.mx_eq.symm, toInt_small p.val p.isLt.le]
  · refine (Finset.le_fold_min _).mpr ⟨?_, fun x _ => ?_⟩
    · have := p.isLt
      have e : (2147483647#32 : BitVec 32).toInt = 2147483647 := by decide
      rw [e]; omega
    · by_cases hx : f x = mx f
      · rw [if_pos hx, toInt_small x.val x.isLt.le]
        by_contra hlt
        have : x < p := by rw [Fin.lt_def]; omega
        exact absurd (hp.lt x this) (not_lt.mpr (hx.trans hp.mx_eq).ge)
      · rw [if_neg hx]
        have := p.isLt
        have e : (128#32 : BitVec 32).toInt = 128 := by decide
        rw [e]; omega

end Cert.Proof.FirstMax
-- ==== Proof.Spec.lean ====
module

public import proofs.«01_k».proof.Proof.FirstMax
public import Idealize.ShloMosaic.Lib.IdealHost

@[expose] public section

/-! The decoder of one batch row, written as mathematics over the extended reals: what the kernel and the reference both compute. -/

set_option maxRecDepth 16384

noncomputable section

namespace Cert.Proof.Spec
open Idealize.ShloMosaic Cert.Proof.FirstMax

/-- The weights. -/
structure Wt where
  embW : Fin 128 → EReal
  embB : Fin 128 → EReal
  waW : Fin 128 → Fin 128 → EReal
  waB : Fin 128 → EReal
  vaW : Fin 128 → EReal
  vaB : EReal
  wih : Fin 384 → Fin 256 → EReal
  whh : Fin 384 → Fin 128 → EReal
  bih : Fin 384 → EReal
  bhh : Fin 384 → EReal
  outW : Fin 128 → Fin 128 → EReal
  outB : Fin 128 → EReal

/-- The state of one batch row: the hidden vector, the decoder's input, the mask, the last choice. -/
structure St where
  h : Fin 128 → EReal
  d : EReal
  m : Fin 128 → Prop
  p : Fin 128

/-- The first position of the greatest value. -/
@[irreducible] def first (f : Fin 128 → EReal) : Fin 128 := sortedFrom (gtB f) 0

theorem first_eq (f : Fin 128 → EReal) : first f = sortedFrom (gtB f) 0 := by
  unfold first
  rfl

theorem first_is (f : Fin 128 → EReal) : Is f (first f) := by
  unfold first
  exact sorted_first f

/-- A position as a value. -/
def val (p : Fin 128) : EReal := FloatOps.sitofp (F := Ideal) .f32 (BitVec.ofNat 32 p.val)

variable (w : Wt) (E K : Fin 128 → Fin 128 → EReal)

def emb (d : EReal) (i : Fin 128) : EReal := d * w.embW i + w.embB i

def score (h : Fin 128 → EReal) (t : Fin 128) : EReal :=
  ∑ x, Ideal.tanh (∑ y, h y * w.waW x y + w.waB x + K t x) * w.vaW x + w.vaB

/-- The softmax's numerators. -/
def ex (f : Fin 128 → EReal) (t : Fin 128) : EReal := Ideal.exp (f t - mx f)

def att (h : Fin 128 → EReal) (t : Fin 128) : EReal :=
  Ideal.div (ex (score w K h) t) (∑ x, ex (score w K h) x)

def ctx (h : Fin 128 → EReal) (i : Fin 128) : EReal := ∑ x, att w K h x * E x i

/-- Row `o` of the input gates. -/
def gi (m c : Fin 128 → EReal) (o : Fin 384) : EReal :=
  ∑ x : Fin 128, m x * w.wih o ⟨x.val, by omega⟩ + ∑ x : Fin 128, c x * w.wih o ⟨128 + x.val, by omega⟩ + w.bih o
/-- Row `o` of the hidden gates. -/
def gh (h : Fin 128 → EReal) (o : Fin 384) : EReal := ∑ x, h x * w.whh o x + w.bhh o

def gru (h m c : Fin 128 → EReal) (i : Fin 128) : EReal :=
  (1 - Ideal.logistic (gi w m c ⟨128 + i.val, by omega⟩ + gh w h ⟨128 + i.val, by omega⟩)) *
      Ideal.tanh (gi w m c ⟨256 + i.val, by omega⟩ + Ideal.logistic (gi w m c ⟨i.val, by omega⟩ + gh w h ⟨i.val, by omega⟩) * gh w h ⟨256 + i.val, by omega⟩)
    + Ideal.logistic (gi w m c ⟨128 + i.val, by omega⟩ + gh w h ⟨128 + i.val, by omega⟩) * h i

def lg (h : Fin 128 → EReal) (i : Fin 128) : EReal := ∑ x, h x * w.outW i x + w.outB i

/-- The mask once the last choice is added. -/
def nm (s : St) (i : Fin 128) : Prop := s.m i ∨ i = s.p

/-- The next hidden vector. -/
def hN (s : St) : Fin 128 → EReal := gru w s.h (emb w s.d) (ctx w E K s.h)

open Classical in
/-- The masked logits of step `k`. -/
def masked (k : ℕ) (s : St) (i : Fin 128) : EReal :=
  if k = 0 then (if i.val = 0 then 1 else ⊥) else (if nm s i then ⊥ else lg w (hN w E K s) i)

def stepS (k : ℕ) (s : St) : St :=
  ⟨hN w E K s, val (first (lg w (hN w E K s))), fun i => if k = 0 then s.m i else nm s i, first (masked w E K k s)⟩

def st (s : St) : ℕ → St
  | 0 => s
  | k + 1 => stepS w E K k (st s k)

/-- The log-probability of the choice. -/
def logp (k : ℕ) (s : St) : EReal := 0 - Ideal.log (∑ i, ex (masked w E K k s) i)

/-! ### Finiteness -/

def Fin' (x : EReal) : Prop := ∃ r : ℝ, x = (r : EReal)

theorem fin_add {x y : EReal} : Fin' x → Fin' y → Fin' (x + y) := by
  rintro ⟨a, rfl⟩ ⟨b, rfl⟩; exact ⟨a + b, by norm_cast⟩
theorem fin_sub {x y : EReal} : Fin' x → Fin' y → Fin' (x - y) := by
  rintro ⟨a, rfl⟩ ⟨b, rfl⟩; exact ⟨a - b, by norm_cast⟩
theorem fin_mul {x y : EReal} : Fin' x → Fin' y → Fin' (x * y) := by
  rintro ⟨a, rfl⟩ ⟨b, rfl⟩; exact ⟨a * b, by norm_cast⟩
theorem fin_one : Fin' 1 := ⟨1, by norm_cast⟩
theorem fin_sum (f : Fin 128 → EReal) (h : ∀ x, Fin' (f x)) : Fin' (∑ x, f x) := by
  choose g hg using h
  refine ⟨∑ x, g x, ?_⟩
  rw [show f = fun x => (g x : EReal) from funext hg]
  push_cast
  rfl
theorem fin_tanh (x : EReal) : Fin' (Ideal.tanh x) := by
  induction x using EReal.rec with
  | bot => exact ⟨-1, rfl⟩
  | top => exact ⟨1, rfl⟩
  | coe r => exact ⟨Real.tanh r, rfl⟩
theorem fin_logistic (x : EReal) : Fin' (Ideal.logistic x) := by
  have key : ∀ y : EReal, 0 ≤ y → Fin' (Ideal.div 1 (1 + y)) := by
    intro y hy
    induction y using EReal.rec with
    | bot => exact absurd hy (by simp)
    | top =>
      refine ⟨0, ?_⟩
      have h1 : (1 : EReal) + ⊤ = ⊤ := EReal.add_top_of_ne_bot (EReal.coe_ne_bot 1)
      unfold Ideal.div
      rw [h1, if_neg (by simp), EReal.inv_top, mul_zero]
      rfl
    | coe r =>
      have hr : (0 : ℝ) ≤ r := by exact_mod_cast hy
      have h1 : (1 : EReal) + (r : EReal) = ((1 + r : ℝ) : EReal) := by norm_cast
      have h2 : ((1 + r : ℝ) : EReal) ≠ 0 := by
        have : (1 + r : ℝ) ≠ 0 := by positivity
        exact_mod_cast this
      refine ⟨(1 + r)⁻¹, ?_⟩
      unfold Ideal.div
      rw [h1, if_neg h2, one_mul]
      rfl
  refine key _ ?_
  generalize -x = y
  induction y using EReal.rec with
  | bot => exact le_refl _
  | top => exact le_top
  | coe r => show (0 : EReal) ≤ ((Real.exp r : ℝ) : EReal); exact_mod_cast (Real.exp_pos r).le

theorem fin_gru (h m c : Fin 128 → EReal) (hh : ∀ x, Fin' (h x)) (i : Fin 128) : Fin' (gru w h m c i) :=
  fin_add (fin_mul (fin_sub fin_one (fin_logistic _)) (fin_tanh _)) (fin_mul (fin_logistic _) (hh i))

theorem fin_lg (h : Fin 128 → EReal) (hh : ∀ x, Fin' (h x)) (hW : ∀ i x, Fin' (w.outW i x)) (hB : ∀ i, Fin' (w.outB i)) (i : Fin 128) :
    Fin' (lg w h i) := fin_add (fin_sum _ fun x => fin_mul (hh x) (hW i x)) (hB i)

theorem fin_st (s : St) (hs : ∀ x, Fin' (s.h x)) : ∀ k x, Fin' ((st w E K s k).h x)
  | 0 => hs
  | k + 1 => fun x => fin_gru w _ _ _ (fin_st s hs k) x

/-- Before step `k` at most `k - 1` positions are masked. -/
theorem card_mask (s : St) (hs : ∀ i, ¬ s.m i) : ∀ k, ∃ M : Finset (Fin 128), (∀ i, (st w E K s k).m i → i ∈ M) ∧ M.card ≤ k - 1
  | 0 => ⟨∅, fun i h => absurd h (hs i), by simp⟩
  | k + 1 => by
    obtain ⟨M, hM, hc⟩ := card_mask s hs k
    by_cases hk : k = 0
    · subst hk
      exact ⟨∅, fun i h => absurd h (by show ¬ (if 0 = 0 then s.m i else nm s i); simpa using hs i), by simp⟩
    · refine ⟨insert (st w E K s k).p M, fun i h => ?_, ?_⟩
      · have h' : (if k = 0 then (st w E K s k).m i else nm (st w E K s k) i) := h
        rw [if_neg hk] at h'
        rcases h' with h' | h'
        · exact Finset.mem_insert_of_mem (hM i h')
        · rw [h']; exact Finset.mem_insert_self _ _
      · have := Finset.card_insert_le (st w E K s k).p M
        omega

theorem exists_unmasked (s : St) (hs : ∀ i, ¬ s.m i) (k : ℕ) (hk : k < 128) (hk0 : k ≠ 0) : ∃ i, ¬ nm (st w E K s k) i := by
  obtain ⟨M, hM, hc⟩ := card_mask w E K s hs k
  by_contra hall
  have hall : ∀ i, nm (st w E K s k) i := fun i => not_not.mp fun h => hall ⟨i, h⟩
  have hsub : (Finset.univ : Finset (Fin 128)) ⊆ insert (st w E K s k).p M := fun i _ => by
    rcases hall i with h | h
    · exact Finset.mem_insert_of_mem (hM i h)
    · rw [h]; exact Finset.mem_insert_self _ _
  have h1 := Finset.card_le_card hsub
  have h2 := Finset.card_insert_le (st w E K s k).p M
  rw [Finset.card_univ, Fintype.card_fin] at h1
  omega

/-- The greatest masked logit is finite. -/
theorem fin_first (s : St) (hs : ∀ i, ¬ s.m i) (hh : ∀ x, Fin' (s.h x)) (hW : ∀ i x, Fin' (w.outW i x)) (hB : ∀ i, Fin' (w.outB i)) (k : ℕ) (hk : k < 128) :
    Fin' (masked w E K k (st w E K s k) (first (masked w E K k (st w E K s k)))) := by
  have hp := first_is (masked w E K k (st w E K s k))
  generalize first (masked w E K k (st w E K s k)) = p at hp
  have hlg : ∀ i, Fin' (lg w (hN w E K (st w E K s k)) i) := fin_lg w _ (fin_st w E K s hh (k + 1)) hW hB
  have hform : ∀ i, masked w E K k (st w E K s k) i = ⊥ ∨ Fin' (masked w E K k (st w E K s k) i) := by
    intro i
    unfold masked
    split
    · split
      · exact Or.inr fin_one
      · exact Or.inl rfl
    · split
      · exact Or.inl rfl
      · exact Or.inr (hlg i)
  have hex : ∃ i, Fin' (masked w E K k (st w E K s k) i) := by
    by_cases hk0 : k = 0
    · exact ⟨0, by unfold masked; rw [if_pos hk0]; exact fin_one⟩
    · obtain ⟨i, hi⟩ := exists_unmasked w E K s hs k hk hk0
      exact ⟨i, by unfold masked; rw [if_neg hk0, if_neg hi]; exact hlg i⟩
  rcases hform p with h | h
  · obtain ⟨i, r, hr⟩ := hex
    have := hp.le i
    rw [h, hr] at this
    exact absurd this (by simp)
  · exact h

end Cert.Proof.Spec
-- ==== Proof.KVals.lean ====
module

public import proofs.«01_k».proof.Proof.KernelIdealRun
public import proofs.«01_k».proof.Proof.Spec
public import Idealize.ShloMosaic.Lib.Pointwise
public import Idealize.ShloMosaic.Lib.IdealHost

@[expose] public section

/-! One step of the kernel, at the extended reals, is one step of the decoder in each batch column. -/

set_option maxRecDepth 16384

noncomputable section

namespace Cert.Proof.KVals
open Idealize.ShloMosaic Cert.Proof.KernelIdeal Cert.Proof.FirstMax Cert.Proof.Spec
open Cert.KernelIdeal Cert.KernelIdeal.Gen

/-! ### A sum over 128 rows, as the kernel orders it -/

/-- The rows `r`, `8 + r`, `16 + r`, … added in order. -/
abbrev row16 (f : Fin 128 → EReal) (r : Fin 8) : EReal :=
  f ⟨0 * 8 + r.val, by omega⟩ + f ⟨1 * 8 + r.val, by omega⟩ + f ⟨2 * 8 + r.val, by omega⟩ + f ⟨3 * 8 + r.val, by omega⟩ + f ⟨4 * 8 + r.val, by omega⟩ + f ⟨5 * 8 + r.val, by omega⟩ + f ⟨6 * 8 + r.val, by omega⟩ + f ⟨7 * 8 + r.val, by omega⟩ + f ⟨8 * 8 + r.val, by omega⟩ + f ⟨9 * 8 + r.val, by omega⟩ + f ⟨10 * 8 + r.val, by omega⟩ + f ⟨11 * 8 + r.val, by omega⟩ + f ⟨12 * 8 + r.val, by omega⟩ + f ⟨13 * 8 + r.val, by omega⟩ + f ⟨14 * 8 + r.val, by omega⟩ + f ⟨15 * 8 + r.val, by omega⟩

theorem tree_sum0 (f : Fin 128 → EReal) :
    ∑ k, f k = ∑ r : Fin 8, ∑ q : Fin 16, f ⟨q.val * 8 + r.val, by omega⟩ := by
  rw [Finset.sum_comm, ← Fintype.sum_prod_type' (f := fun (q : Fin 16) (r : Fin 8) => f ⟨q.val * 8 + r.val, by omega⟩)]
  refine (Fintype.sum_equiv (finProdFinEquiv (m := 16) (n := 8)) _ _ fun x => ?_).symm
  congr 1
  apply Fin.ext
  show x.1.val * 8 + x.2.val = x.2.val + 8 * x.1.val
  omega

theorem row16_eq (f : Fin 128 → EReal) (r : Fin 8) : row16 f r = ∑ q : Fin 16, f ⟨q.val * 8 + r.val, by omega⟩ := by
  simp only [Fin.sum_univ_castSucc (n := 15), Fin.sum_univ_castSucc (n := 14), Fin.sum_univ_castSucc (n := 13), Fin.sum_univ_castSucc (n := 12), Fin.sum_univ_castSucc (n := 11), Fin.sum_univ_castSucc (n := 10), Fin.sum_univ_castSucc (n := 9), Fin.sum_univ_castSucc (n := 8), Fin.sum_univ_eight]
  rfl

theorem tree_sum (f : Fin 128 → EReal) :
    (row16 f 0 + row16 f 4) + (row16 f 2 + row16 f 6) + ((row16 f 1 + row16 f 5) + (row16 f 3 + row16 f 7)) = ∑ k, f k := by
  simp only [tree_sum0, row16_eq, Fin.sum_univ_eight]
  exact (show ∀ a b c d e f g h : EReal, (a+e)+(c+g)+((b+f)+(d+h)) = a+b+c+d+e+f+g+h from fun a b c d e f g h => by ac_rfl) _ _ _ _ _ _ _ _

/-! ### The step -/

variable (w : Wts Ideal) (E K : Vec Ideal S128x128x128 .f32) (k : ℕ) (s : PSt Ideal) (i b t : Fin 128)

/-- The kernel's weights, as the decoder's. -/
def wtK : Wt where
  embW i := w.v4 (ix2 i 0)
  embB i := w.v6 (ix2 i 0)
  waW i x := w.v7 (ix2 i x)
  waB i := w.v9 (ix2 i 0)
  vaW x := w.v10 (ix2 0 x)
  vaB := w.v12 (ix2 0 0)
  wih o x := w.v13 (ix2 o x)
  whh o x := w.v14 (ix2 o x)
  bih o := w.v16 (ix2 o 0)
  bhh o := w.v18 (ix2 o 0)
  outW i x := w.v19 (ix2 i x)
  outB i := w.v21 (ix2 i 0)

def colE (b t i : Fin 128) : EReal := E (ix3 b t i)
def colK (b t i : Fin 128) : EReal := K (ix3 t i b)
/-- Column `b` of a matrix. -/
def col (x : Vec Ideal S128x128 .f32) (b i : Fin 128) : EReal := x (ix2 i b)

theorem emb_at : embP w s (ix2 i b) = emb (wtK w) (s.d (ix2 0 b)) i := by
  unfold embP
  pointwise [k0_pay8]
  exact congrArg (· + _) (mul_comm _ _)

theorem scores_at : scV w (k0_pay9 w.v7 w.v9 s.h K) (ix2 t b) = score (wtK w) (colK K b) (col s.h b) t := by
  have h9 : ∀ x, k0_pay9 w.v7 w.v9 s.h K (ix3 t x b) = Ideal.tanh (K (ix3 t x b) + (∑ y, w.v7 (ix2 x y) * s.h (ix2 y b) + w.v9 (ix2 x 0))) := by
    intro x
    pointwise [k0_pay9]
  unfold scV
  pointwise [k0_pay10, rowAt]
  unfold score
  refine congrArg (· + _) (Finset.sum_congr rfl fun x _ => ?_)
  rw [h9 x, mul_comm]
  refine congrArg (fun z => Ideal.tanh z * _) ?_
  rw [add_comm]
  exact congrArg (fun z => z + _ + _) (Finset.sum_congr rfl fun y _ => mul_comm _ _)

theorem ex_at (sc : Vec Ideal S128x128 .f32) : k0_pay170 sc (ix2 i b) = ex (col sc b) i := by
  pointwise [k0_pay170]
  rfl

theorem smax_at (sc : Vec Ideal S128x128 .f32) : smaxV sc (ix2 i b) = Ideal.div (ex (col sc b) i) (∑ x, ex (col sc b) x) := by
  have h : smaxV sc (ix2 i b) = Ideal.div (k0_pay170 sc (ix2 i b)) (∑ k, k0_pay170 sc (ix2 k b)) := by
    unfold smaxV k0_pay171
    generalize k0_pay170 sc = e
    pointwise [k0_pay181, k0_pay172, k0_pay173, k0_pay174, k0_pay175, k0_pay176, k0_pay177, k0_pay178, k0_pay179, k0_pay180]
    exact congrArg _ (tree_sum fun k => e (ix2 k b))
  rw [h, ex_at]
  exact congrArg _ (Finset.sum_congr rfl fun x _ => ex_at x b sc)

theorem att_at : attP w K s (ix2 t b) = att (wtK w) (colK K b) (col s.h b) t := by
  have hc : col (scV w (k0_pay9 w.v7 w.v9 s.h K)) b = score (wtK w) (colK K b) (col s.h b) := funext fun t => scores_at w K s b t
  unfold attP att
  rw [smax_at, hc]

theorem ctx_at : ctxP w E K s (ix2 b i) = ctx (wtK w) (colE E b) (colK K b) (col s.h b) i := by
  unfold ctxP ctx
  have h : ∀ a, ctxV (F := Ideal) a E (ix2 b i) = ∑ x, a (ix2 x b) * E (ix3 b x i) := by
    intro a
    unfold ctxV
    pointwise [ctxRow, k0_pay183, rowAt]
  rw [h]
  exact Finset.sum_congr rfl fun x _ => congrArg (· * _) (att_at w K s b x)

theorem gi_eq (m c : Fin 128 → EReal) (o : Fin 384) :
    ∑ x : Fin 128, w.v13 (ix2 o ⟨x.val, by omega⟩) * m x + ∑ x : Fin 128, w.v13 (ix2 o ⟨128 + x.val, by omega⟩) * c x + w.v16 (ix2 o 0) = gi (wtK w) m c o := by
  unfold gi
  rw [Finset.sum_congr rfl fun x _ => mul_comm (w.v13 _) (m x), Finset.sum_congr rfl fun x _ => mul_comm (w.v13 _) (c x)]
  rfl

theorem gh_eq (h : Fin 128 → EReal) (o : Fin 384) : ∑ x : Fin 128, w.v14 (ix2 o x) * h x + w.v18 (ix2 o 0) = gh (wtK w) h o := by
  unfold gh
  rw [Finset.sum_congr rfl fun x _ => mul_comm (w.v14 _) (h x)]
  rfl

theorem gru_at (m : Vec Ideal S128x128 .f32) (c : Vec Ideal S128x128 .f32) :
    k0_pay341 (F := Ideal) w.v13 w.v14 w.v16 w.v18 s.h m c (ix2 i b) = gru (wtK w) (col s.h b) (col m b) (fun x => c (ix2 b x)) i := by
  unfold gru
  simp only [← gi_eq, ← gh_eq, col]
  pointwise [k0_pay341]

/-- The state of the decoder in a batch column. -/
structure RelK (b : Fin 128) (s : PSt Ideal) (σ : St) : Prop where
  h : col s.h b = σ.h
  d : s.d (ix2 0 b) = σ.d
  m : ∀ i, (σ.m i → s.m (ix2 i b) = ⊥) ∧ (¬ σ.m i → s.m (ix2 i b) = 0)
  o : ∀ i, (i = σ.p → s.o (ix2 i b) = 1) ∧ (i ≠ σ.p → s.o (ix2 i b) = 0)

variable {b s} {σ : St} (hr : RelK b s σ)

include hr in
theorem h_at : hP w E K s (ix2 i b) = hN (wtK w) (colE E b) (colK K b) σ i := by
  have he : col (embP w s) b = emb (wtK w) σ.d := funext fun x => by rw [← hr.d]; exact emb_at w s x b
  have hc : (fun x => ctxP w E K s (ix2 b x)) = ctx (wtK w) (colE E b) (colK K b) σ.h := funext fun x => by rw [← hr.h]; exact ctx_at w E K s x b
  unfold hP hN
  rw [gru_at, he, hc, hr.h]

include hr in
theorem lg_at : lgP w E K s (ix2 i b) = lg (wtK w) (hN (wtK w) (colE E b) (colK K b) σ) i := by
  have h : lgP w E K s (ix2 i b) = ∑ x, w.v19 (ix2 i x) * hP w E K s (ix2 x b) + w.v21 (ix2 i 0) := by
    unfold lgP k0_pay342
    pointwise []
    rfl
  rw [h]
  unfold lg
  refine congrArg (· + _) (Finset.sum_congr rfl fun x _ => ?_)
  rw [h_at w E K x hr, mul_comm]
  rfl

variable (h22 : ∀ x : Fin 128, w.v22 (ix2 x b) = BitVec.ofNat 32 x.val) (h38 : w.cst_38 = ⊥)

include hr h22 in
theorem dec_at : decP w E K s (ix2 0 b) = val (first (lg (wtK w) (hN (wtK w) (colE E b) (colK K b) σ))) := by
  have hl : col (lgP w E K s) b = lg (wtK w) (hN (wtK w) (colE E b) (colK K b) σ) := funext fun x => lg_at w E K x hr
  rw [← hl]
  unfold val
  rw [← fold_minsi _ _ (first_is _)]
  unfold decP k0_pay343
  pointwise []
  simp only [h22]
  rfl

theorem half_f32 : Ideal.ofBits .f32 1056964608#32 = (((1 : ℝ) / 2 : ℝ) : EReal) := by
  show Ideal.ieee 8 23 1056964608#32 = _
  simp [Ideal.ieee, -EReal.coe_mul]; norm_num
theorem neg_one_f32 : Ideal.ofBits .f32 3212836864#32 = ((-(1 : ℝ) : ℝ) : EReal) := by
  show Ideal.ieee 8 23 3212836864#32 = _
  simp [Ideal.ieee, -EReal.coe_mul, -EReal.coe_neg]; norm_num

theorem firstP_eq (hk : k < 128) : firstP k = if k = 0 then 1#1 else 0#1 := by
  unfold firstP
  revert k
  decide

include hr h38 in
theorem nm_at : (nm σ i → nmP w s (ix2 i b) = ⊥) ∧ (¬ nm σ i → nmP w s (ix2 i b) = 0) := by
  have h : nmP w s (ix2 i b) = if Ideal.ofBits .f32 1056964608#32 < s.o (ix2 i b) then w.cst_38 else s.m (ix2 i b) := by
    unfold nmP
    pointwise [k0_pay344]
  rw [h, half_f32, h38]
  have h1 : (((1 : ℝ) / 2 : ℝ) : EReal) < 1 := by
    rw [← EReal.coe_one, EReal.coe_lt_coe_iff]; norm_num
  have h0 : ¬ (((1 : ℝ) / 2 : ℝ) : EReal) < 0 := by
    rw [← EReal.coe_zero, EReal.coe_lt_coe_iff]; norm_num
  unfold nm
  by_cases hp : i = σ.p
  · rw [(hr.o i).1 hp, if_pos h1]
    exact ⟨fun _ => rfl, fun h => absurd (Or.inr hp) h⟩
  · rw [(hr.o i).2 hp, if_neg h0]
    exact ⟨fun h => (hr.m i).1 (h.resolve_right hp), fun h => (hr.m i).2 fun h' => h (Or.inl h')⟩

/-- The kernel's masked logits. -/
abbrev msP (w : Wts Ideal) (E K : Vec Ideal S128x128x128 .f32) (k : ℕ) (s : PSt Ideal) : FVec Ideal S128x128 .f32 :=
  k0_pay348 w.cst_38 (lgP w E K s) (nmP w s) (firstP k) (k0_pay345 w.v22) k0_pay346 (k0_pay347 w.cst_38)

include hr h22 h38 in
theorem ms_at (hk : k < 128) : msP w E K k s (ix2 i b) = masked (wtK w) (colE E b) (colK K b) k σ i := by
  have h : msP w E K k s (ix2 i b) = Scalar.select (firstP k) (Scalar.select (IntOp.cmpi .eq (w.v22 (ix2 i b)) 0#32) 1 w.cst_38)
      (if nmP w s (ix2 i b) < Ideal.ofBits .f32 3212836864#32 then w.cst_38 else lgP w E K s (ix2 i b)) := by
    pointwise [k0_pay348, k0_pay345, k0_pay346, k0_pay347]
  obtain ⟨hn1, hn2⟩ := nm_at w i hr h38
  rw [h, firstP_eq k hk, h38, h22, neg_one_f32, lg_at w E K i hr]
  unfold masked
  by_cases hk0 : k = 0
  · rw [if_pos hk0, if_pos hk0]
    show Scalar.select (IntOp.cmpi .eq (BitVec.ofNat 32 i.val) 0#32) (1 : EReal) ⊥ = _
    by_cases hi : i.val = 0
    · rw [if_pos hi, hi]; rfl
    · rw [if_neg hi]
      have : IntOp.cmpi .eq (BitVec.ofNat 32 i.val) 0#32 = 0#1 := by
        exact (show ∀ i : Fin 128, ¬ i.val = 0 → IntOp.cmpi .eq (BitVec.ofNat 32 i.val) 0#32 = 0#1 by decide) i hi
      rw [this]; rfl
  · rw [if_neg hk0, if_neg hk0]
    show (if nmP w s (ix2 i b) < ((-(1 : ℝ) : ℝ) : EReal) then (⊥ : EReal) else lg (wtK w) (hN (wtK w) (colE E b) (colK K b) σ) i) = _
    by_cases hm : nm σ i
    · rw [if_pos hm, hn1 hm, if_pos (EReal.bot_lt_coe _)]
    · rw [if_neg hm, hn2 hm, if_neg]
      rw [← EReal.coe_zero]
      exact not_lt.mpr (EReal.coe_le_coe_iff.mpr (by norm_num))

include hr h22 h38 in
theorem idx_at (hk : k < 128) : idxP w E K k s (ix2 0 b) = BitVec.ofNat 32 (first (masked (wtK w) (colE E b) (colK K b) k σ)).val := by
  have hl : col (msP w E K k s) b = masked (wtK w) (colE E b) (colK K b) k σ := funext fun x => ms_at w E K k x hr h22 h38 hk
  rw [← hl, ← fold_minsi _ _ (first_is _)]
  unfold idxP k0_pay351 k0_pay350
  pointwise []
  simp only [h22]
  rfl

include hr h22 h38 in
theorem oh_at (hk : k < 128) : (i = first (masked (wtK w) (colE E b) (colK K b) k σ) → ohP w E K k s (ix2 i b) = 1) ∧
    (i ≠ first (masked (wtK w) (colE E b) (colK K b) k σ) → ohP w E K k s (ix2 i b) = 0) := by
  have h : ohP w E K k s (ix2 i b) = FloatOps.sitofp (F := Ideal) .f32 (BitVec.setWidth 32 (IntOp.cmpi .eq (w.v22 (ix2 i b)) (idxP w E K k s (ix2 0 b)))) := by
    unfold ohP k0_pay352
    pointwise []
    rfl
  rw [h, idx_at w E K k hr h22 h38 hk, h22]
  generalize first (masked (wtK w) (colE E b) (colK K b) k σ) = p
  refine ⟨fun e => ?_, fun e => ?_⟩
  · subst e
    have : IntOp.cmpi .eq (BitVec.ofNat 32 i.val) (BitVec.ofNat 32 i.val) = 1#1 := by simp [IntOp.cmpi]
    rw [this]
    show (((BitVec.setWidth 32 1#1).toInt : ℝ) : EReal) = 1
    rw [show (BitVec.setWidth 32 1#1).toInt = 1 by decide]
    norm_num
  · have : IntOp.cmpi .eq (BitVec.ofNat 32 i.val) (BitVec.ofNat 32 p.val) = 0#1 := by
      have hne : ¬ BitVec.ofNat 32 i.val = BitVec.ofNat 32 p.val := fun h => e (Fin.ext (by
        have := congrArg BitVec.toNat h
        simp only [BitVec.toNat_ofNat] at this
        omega))
      simp only [IntOp.cmpi, beq_eq_false_iff_ne.mpr hne]
      rfl
    rw [this]
    show (((BitVec.setWidth 32 0#1).toInt : ℝ) : EReal) = 0
    rw [show (BitVec.setWidth 32 0#1).toInt = 0 by decide]
    norm_num

include hr h22 h38 in
theorem lp_at (hk : k < 128) : lpP w E K k s (ix3 0 0 b) = logp (wtK w) (colE E b) (colK K b) k σ := by
  have hl : col (msP w E K k s) b = masked (wtK w) (colE E b) (colK K b) k σ := funext fun x => ms_at w E K k x hr h22 h38 hk
  have h : lpP w E K k s (ix3 0 0 b) = 0 - Ideal.log (∑ i, exP w E K k s (ix2 i b)) := by
    unfold lpP k0_pay354 k0_pay355
    change (k0_pay367 (exP w E K k s) _ _ _ _ _ _ _ _) _ = _
    generalize hx : exP w E K k s = x
    unfold exP at hx
    rw [hx]
    pointwise [k0_pay367, k0_pay356, k0_pay357, k0_pay358, k0_pay359, k0_pay360, k0_pay361, k0_pay362, k0_pay363, k0_pay364, k0_pay365]
    exact congrArg (fun z => 0 - Ideal.log z) (tree_sum fun k => x (ix2 k b))
  have hx : ∀ i, exP w E K k s (ix2 i b) = ex (col (msP w E K k s) b) i := by
    intro i
    unfold exP k0_pay353 k0_pay350
    pointwise []
    rfl
  rw [h, Finset.sum_congr rfl fun x _ => hx x, hl]
  rfl

include hr h22 h38 in
theorem relK_step (hk : k < 128) : RelK b (stepP w E K k s) (stepS (wtK w) (colE E b) (colK K b) k σ) where
  h := funext fun x => h_at w E K x hr
  d := by
    show k0_pay7 (decP w E K s) (ix2 0 b) = _
    refine Eq.trans ?_ (dec_at w E K hr h22)
    pointwise [k0_pay7]
  m := fun i => by
    have h : (stepP w E K k s).m (ix2 i b) = Scalar.select (firstP k) (s.m (ix2 i b)) (nmP w s (ix2 i b)) := by
      show k0_pay5 (mP w k s) (ix2 i b) = _
      unfold mP
      pointwise [k0_pay5, k0_pay349]
    rw [h, firstP_eq k hk]
    show ((if k = 0 then σ.m i else nm σ i) → _) ∧ _
    by_cases hk0 : k = 0
    · rw [if_pos hk0, if_pos hk0]
      refine ⟨(hr.m i).1, fun h => (hr.m i).2 fun h' => h ?_⟩
      show (if k = 0 then σ.m i else nm σ i)
      rwa [if_pos hk0]
    · rw [if_neg hk0, if_neg hk0]
      refine ⟨(nm_at w i hr h38).1, fun h => (nm_at w i hr h38).2 fun h' => h ?_⟩
      show (if k = 0 then σ.m i else nm σ i)
      rwa [if_neg hk0]
  o := fun i => by
    have h : (stepP w E K k s).o (ix2 i b) = ohP w E K k s (ix2 i b) := by
      show k0_pay6 (ohP w E K k s) (ix2 i b) = _
      pointwise [k0_pay6]
    have h2 := oh_at w E K k i hr h22 h38 hk
    rw [h]
    unfold stepS
    dsimp only
    exact h2

include hr h22 h38 in
/-- Every step of the kernel is a step of the decoder. -/
theorem relK_st (n : ℕ) (hn : n ≤ 128) : RelK b (stP w E K s n) (st (wtK w) (colE E b) (colK K b) σ n) := by
  induction n with
  | zero => exact hr
  | succ n ih =>
    have h := relK_step w E K n (ih (by omega)) h22 h38 (by omega)
    rw [stP, st]
    exact h

end Cert.Proof.KVals
-- ==== Proof.RefOps.lean ====
module

public import proofs.«01_k».proof.Proof.Gen.ReferenceIdeal.Step
public import proofs.«01_k».proof.Proof.Spec
public import Idealize.ShloMosaic.Lib.Pointwise
public import Idealize.ShloMosaic.Lib.IdealHost
public import Idealize.ShloMosaic.Lib.Routing.OpsPair
public import Idealize.ShloMosaic.Lib.Routing.OpsSet
public import Idealize.ShloMosaic.Lib.DynamicIndex
public import Idealize.ShloMosaic.Lib.Pipeline.Value

@[expose] public section

set_option maxRecDepth 16384

noncomputable section

namespace Cert.Proof.RefOps
open Idealize.ShloMosaic Idealize.ShloMosaic.Routing Cert.Proof.FirstMax Cert.Proof.Spec
open Cert.ReferenceIdeal Cert.ReferenceIdeal.Step Cert.ReferenceIdeal.Gen

/-! The reference's operations that address by index, read at an index. -/

theorem along_at (b p q : Fin 128) : (ix2 b p : S128x128.Idx).along 1 q = ix2 b q := by
  funext a
  match a with
  | ⟨0, _⟩ => rfl
  | ⟨1, _⟩ => rfl

theorem sort_at (x : Vec Ideal S128x128 .f32) (y : IVec S128x128 32) (hy : ∀ b i : Fin 128, y (ix2 b i) = BitVec.ofNat 32 i.val) (b : Fin 128) :
    (Host.sort2 S128x128 1 (fun l r => FloatOps.cmpfTotal (F := Ideal) (φ := .f32) .gt l.1 r.1) x y).2 (ix2 b 0) = BitVec.ofNat 32 (first fun i => x (ix2 b i)).val := by
  unfold Host.sort2
  rw [dif_pos (show 1 < S128x128.rank by decide)]
  dsimp only
  rw [first_eq]
  have hf : (fun k k' : Fin 128 => (FloatOps.cmpfTotal (F := Ideal) (φ := .f32) .gt (x ((ix2 b 0 : S128x128.Idx).along 1 k)) (x ((ix2 b 0 : S128x128.Idx).along 1 k')) == 1#1)) = gtB (fun i => x (ix2 b i)) := by
    funext k k'
    rw [along_at, along_at]
    rfl
  exact ((congrArg y (along_at b 0 _)).trans (hy b _)).trans (congrArg (fun g => BitVec.ofNat 32 (sortedFrom g 0).val) hf)

theorem topK_at (x : Vec Ideal S128x128 .f32) (h) (b : Fin 128) :
    (Host.topK S128x1 1 (FloatOps.cmpfTotal (F := Ideal) (φ := .f32) .gt) x h).2 (ix2 b 0) = BitVec.ofNat 32 (first fun i => x (ix2 b i)).val := by
  rw [← sort_at x (fun i => BitVec.ofNat 32 (i 1).val) (fun _ _ => rfl) b]
  unfold Host.topK
  dsimp only
  refine congrArg (Host.sort2 S128x128 1 (fun l r => FloatOps.cmpfTotal (F := Ideal) (φ := .f32) .gt l.1 r.1) x (fun i => BitVec.ofNat 32 (i 1).val)).2 ?_
  funext a
  match a with
  | ⟨0, _⟩ => exact Fin.ext (Nat.zero_add _)
  | ⟨1, _⟩ => rfl

theorem scat1_lands (idx : IVec S1 32) (k r c : Fin 128) :
    scatter_S128x128_S1_S128_0_1_1_0.resultIdx? (ix1 k) idx = some (ix2 r c) ↔ k = r ∧ (idx (ix1 0)).toInt = c.val := by
  have h0 : scatter_S128x128_S1_S128_0_1_1_0.start (ix1 k) idx 0 = 0 := rfl
  have h1 : scatter_S128x128_S1_S128_0_1_1_0.start (ix1 k) idx 1 = (idx (ix1 0)).toInt := by
    show (idx _).toInt = _
    refine congrArg (fun i => (idx i).toInt) ?_
    funext a
    match a with
    | ⟨0, _⟩ => rfl
  have h2 : scatter_S128x128_S1_S128_0_1_1_0.window (ix1 k) 0 = k.val := rfl
  have h3 : scatter_S128x128_S1_S128_0_1_1_0.window (ix1 k) 1 = 0 := rfl
  refine (resultIdx?_ix2 (R := 128) (C := 128) scatter_S128x128_S1_S128_0_1_1_0 (ix1 k) idx r c).trans ?_
  rw [h0, h1, h2, h3, Fin.ext_iff]
  omega

theorem scat2_lands (idx : IVec S128x2 32) (k r c : Fin 128) :
    scatter_S128x128_S128x2_S128_n_01_01_1.resultIdx? (ix1 k) idx = some (ix2 r c) ↔ (idx (ix2 k 0)).toInt = r.val ∧ (idx (ix2 k 1)).toInt = c.val := by
  have h0 : scatter_S128x128_S128x2_S128_n_01_01_1.start (ix1 k) idx 0 = (idx (ix2 k 0)).toInt := by
    show (idx _).toInt = _
    refine congrArg (fun i => (idx i).toInt) ?_
    funext a
    match a with
    | ⟨0, _⟩ => rfl
    | ⟨1, _⟩ => rfl
  have h1 : scatter_S128x128_S128x2_S128_n_01_01_1.start (ix1 k) idx 1 = (idx (ix2 k 1)).toInt := by
    show (idx _).toInt = _
    refine congrArg (fun i => (idx i).toInt) ?_
    funext a
    match a with
    | ⟨0, _⟩ => rfl
    | ⟨1, _⟩ => rfl
  have h2 : scatter_S128x128_S128x2_S128_n_01_01_1.window (ix1 k) 0 = 0 := rfl
  have h3 : scatter_S128x128_S128x2_S128_n_01_01_1.window (ix1 k) 1 = 0 := rfl
  refine (resultIdx?_ix2 (R := 128) (C := 128) scatter_S128x128_S128x2_S128_n_01_01_1 (ix1 k) idx r c).trans ?_
  rw [h0, h1, h2, h3]
  omega

theorem gather_at (x : Vec Ideal S128x128 .f32) (idx : IVec S128x1x1 32) (b p : Fin 128) (h : idx (ix3 b 0 0) = BitVec.ofNat 32 p.val) :
    Host.gather gather_S128x128_S128x1x1_S128x1_n_1_0_0_1_2_11 x idx (ix2 b 0) = x (ix2 b p) := by
  unfold Host.gather
  refine congrArg x (funext fun a => Fin.ext ?_)
  match a with
  | ⟨0, _⟩ =>
    show 0 + b.val + 0 = b.val
    omega
  | ⟨1, _⟩ =>
    have hs : gather_S128x128_S128x1x1_S128x1_n_1_0_0_1_2_11.start (ix2 b 0) idx 1 = min (idx (ix3 b 0 0)).toInt.toNat 127 := by
      show min (idx _).toInt.toNat 127 = _
      refine congrArg (fun i => min (idx i).toInt.toNat 127) ?_
      funext a
      match a with
      | ⟨0, _⟩ => rfl
      | ⟨1, _⟩ => rfl
      | ⟨2, _⟩ => rfl
    show gather_S128x128_S128x1x1_S128x1_n_1_0_0_1_2_11.start (ix2 b 0) idx 1 + 0 + 0 = p.val
    rw [hs, h, toInt_small _ p.isLt.le]
    have := p.isLt
    simp only [Int.toNat_natCast]
    omega

theorem scat1_at (x0 : Vec Ideal S128x128 .f32) (idx : IVec S1 32) (upd : Vec Ideal S128 .f32) (v : EReal) (hidx : idx (ix1 0) = 0#32) (hv : ∀ k, upd k = v) (b i : Fin 128) :
    Host.scatter scatter_S128x128_S1_S128_0_1_1_0 (fun _ b => b) x0 idx upd (ix2 b i) = if i.val = 0 then v else x0 (ix2 b i) := by
  by_cases hi : i.val = 0
  · rw [if_pos hi]
    refine scatter_set_hit _ x0 idx upd (ix2 b i) v (fun k _ => hv k) (ix1 b) ((scat1_lands idx b b i).mpr ⟨rfl, ?_⟩)
    rw [hidx, hi]; rfl
  · rw [if_neg hi]
    refine scatter_set_miss _ x0 idx upd (ix2 b i) fun k hk => ?_
    obtain ⟨q, rfl⟩ : ∃ q : Fin 128, k = ix1 q := ⟨k 0, by funext a; match a with | ⟨0, _⟩ => rfl⟩
    have h := ((scat1_lands idx q b i).mp hk).2
    rw [hidx, show (0#32 : BitVec 32).toInt = 0 by decide] at h
    omega

theorem scat2_at (x0 : IVec S128x128 1) (idx : IVec S128x2 32) (upd : IVec S128 1) (hv : ∀ k, upd k = 1#1) (b i p : Fin 128)
    (h0 : ∀ k : Fin 128, idx (ix2 k 0) = BitVec.ofNat 32 k.val) (h1 : idx (ix2 b 1) = BitVec.ofNat 32 p.val) :
    Host.scatter scatter_S128x128_S128x2_S128_n_01_01_1 (fun _ b => b) x0 idx upd (ix2 b i) = if i = p then 1#1 else x0 (ix2 b i) := by
  by_cases hi : i = p
  · rw [if_pos hi]
    refine scatter_set_hit _ x0 idx upd (ix2 b i) 1#1 (fun k _ => hv k) (ix1 b) ((scat2_lands idx b b i).mpr ⟨?_, ?_⟩)
    · rw [h0, toInt_small _ b.isLt.le]
    · rw [h1, toInt_small _ p.isLt.le, hi]
  · rw [if_neg hi]
    refine scatter_set_miss _ x0 idx upd (ix2 b i) fun k hk => ?_
    obtain ⟨q, rfl⟩ : ∃ q : Fin 128, k = ix1 q := ⟨k 0, by funext a; match a with | ⟨0, _⟩ => rfl⟩
    obtain ⟨e0, e1⟩ := (scat2_lands idx q b i).mp hk
    rw [h0, toInt_small _ q.isLt.le] at e0
    have hq : q = b := Fin.ext (by exact_mod_cast e0)
    rw [hq, h1, toInt_small _ p.isLt.le] at e1
    exact hi (Fin.ext (by exact_mod_cast e1.symm))

end Cert.Proof.RefOps
-- ==== Proof.RVals.lean ====
module

public import proofs.«01_k».proof.Proof.RefOps

@[expose] public section

/-! One step of the reference, at the extended reals, is one step of the decoder in each batch row. -/

set_option maxRecDepth 16384

noncomputable section

namespace Cert.Proof.RVals
open Idealize.ShloMosaic Idealize.ShloMosaic.Routing Cert.Proof.FirstMax Cert.Proof.Spec Cert.Proof.RefOps
open Cert.ReferenceIdeal Cert.ReferenceIdeal.Step Cert.ReferenceIdeal.Gen

variable (j : ℕ) (s : State Ideal) (b i t : Fin 128)

/-- The reference's weights, as the decoder's. -/
def wtR : Wt where
  embW i := s.main_v13_1 (ix2 i 0)
  embB i := s.main_v13_2 (ix1 i)
  waW i x := s.main_v13_3 (ix2 i x)
  waB i := s.main_v13_4 (ix1 i)
  vaW x := s.main_v13_6 (ix2 0 x)
  vaB := s.main_v13_7 (ix1 0)
  wih o x := s.main_v13_9 (ix2 o x)
  whh o x := s.main_v13_11 (ix2 o x)
  bih o := s.main_v13_10 (ix1 o)
  bhh o := s.main_v13_12 (ix1 o)
  outW i x := s.main_v13_13 (ix2 i x)
  outB i := s.main_v13_14 (ix1 i)

def rowE (b t i : Fin 128) : EReal := s.main_v13_8 (ix3 b t i)
def rowK (b t i : Fin 128) : EReal := s.main_v13_5 (ix3 b t i)
/-- Row `b` of a matrix. -/
def row (x : Vec Ideal S128x128 .f32) (b i : Fin 128) : EReal := x (ix2 b i)

theorem emb_at : b6 j s (ix2 b i) = emb (wtR s) (s.main_v13_18 (ix2 b 0)) i := by
  pointwise [b6, b5, b4, b3, b2]
  rw [Fin.sum_univ_one]
  rfl

theorem score_at : b21 j s (ix2 b t) = score (wtR s) (rowK s b) (row s.main_v13_16 b) t := by
  pointwise [b21, b20, b19, b18, b17, b16, b15, b14, b13, b12, b11, b10, b9, b8, b7]
  rfl

theorem ex_at : b30 j s (ix2 b t) = ex (row (b21 j s) b) t := by
  pointwise [b30, b29, b28, b27, b26, b25, b24, b23, b22]
  exact congrArg (fun z => Ideal.exp (_ - z)) (max_eq_right bot_le)

theorem att_at : b35 j s (ix2 b t) = att (wtR s) (rowK s b) (row s.main_v13_16 b) t := by
  have hc : row (b21 j s) b = score (wtR s) (rowK s b) (row s.main_v13_16 b) := funext fun t => score_at j s b t
  have h : b35 j s (ix2 b t) = Ideal.div (b30 j s (ix2 b t)) (∑ x, b30 j s (ix2 b x)) := by
    pointwise [b35, b34, b33, b32, b31]
  unfold att
  rw [h, ex_at, Finset.sum_congr rfl fun x _ => ex_at j s b x, hc]

theorem ctx_at : b36 j s (ix2 b i) = ctx (wtR s) (rowE s b) (rowK s b) (row s.main_v13_16 b) i := by
  have h : b36 j s (ix2 b i) = ∑ x, b35 j s (ix2 b x) * s.main_v13_8 (ix3 b x i) := by
    pointwise [b36]
  rw [h]
  exact Finset.sum_congr rfl fun x _ => congrArg (· * _) (att_at j s b x)

theorem gru_at : b80 j s (ix2 b i) = gru (wtR s) (row s.main_v13_16 b) (row (b6 j s) b) (row (b36 j s) b) i := by
  unfold gru gi gh
  simp only [Ideal.logistic]
  pointwise [b80, b79, b78, b77, b76, b75, b74, b73, b72, b71, b70, b69, b68, b67, b66, b65, b64, b63, b62, b61, b60, b59, b58, b57, b56, b55, b54, b53, b52, b51, b50, b49, b48, b47, b46, b45, b44, b43, b42, b41, b40, b39, b38, b37]
  rfl

/-- The state of the decoder in a batch row. -/
structure RelR (b : Fin 128) (s : State Ideal) (σ : St) : Prop where
  h : row s.main_v13_16 b = σ.h
  d : s.main_v13_18 (ix2 b 0) = σ.d
  m : ∀ i, (σ.m i → s.main_v13_17 (ix2 b i) = 1#1) ∧ (¬ σ.m i → s.main_v13_17 (ix2 b i) = 0#1)
  p : s.main_v13_19 (ix1 b) = BitVec.ofNat 32 σ.p.val

variable {b s} {σ : St} (hr : RelR b s σ)

include hr in
theorem h_at : b80 j s (ix2 b i) = hN (wtR s) (rowE s b) (rowK s b) σ i := by
  have he : row (b6 j s) b = emb (wtR s) σ.d := funext fun x => by rw [← hr.d]; exact emb_at j s b x
  have hc : row (b36 j s) b = ctx (wtR s) (rowE s b) (rowK s b) σ.h := funext fun x => by rw [← hr.h]; exact ctx_at j s b x
  unfold hN
  rw [gru_at, he, hc, hr.h]

include hr in
theorem lg_at : b85 j s (ix2 b i) = lg (wtR s) (hN (wtR s) (rowE s b) (rowK s b) σ) i := by
  have h : b85 j s (ix2 b i) = ∑ x, b80 j s (ix2 b x) * s.main_v13_13 (ix2 i x) + s.main_v13_14 (ix1 i) := by
    pointwise [b85, b84, b83, b82, b81]
  rw [h]
  unfold lg
  exact congrArg (· + _) (Finset.sum_congr rfl fun x _ => congrArg (· * _) (h_at j x hr))

include hr in
theorem dec_at : b90 j s (ix2 b 0) = val (first (lg (wtR s) (hN (wtR s) (rowE s b) (rowK s b) σ))) := by
  have hl : (fun i => b85 j s (ix2 b i)) = lg (wtR s) (hN (wtR s) (rowE s b) (rowK s b) σ) := funext fun x => lg_at j x hr
  have h : b90 j s (ix2 b 0) = FloatOps.sitofp (F := Ideal) .f32 (b87 j s (ix2 b 0)) := by
    pointwise [b90, b89, b88]
  rw [h, ← hl]
  exact congrArg _ (topK_at (b85 j s) _ b)

theorem toInt_ofNat (hj : j < 128) : (BitVec.ofNat 32 j).toInt = j := toInt_small j hj.le

theorem first_flag (hj : j < 128) : b92 j s ix0 = if j = 0 then 1#1 else 0#1 := by
  have h0 : b0 j s (ix1 0) = BitVec.ofNat 32 j := by
    unfold b0
    refine (congrFun (Host.dynamicSlice_eq_extractStridedSlice (s := S128) S1 _ _ (fun _ => j) _ ⟨rfl, fun a => ?_⟩ fun a => ?_) (ix1 0)).trans ?_
    · match a with
      | ⟨0, _⟩ => show j + 1 ≤ 128; omega
    · match a with
      | ⟨0, _⟩ => exact toInt_ofNat j hj
    · rfl
  have h : b92 j s ix0 = IntOp.cmpi .eq (b0 j s (ix1 0)) 0#32 := by
    pointwise [b92, b91, b1]
  rw [h, h0]
  by_cases hj0 : j = 0
  · rw [if_pos hj0, hj0]; rfl
  · rw [if_neg hj0]
    exact (show ∀ i : Fin 128, ¬ i.val = 0 → IntOp.cmpi .eq (BitVec.ofNat 32 i.val) 0#32 = 0#1 by decide) ⟨j, hj⟩ hj0

theorem select_one {α : Type} (a c : α) : Scalar.select 1#1 a c = a := rfl
theorem select_zero {α : Type} (a c : α) : Scalar.select 0#1 a c = c := rfl

theorem wrapped (p : Fin 128) (a : BitVec 32) : Scalar.select (IntOp.cmpi .slt (BitVec.ofNat 32 p.val) 0#32) a (BitVec.ofNat 32 p.val) = BitVec.ofNat 32 p.val :=
  wrap_of_lt _ _ (by
    rw [BitVec.toNat_ofNat]
    have := p.isLt
    omega)

include hr in
theorem nm_at : (nm σ i → b120 j s (ix2 b i) = 1#1) ∧ (¬ nm σ i → b120 j s (ix2 b i) = 0#1) := by
  have h0 : ∀ k : Fin 128, b117 j s (ix2 k 0) = BitVec.ofNat 32 k.val := fun k => by
    have h : b117 j s (ix2 k 0) = Scalar.select (IntOp.cmpi .slt (BitVec.ofNat 32 k.val) 0#32) (IntOp.addi (BitVec.ofNat 32 k.val) 128#32) (BitVec.ofNat 32 k.val) := by
      pointwise [b117, b116, b115, b114, b113, b112, b111, b110, b109, b108, b107, b106, b105, b104, b103, b102, b101, b100]
    rw [h, wrapped]
  have h1 : b117 j s (ix2 b 1) = BitVec.ofNat 32 σ.p.val := by
    have h : b117 j s (ix2 b 1) = Scalar.select (IntOp.cmpi .slt (s.main_v13_19 (ix1 b)) 0#32) (IntOp.addi (s.main_v13_19 (ix1 b)) 128#32) (s.main_v13_19 (ix1 b)) := by
      pointwise [b117, b116, b115, b114, b113, b112, b111, b110, b109, b108, b107, b106, b105, b104, b103, b102, b101, b100]
    rw [h, hr.p, wrapped]
  have h : b120 j s (ix2 b i) = if i = σ.p then 1#1 else s.main_v13_17 (ix2 b i) :=
    scat2_at s.main_v13_17 (b117 j s) (b119 j s) (fun _ => rfl) b i σ.p h0 h1
  rw [h]
  unfold nm
  by_cases hp : i = σ.p
  · rw [if_pos hp]
    exact ⟨fun _ => rfl, fun h => absurd (Or.inr hp) h⟩
  · rw [if_neg hp]
    exact ⟨fun h => (hr.m i).1 (h.resolve_right hp), fun h => (hr.m i).2 fun h' => h (Or.inl h')⟩

include hr in
theorem ms_at (hj : j < 128) : b125 j s (ix2 b i) = masked (wtR s) (rowE s b) (rowK s b) j σ i := by
  have h : b125 j s (ix2 b i) = Scalar.select (b92 j s ix0) (b99 j s (ix2 b i)) (Scalar.select (b120 j s (ix2 b i)) (⊥ : EReal) (b85 j s (ix2 b i))) := by
    pointwise [b125, b124, b123, b122, b121]
    rfl
  have h99 : b99 j s (ix2 b i) = if i.val = 0 then (1 : EReal) else ⊥ :=
    scat1_at (b94 j s) (b96 j s) (b98 j s) 1 rfl (fun k => by
      show Ideal.ofBits .f32 0x3F800000#32 = 1
      exact Ideal.ofBits_one_f32) b i
  rw [h, h99, first_flag j hj, lg_at j i hr]
  unfold masked
  by_cases hj0 : j = 0
  · rw [if_pos hj0, if_pos hj0]; rfl
  · rw [if_neg hj0, if_neg hj0]
    by_cases hm : nm σ i
    · rw [if_pos hm, (nm_at j i hr).1 hm]; rfl
    · rw [if_neg hm, (nm_at j i hr).2 hm]; rfl

include hr in
theorem idx_at (hj : j < 128) : b129 j s (ix1 b) = BitVec.ofNat 32 (first (masked (wtR s) (rowE s b) (rowK s b) j σ)).val := by
  have hl : (fun i => b125 j s (ix2 b i)) = masked (wtR s) (rowE s b) (rowK s b) j σ := funext fun x => ms_at j x hr hj
  have h : b129 j s (ix1 b) = b128 j s (ix2 b 0) := by
    pointwise [b129]
  rw [h, ← hl]
  exact topK_at (b125 j s) _ b

include hr in
theorem lp_at (hj : j < 128) (hfin : Fin' (masked (wtR s) (rowE s b) (rowK s b) j σ (first (masked (wtR s) (rowE s b) (rowK s b) j σ)))) :
    b168 j s (ix1 b) = logp (wtR s) (rowE s b) (rowK s b) j σ := by
  have hl : row (b125 j s) b = masked (wtR s) (rowE s b) (rowK s b) j σ := funext fun x => ms_at j x hr hj
  have hi := idx_at j hr hj
  have hmx := (first_is (masked (wtR s) (rowE s b) (rowK s b) j σ)).mx_eq
  unfold logp
  generalize hp : first (masked (wtR s) (rowE s b) (rowK s b) j σ) = p at hi hfin hmx
  have h144 : ∀ i, b144 j s (ix2 b i) = b125 j s (ix2 b i) - mx (row (b125 j s) b) - Ideal.log (∑ x, ex (row (b125 j s) b) x) := fun i => by
    have hm : max (⊥ : EReal) (mx (row (b125 j s) b)) = mx (row (b125 j s) b) := max_eq_right bot_le
    unfold ex
    rw [← hm]
    pointwise [b144, b143, b142, b141, b140, b139, b138, b137, b136, b135, b134, b133, b132, b131, b130]
    rfl
  have h153 : b153 j s (ix3 b 0 0) = BitVec.ofNat 32 p.val := by
    have h : b153 j s (ix3 b 0 0) = Scalar.select (IntOp.cmpi .slt (b129 j s (ix1 b)) 0#32) (IntOp.addi (b129 j s (ix1 b)) 128#32) (b129 j s (ix1 b)) := by
      pointwise [b153, b152, b151, b150, b149, b148, b147, b146, b145]
    rw [h, hi, wrapped]
  have h163 : b163 j s (ix2 b 0) = 1#1 := by
    have h : b163 j s (ix2 b 0) = Finset.fold IntOp.andi 1#1 (fun x : Fin 1 => IntOp.andi (IntOp.cmpi .sge (b153 j s (ix3 b 0 x)) 0#32) (IntOp.cmpi .sle (b153 j s (ix3 b 0 x)) 127#32)) Finset.univ := by
      pointwise [b163, b162, b161, b160, b159, b158, b157, b156, b155, b154]
    rw [h]
    have e : (Finset.univ : Finset (Fin 1)) = {0} := rfl
    rw [e, Finset.fold_singleton, h153]
    exact (show ∀ p : Fin 128, IntOp.andi (IntOp.andi (IntOp.cmpi .sge (BitVec.ofNat 32 p.val) 0#32) (IntOp.cmpi .sle (BitVec.ofNat 32 p.val) 127#32)) 1#1 = 1#1 by decide) p
  have h : b168 j s (ix1 b) = Scalar.select (b163 j s (ix2 b 0)) (b164 j s (ix2 b 0)) (b166 j s (ix2 b 0)) := by
    pointwise [b168, b167]
  have h164 : b164 j s (ix2 b 0) = b144 j s (ix2 b p) := gather_at (b144 j s) (b153 j s) b p h153
  have hrow : b125 j s (ix2 b p) = row (b125 j s) b p := rfl
  have hself : ∀ x : EReal, Fin' x → x - x = 0 := by
    rintro x ⟨r, rfl⟩
    rw [← EReal.coe_sub, sub_self]
    rfl
  rw [h, h163, select_one, h164, h144, hrow, hl, hmx, hself _ hfin]

include hr in
theorem relR_step (hj : j < 128) : RelR b (step j s) (stepS (wtR s) (rowE s b) (rowK s b) j σ) where
  h := funext fun x => by
    unfold stepS
    dsimp only
    rw [step_main_v13_16]
    exact h_at j x hr
  d := by
    rw [step_main_v13_18]
    exact dec_at j hr
  m := fun i => by
    have h : (step j s).main_v13_17 (ix2 b i) = Scalar.select (b92 j s ix0) (s.main_v13_17 (ix2 b i)) (b120 j s (ix2 b i)) := by
      rw [step_main_v13_17]
      pointwise [b126]
    rw [h, first_flag j hj]
    unfold stepS
    dsimp only
    by_cases hk0 : j = 0
    · rw [if_pos hk0, if_pos hk0, select_one]
      exact hr.m i
    · rw [if_neg hk0, if_neg hk0, select_zero]
      exact nm_at j i hr
  p := by
    rw [step_main_v13_19]
    unfold stepS
    dsimp only
    exact idx_at j hr hj

/-! ### The rows a step writes -/

omit b i t in
theorem b173_at (j : ℕ) (s : State Ideal) (hj : j < 128) (t b i : Fin 128) : b173 j s (ix3 t b i) = if t.val = j then b35 j s (ix2 b i) else s.main_v13_20 (ix3 t b i) := by
  unfold b173
  rw [Host.dynamicUpdateSlice_eq_updateSlice (s := S128x128x128) (u := S1x128x128) _ _ _ _ (fun a => if a = 0 then j else 0) (fun a => by
    match a with
    | ⟨0, _⟩ =>
      show (min (max (BitVec.ofNat 32 j).toInt 0) ((127 : ℕ) : ℤ)).toNat = j
      rw [toInt_ofNat j hj]
      omega
    | ⟨1, _⟩ => rfl
    | ⟨2, _⟩ => rfl) ⟨rfl, fun a => by
    match a with
    | ⟨0, _⟩ => show j + 1 ≤ 128; omega
    | ⟨1, _⟩ => show 0 + 128 ≤ 128; omega
    | ⟨2, _⟩ => show 0 + 128 ≤ 128; omega⟩]
  unfold updateSlice
  by_cases h : t.val = j
  · rw [if_pos h, dif_pos (fun a => by
      match a with
      | ⟨0, _⟩ => show j ≤ t.val ∧ t.val < j + 1; omega
      | ⟨1, _⟩ => show 0 ≤ b.val ∧ b.val < 0 + 128; omega
      | ⟨2, _⟩ => show 0 ≤ i.val ∧ i.val < 0 + 128; omega)]
    have h2 : ∀ q : Fin 1, b170 j s (ix3 q b i) = b35 j s (ix2 b i) := fun q => by
      pointwise [b170]
    refine Eq.trans (congrArg (b170 j s) ?_) (h2 0)
    funext a
    match a with
    | ⟨0, _⟩ => exact Subsingleton.elim (α := Fin 1) _ _
    | ⟨1, _⟩ => rfl
    | ⟨2, _⟩ => rfl
  · rw [if_neg h, dif_neg fun hh => h ?_]
    have h0 : j ≤ t.val ∧ t.val < j + 1 := hh 0
    omega

/-- A matrix with row `j` replaced. -/
theorem update_row (x : Vec Ideal S128x128 .f32) (u : Vec Ideal S1x128 .f32) (start : Fin 2 → ℤ) (hf : S128x128.Slices (fun _ => 0) S1x128) (j : ℕ) (hj : j < 128)
    (h0 : start 0 = (BitVec.ofNat 32 j).toInt) (h1 : start 1 = 0) (t b : Fin 128) :
    Host.dynamicUpdateSlice x u start hf (ix2 t b) = if t.val = j then u (ix2 0 b) else x (ix2 t b) := by
  rw [Host.dynamicUpdateSlice_eq_updateSlice (s := S128x128) (u := S1x128) _ _ _ _ (fun a => if a = 0 then j else 0) (fun a => by
    match a with
    | ⟨0, _⟩ =>
      show (min (max (start 0) 0) ((127 : ℕ) : ℤ)).toNat = j
      rw [h0, toInt_ofNat j hj]
      omega
    | ⟨1, _⟩ =>
      show (min (max (start 1) 0) ((0 : ℕ) : ℤ)).toNat = 0
      rw [h1]
      rfl) ⟨rfl, fun a => by
    match a with
    | ⟨0, _⟩ => show j + 1 ≤ 128; omega
    | ⟨1, _⟩ => show 0 + 128 ≤ 128; omega⟩]
  unfold updateSlice
  by_cases h : t.val = j
  · rw [if_pos h, dif_pos (fun a => by
      match a with
      | ⟨0, _⟩ => show j ≤ t.val ∧ t.val < j + 1; omega
      | ⟨1, _⟩ => show 0 ≤ b.val ∧ b.val < 0 + 128; omega)]
    refine congrArg u ?_
    funext a
    match a with
    | ⟨0, _⟩ => exact Subsingleton.elim (α := Fin 1) _ _
    | ⟨1, _⟩ => rfl
  · rw [if_neg h, dif_neg fun hh => h ?_]
    have h0 : j ≤ t.val ∧ t.val < j + 1 := hh 0
    omega

theorem b176_at (j : ℕ) (s : State Ideal) (hj : j < 128) (t b : Fin 128) : b176 j s (ix2 t b) = if t.val = j then FloatOps.sitofp (F := Ideal) .f32 (b129 j s (ix1 b)) else s.main_v13_21 (ix2 t b) := by
  have h : b174 j s (ix2 0 b) = FloatOps.sitofp (F := Ideal) .f32 (b129 j s (ix1 b)) := by
    pointwise [b174, b169]
  rw [← h]
  exact update_row s.main_v13_21 (b174 j s) _ _ j hj rfl rfl t b

theorem b179_at (j : ℕ) (s : State Ideal) (hj : j < 128) (t b : Fin 128) : b179 j s (ix2 t b) = if t.val = j then b168 j s (ix1 b) else s.main_v13_22 (ix2 t b) := by
  have h : b177 j s (ix2 0 b) = b168 j s (ix1 b) := by
    pointwise [b177]
  rw [← h]
  exact update_row s.main_v13_22 (b177 j s) _ _ j hj rfl rfl t b

/-! ### All the steps -/

theorem wtR_step (j : ℕ) (s : State Ideal) : wtR (step j s) = wtR s := by unfold step; rfl
theorem rowE_step (j : ℕ) (s : State Ideal) : rowE (step j s) = rowE s := by unfold step; rfl
theorem rowK_step (j : ℕ) (s : State Ideal) : rowK (step j s) = rowK s := by unfold step; rfl

section All
variable (it : ℕ → State Ideal) (hs : ∀ n, it (n + 1) = step n (it n)) (σ : Fin 128 → St) (h0 : ∀ b, RelR b (it 0) (σ b))

/-- The decoder's state of row `b` before step `n`. -/
abbrev sR (b : Fin 128) (n : ℕ) : St := st (wtR (it 0)) (rowE (it 0) b) (rowK (it 0) b) (σ b) n

include hs in
theorem const_it (n : ℕ) : wtR (it n) = wtR (it 0) ∧ rowE (it n) = rowE (it 0) ∧ rowK (it n) = rowK (it 0) := by
  induction n with
  | zero => exact ⟨rfl, rfl, rfl⟩
  | succ n ih =>
    rw [hs, wtR_step, rowE_step, rowK_step]
    exact ih

include hs h0 in
theorem relR_it (n : ℕ) (hn : n ≤ 128) (b : Fin 128) : RelR b (it n) (sR it σ b n) := by
  induction n with
  | zero => exact h0 b
  | succ n ih =>
    obtain ⟨hw, hE, hK⟩ := const_it it hs n
    have h := relR_step n (ih (by omega)) (by omega)
    rw [hw, hE, hK] at h
    rw [hs]
    unfold sR
    rw [st]
    exact h

/-- What rows below `n` of the results hold. -/
structure Rows (n : ℕ) : Prop where
  att : ∀ t b i : Fin 128, t.val < n → (it n).main_v13_20 (ix3 t b i) = Spec.att (wtR (it 0)) (rowK (it 0) b) (sR it σ b t.val).h i
  idx : ∀ t b : Fin 128, t.val < n → (it n).main_v13_21 (ix2 t b) = val (first (masked (wtR (it 0)) (rowE (it 0) b) (rowK (it 0) b) t.val (sR it σ b t.val)))
  lp : ∀ t b : Fin 128, t.val < n → (it n).main_v13_22 (ix2 t b) = logp (wtR (it 0)) (rowE (it 0) b) (rowK (it 0) b) t.val (sR it σ b t.val)

variable (hfin : ∀ (b t : Fin 128), Fin' (masked (wtR (it 0)) (rowE (it 0) b) (rowK (it 0) b) t.val (sR it σ b t.val) (first (masked (wtR (it 0)) (rowE (it 0) b) (rowK (it 0) b) t.val (sR it σ b t.val)))))

include hs h0 hfin in
theorem rows (n : ℕ) (hn : n ≤ 128) : Rows it σ n := by
  induction n with
  | zero => exact ⟨fun t _ _ h => absurd h (Nat.not_lt_zero _), fun t _ h => absurd h (Nat.not_lt_zero _), fun t _ h => absurd h (Nat.not_lt_zero _)⟩
  | succ n ih =>
    obtain ⟨hw, hE, hK⟩ := const_it it hs n
    have ih := ih (by omega)
    have hn' : n < 128 := by omega
    refine ⟨fun t b i ht => ?_, fun t b ht => ?_, fun t b ht => ?_⟩
    · have hr := relR_it it hs σ h0 n (by omega) b
      rw [hs, step_main_v13_20, b173_at n (it n) hn']
      by_cases h : t.val = n
      · rw [if_pos h, RVals.att_at, hw, hK, hr.h, h]
      · rw [if_neg h]
        exact ih.att t b i (by omega)
    · have hr := relR_it it hs σ h0 n (by omega) b
      rw [hs, step_main_v13_21, b176_at n (it n) hn']
      by_cases h : t.val = n
      · rw [if_pos h, idx_at n hr hn', hw, hE, hK, h]
        rfl
      · rw [if_neg h]
        exact ih.idx t b (by omega)
    · have hr := relR_it it hs σ h0 n (by omega) b
      rw [hs, step_main_v13_22, b179_at n (it n) hn']
      by_cases h : t.val = n
      · have hf := hfin b t
        rw [h] at hf
        rw [if_pos h, lp_at n hr hn' (by rw [hw, hE, hK]; exact hf), hw, hE, hK, h]
      · rw [if_neg h]
        exact ih.lp t b (by omega)
end All

end Cert.Proof.RVals
-- ==== Proof.RefRun.lean ====
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_16 : V0 (Proc.devRef .tc main_v13_16) = s.main_v13_16
  f_17 : V0 (Proc.devRef .tc main_v13_17) = s.main_v13_17
  f_18 : V0 (Proc.devRef .tc main_v13_18) = s.main_v13_18
  f_19 : V0 (Proc.devRef .tc main_v13_19) = s.main_v13_19
  f_20 : V0 (Proc.devRef .tc main_v13_20) = s.main_v13_20
  f_21 : V0 (Proc.devRef .tc main_v13_21) = s.main_v13_21
  f_22 : V0 (Proc.devRef .tc main_v13_22) = s.main_v13_22
  f_1 : V0 (Proc.devRef .tc main_v13_1) = s.main_v13_1
  f_2 : V0 (Proc.devRef .tc main_v13_2) = s.main_v13_2
  f_3 : V0 (Proc.devRef .tc main_v13_3) = s.main_v13_3
  f_4 : V0 (Proc.devRef .tc main_v13_4) = s.main_v13_4
  f_5 : V0 (Proc.devRef .tc main_v13_5) = s.main_v13_5
  f_6 : V0 (Proc.devRef .tc main_v13_6) = s.main_v13_6
  f_7 : V0 (Proc.devRef .tc main_v13_7) = s.main_v13_7
  f_8 : V0 (Proc.devRef .tc main_v13_8) = s.main_v13_8
  f_9 : V0 (Proc.devRef .tc main_v13_9) = s.main_v13_9
  f_10 : V0 (Proc.devRef .tc main_v13_10) = s.main_v13_10
  f_11 : V0 (Proc.devRef .tc main_v13_11) = s.main_v13_11
  f_12 : V0 (Proc.devRef .tc main_v13_12) = s.main_v13_12
  f_13 : V0 (Proc.devRef .tc main_v13_13) = s.main_v13_13
  f_14 : V0 (Proc.devRef .tc main_v13_14) = s.main_v13_14
  n_15 : V0 (Proc.devRef .tc main_v13_15) = constantI S_ 32 (BitVec.ofNat 32 j)
  k_0 : V0 (Proc.devRef .tc main_v13_0) = Cert.ReferenceIdeal.Step.K_main_v9 (F := F)

variable {V0 s j}

set_option maxRecDepth 8192 in
theorem al_0 (h : Holds V0 s j) : (Host.dynamicSlice S1 (V0 (Proc.devRef .tc main_v13_0)) (fun k => (((![V0 (Proc.devRef .tc main_v13_15)] : Fin 1 → (⟨S_, .i32⟩ : BufTy).Contents (Elt F))) k (Shape.Idx.first h_S_)).toInt) sliceFits_S128_S1 : (Proc.devRef .tc main_while0b_call0_v0 : DevRef τ sig).ty.Contents (Elt F)) = Cert.ReferenceIdeal.Step.b0 j s := by
  unfold Cert.ReferenceIdeal.Step.b0
  rw [h.k_0, h.n_15]
  try rfl
set_option maxRecDepth 8192 in
theorem al_1 (h : Holds V0 s j) : (shapeCast S_ (Host.dynamicSlice S1 (V0 (Proc.devRef .tc main_v13_0)) (fun k => (((![V0 (Proc.devRef .tc main_v13_15)] : Fin 1 → (⟨S_, .i32⟩ : BufTy).Contents (Elt F))) k (Shape.Idx.first h_S_)).toInt) sliceFits_S128_S1) shapeCasts_S1_S_ : (Proc.devRef .tc main_while0b_v18 : DevRef τ sig).ty.Contents (Elt F)) = Cert.ReferenceIdeal.Step.b1 j s := by
  unfold Cert.ReferenceIdeal.Step.b1
  rw [← al_0 h]
  try rfl
set_option maxRecDepth 8192 in
theorem al_2 (h : Holds V0 s j) : (transpose S1x128 [1, 0] (V0 (Proc.devRef .tc main_v13_1)) transposes_S128x1_S1x128_1_0 : (Proc.devRef .tc main_while0b_v19 : DevRef τ sig).ty.Contents (Elt F)) = Cert.ReferenceIdeal.Step.b2 j s := by
  unfold Cert.ReferenceIdeal.Step.b2
  rw [h.f_1]
  try rfl
set_option maxRecDepth 8192 in
theorem al_3 (h : Holds V0 s j) : (Host.dotGeneral dot_S128x1_S1x128_S128x128_1_0_0_1_n_n none (V0 (Proc.devRef .tc main_v13_18)) (transpose S1x128 [1, 0] (V0 (Proc.devRef .tc main_v13_1)) transposes_S128x1_S1x128_1_0) : (Proc.devRef .tc main_while0b_v20 : DevRef τ sig).ty.Contents (Elt F)) = Cert.ReferenceIdeal.Step.b3 j s := by
  unfold Cert.ReferenceIdeal.Step.b3
  rw [← al_2 h, h.f_18]
  try rfl
set_option maxRecDepth 8192 in
theorem al_4 (h : Holds V0 s j) : (broadcastInDim S1x128 ![1] bcast_S128_S1x128_1 (V0 (Proc.devRef .tc main_v13_2)) : (Proc.devRef .tc main_while0b_v21 : DevRef τ sig).ty.Contents (Elt F)) = Cert.ReferenceIdeal.Step.b4 j s := by
  unfold Cert.ReferenceIdeal.Step.b4
  rw [h.f_2]
  try rfl
set_option maxRecDepth 8192 in
theorem al_5 (h : Holds V0 s j) : (broadcastInDim S128x128 ![0, 1] bcast_S1x128_S128x128_0_1 (broadcastInDim S1x128 ![1] bcast_S128_S1x128_1 (V0 (Proc.devRef .tc main_v13_2))) : (Proc.devRef .tc main_while0b_v22 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (addf (Host.dotGeneral dot_S128x1_S1x128_S128x128_1_0_0_1_n_n none (V0 (Proc.devRef .tc main_v13_18)) (transpose S1x128 [1, 0] (V0 (Proc.devRef .tc main_v13_1)) transposes_S128x1_S1x128_1_0)) (broadcastInDim S128x128 ![0, 1] bcast_S1x128_S128x128_0_1 (broadcastInDim S1x128 ![1] bcast_S128_S1x128_1 (V0 (Proc.devRef .tc main_v13_2)))) : (Proc.devRef .tc main_while0b_v23 : DevRef τ sig).ty.Contents (Elt F)) = Cert.ReferenceIdeal.Step.b6 j s := by
  unfold Cert.ReferenceIdeal.Step.b6
  rw [← al_3 h, ← al_5 h]
  try rfl
set_option maxRecDepth 8192 in
theorem al_7 (h : Holds V0 s j) : (transpose S128x128 [1, 0] (V0 (Proc.devRef .tc main_v13_3)) transposes_S128x128_S128x128_1_0 : (Proc.devRef .tc main_while0b_v24 : DevRef τ sig).ty.Contents (Elt F)) = Cert.ReferenceIdeal.Step.b7 j s := by
  unfold Cert.ReferenceIdeal.Step.b7
  rw [h.f_3]
  try rfl
set_option maxRecDepth 8192 in
theorem al_8 (h : Holds V0 s j) : (Host.dotGeneral dot_S128x128_S128x128_S128x128_1_0_0_1_n_n none (V0 (Proc.devRef .tc main_v13_16)) (transpose S128x128 [1, 0] (V0 (Proc.devRef .tc main_v13_3)) transposes_S128x128_S128x128_1_0) : (Proc.devRef .tc main_while0b_v25 : DevRef τ sig).ty.Contents (Elt F)) = Cert.ReferenceIdeal.Step.b8 j s := by
  unfold Cert.ReferenceIdeal.Step.b8
  rw [← al_7 h, h.f_16]
  try rfl
set_option maxRecDepth 8192 in
theorem al_9 (h : Holds V0 s j) : (broadcastInDim S1x128 ![1] bcast_S128_S1x128_1 (V0 (Proc.devRef .tc main_v13_4)) : (Proc.devRef .tc main_while0b_v26 : DevRef τ sig).ty.Contents (Elt F)) = Cert.ReferenceIdeal.Step.b9 j s := by
  unfold Cert.ReferenceIdeal.Step.b9
  rw [h.f_4]
  try rfl
set_option maxRecDepth 8192 in
theorem al_10 (h : Holds V0 s j) : (broadcastInDim S128x128 ![0, 1] bcast_S1x128_S128x128_0_1 (broadcastInDim S1x128 ![1] bcast_S128_S1x128_1 (V0 (Proc.devRef .tc main_v13_4))) : (Proc.devRef .tc main_while0b_v27 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (addf (Host.dotGeneral dot_S128x128_S128x128_S128x128_1_0_0_1_n_n none (V0 (Proc.devRef .tc main_v13_16)) (transpose S128x128 [1, 0] (V0 (Proc.devRef .tc main_v13_3)) transposes_S128x128_S128x128_1_0)) (broadcastInDim S128x128 ![0, 1] bcast_S1x128_S128x128_0_1 (broadcastInDim S1x128 ![1] bcast_S128_S1x128_1 (V0 (Proc.devRef .tc main_v13_4)))) : (Proc.devRef .tc main_while0b_v28 : DevRef τ sig).ty.Contents (Elt F)) = Cert.ReferenceIdeal.Step.b11 j s := by
  unfold Cert.ReferenceIdeal.Step.b11
  rw [← al_8 h, ← al_10 h]
  try rfl
set_option maxRecDepth 8192 in
theorem al_12 (h : Holds V0 s j) : (broadcastInDim S128x1x128 ![0, 2] bcast_S128x128_S128x1x128_0_2 (addf (Host.dotGeneral dot_S128x128_S128x128_S128x128_1_0_0_1_n_n none (V0 (Proc.devRef .tc main_v13_16)) (transpose S128x128 [1, 0] (V0 (Proc.devRef .tc main_v13_3)) transposes_S128x128_S128x128_1_0)) (broadcastInDim S128x128 ![0, 1] bcast_S1x128_S128x128_0_1 (broadcastInDim S1x128 ![1] bcast_S128_S1x128_1 (V0 (Proc.devRef .tc main_v13_4))))) : (Proc.devRef .tc main_while0b_v29 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (broadcastInDim S128x128x128 ![0, 1, 2] bcast_S128x1x128_S128x128x128_0_1_2 (broadcastInDim S128x1x128 ![0, 2] bcast_S128x128_S128x1x128_0_2 (addf (Host.dotGeneral dot_S128x128_S128x128_S128x128_1_0_0_1_n_n none (V0 (Proc.devRef .tc main_v13_16)) (transpose S128x128 [1, 0] (V0 (Proc.devRef .tc main_v13_3)) transposes_S128x128_S128x128_1_0)) (broadcastInDim S128x128 ![0, 1] bcast_S1x128_S128x128_0_1 (broadcastInDim S1x128 ![1] bcast_S128_S1x128_1 (V0 (Proc.devRef .tc main_v13_4)))))) : (Proc.devRef .tc main_while0b_v30 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (addf (broadcastInDim S128x128x128 ![0, 1, 2] bcast_S128x1x128_S128x128x128_0_1_2 (broadcastInDim S128x1x128 ![0, 2] bcast_S128x128_S128x1x128_0_2 (addf (Host.dotGeneral dot_S128x128_S128x128_S128x128_1_0_0_1_n_n none (V0 (Proc.devRef .tc main_v13_16)) (transpose S128x128 [1, 0] (V0 (Proc.devRef .tc main_v13_3)) transposes_S128x128_S128x128_1_0)) (broadcastInDim S128x128 ![0, 1] bcast_S1x128_S128x128_0_1 (broadcastInDim S1x128 ![1] bcast_S128_S1x128_1 (V0 (Proc.devRef .tc main_v13_4))))))) (V0 (Proc.devRef .tc main_v13_5)) : (Proc.devRef .tc main_while0b_v31 : DevRef τ sig).ty.Contents (Elt F)) = Cert.ReferenceIdeal.Step.b14 j s := by
  unfold Cert.ReferenceIdeal.Step.b14
  rw [← al_13 h, h.f_5]
  try rfl
set_option maxRecDepth 8192 in
theorem al_15 (h : Holds V0 s j) : (Host.tanh (addf (broadcastInDim S128x128x128 ![0, 1, 2] bcast_S128x1x128_S128x128x128_0_1_2 (broadcastInDim S128x1x128 ![0, 2] bcast_S128x128_S128x1x128_0_2 (addf (Host.dotGeneral dot_S128x128_S128x128_S128x128_1_0_0_1_n_n none (V0 (Proc.devRef .tc main_v13_16)) (transpose S128x128 [1, 0] (V0 (Proc.devRef .tc main_v13_3)) transposes_S128x128_S128x128_1_0)) (broadcastInDim S128x128 ![0, 1] bcast_S1x128_S128x128_0_1 (broadcastInDim S1x128 ![1] bcast_S128_S1x128_1 (V0 (Proc.devRef .tc main_v13_4))))))) (V0 (Proc.devRef .tc main_v13_5))) : (Proc.devRef .tc main_while0b_v32 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (transpose S128x1 [1, 0] (V0 (Proc.devRef .tc main_v13_6)) transposes_S1x128_S128x1_1_0 : (Proc.devRef .tc main_while0b_v33 : DevRef τ sig).ty.Contents (Elt F)) = Cert.ReferenceIdeal.Step.b16 j s := by
  unfold Cert.ReferenceIdeal.Step.b16
  rw [h.f_6]
  try rfl
set_option maxRecDepth 8192 in
theorem al_17 (h : Holds V0 s j) : (Host.dotGeneral dot_S128x128x128_S128x1_S128x128x1_2_0_01_1_n_n none (Host.tanh (addf (broadcastInDim S128x128x128 ![0, 1, 2] bcast_S128x1x128_S128x128x128_0_1_2 (broadcastInDim S128x1x128 ![0, 2] bcast_S128x128_S128x1x128_0_2 (addf (Host.dotGeneral dot_S128x128_S128x128_S128x128_1_0_0_1_n_n none (V0 (Proc.devRef .tc main_v13_16)) (transpose S128x128 [1, 0] (V0 (Proc.devRef .tc main_v13_3)) transposes_S128x128_S128x128_1_0)) (broadcastInDim S128x128 ![0, 1] bcast_S1x128_S128x128_0_1 (broadcastInDim S1x128 ![1] bcast_S128_S1x128_1 (V0 (Proc.devRef .tc main_v13_4))))))) (V0 (Proc.devRef .tc main_v13_5)))) (transpose S128x1 [1, 0] (V0 (Proc.devRef .tc main_v13_6)) transposes_S1x128_S128x1_1_0) : (Proc.devRef .tc main_while0b_v34 : DevRef τ sig).ty.Contents (Elt F)) = Cert.ReferenceIdeal.Step.b17 j s := by
  unfold Cert.ReferenceIdeal.Step.b17
  rw [← al_15 h, ← al_16 h]
  try rfl
set_option maxRecDepth 8192 in
theorem al_18 (h : Holds V0 s j) : (shapeCast S128x128 (Host.dotGeneral dot_S128x128x128_S128x1_S128x128x1_2_0_01_1_n_n none (Host.tanh (addf (broadcastInDim S128x128x128 ![0, 1, 2] bcast_S128x1x128_S128x128x128_0_1_2 (broadcastInDim S128x1x128 ![0, 2] bcast_S128x128_S128x1x128_0_2 (addf (Host.dotGeneral dot_S128x128_S128x128_S128x128_1_0_0_1_n_n none (V0 (Proc.devRef .tc main_v13_16)) (transpose S128x128 [1, 0] (V0 (Proc.devRef .tc main_v13_3)) transposes_S128x128_S128x128_1_0)) (broadcastInDim S128x128 ![0, 1] bcast_S1x128_S128x128_0_1 (broadcastInDim S1x128 ![1] bcast_S128_S1x128_1 (V0 (Proc.devRef .tc main_v13_4))))))) (V0 (Proc.devRef .tc main_v13_5)))) (transpose S128x1 [1, 0] (V0 (Proc.devRef .tc main_v13_6)) transposes_S1x128_S128x1_1_0)) shapeCasts_S128x128x1_S128x128 : (Proc.devRef .tc main_while0b_v35 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (shapeCast S_ (V0 (Proc.devRef .tc main_v13_7)) shapeCasts_S1_S_ : (Proc.devRef .tc main_while0b_v36 : DevRef τ sig).ty.Contents (Elt F)) = Cert.ReferenceIdeal.Step.b19 j s := by
  unfold Cert.ReferenceIdeal.Step.b19
  rw [h.f_7]
  try rfl
set_option maxRecDepth 8192 in
theorem al_20 (h : Holds V0 s j) : (broadcastInDim S128x128 ![] bcast_S_S128x128 (shapeCast S_ (V0 (Proc.devRef .tc main_v13_7)) shapeCasts_S1_S_) : (Proc.devRef .tc main_while0b_v37 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (res_main_while0b_v38 V0 : (Proc.devRef .tc main_while0b_v38 : DevRef τ sig).ty.Contents (Elt F)) = Cert.ReferenceIdeal.Step.b21 j s := by
  unfold res_main_while0b_v38 Cert.ReferenceIdeal.Step.b21
  rw [← al_18 h, ← al_20 h]
  try rfl
set_option maxRecDepth 8192 in
theorem al_22 (h : Holds V0 s j) : (constant S_ .f32 0xFF800000#32 : (Proc.devRef .tc main_while0b_cst_27 : DevRef τ sig).ty.Contents (Elt F)) = Cert.ReferenceIdeal.Step.b22 j s := by
  unfold Cert.ReferenceIdeal.Step.b22
  rfl
set_option maxRecDepth 8192 in
theorem al_23 (h : Holds V0 s j) : (Host.reduce FloatOps.maximumf (res_main_while0b_v38 V0) (constant S_ .f32 0xFF800000#32) reducesTo_S128x128_S128_d1 h_S_ : (Proc.devRef .tc main_while0b_v39 : DevRef τ sig).ty.Contents (Elt F)) = Cert.ReferenceIdeal.Step.b23 j s := by
  unfold Cert.ReferenceIdeal.Step.b23
  rw [← al_21 h, ← al_22 h]
  try rfl
set_option maxRecDepth 8192 in
theorem al_24 (h : Holds V0 s j) : (constant S_ .f32 0xFF800000#32 : (Proc.devRef .tc main_while0b_cst_28 : DevRef τ sig).ty.Contents (Elt F)) = Cert.ReferenceIdeal.Step.b24 j s := by
  unfold Cert.ReferenceIdeal.Step.b24
  rfl
set_option maxRecDepth 8192 in
theorem al_25 (h : Holds V0 s j) : (broadcastInDim S128 ![] bcast_S_S128 (constant S_ .f32 0xFF800000#32) : (Proc.devRef .tc main_while0b_v40 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (maximumf (broadcastInDim S128 ![] bcast_S_S128 (constant S_ .f32 0xFF800000#32)) (Host.reduce FloatOps.maximumf (res_main_while0b_v38 V0) (constant S_ .f32 0xFF800000#32) reducesTo_S128x128_S128_d1 h_S_) : (Proc.devRef .tc main_while0b_v41 : DevRef τ sig).ty.Contents (Elt F)) = Cert.ReferenceIdeal.Step.b26 j s := by
  unfold Cert.ReferenceIdeal.Step.b26
  rw [← al_25 h, ← al_23 h]
  try rfl
set_option maxRecDepth 8192 in
theorem al_27 (h : Holds V0 s j) : (broadcastInDim S128x1 ![0] bcast_S128_S128x1_0 (maximumf (broadcastInDim S128 ![] bcast_S_S128 (constant S_ .f32 0xFF800000#32)) (Host.reduce FloatOps.maximumf (res_main_while0b_v38 V0) (constant S_ .f32 0xFF800000#32) reducesTo_S128x128_S128_d1 h_S_)) : (Proc.devRef .tc main_while0b_v42 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (broadcastInDim S128x128 ![0, 1] bcast_S128x1_S128x128_0_1 (broadcastInDim S128x1 ![0] bcast_S128_S128x1_0 (maximumf (broadcastInDim S128 ![] bcast_S_S128 (constant S_ .f32 0xFF800000#32)) (Host.reduce FloatOps.maximumf (res_main_while0b_v38 V0) (constant S_ .f32 0xFF800000#32) reducesTo_S128x128_S128_d1 h_S_))) : (Proc.devRef .tc main_while0b_v43 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (subf (res_main_while0b_v38 V0) (broadcastInDim S128x128 ![0, 1] bcast_S128x1_S128x128_0_1 (broadcastInDim S128x1 ![0] bcast_S128_S128x1_0 (maximumf (broadcastInDim S128 ![] bcast_S_S128 (constant S_ .f32 0xFF800000#32)) (Host.reduce FloatOps.maximumf (res_main_while0b_v38 V0) (constant S_ .f32 0xFF800000#32) reducesTo_S128x128_S128_d1 h_S_)))) : (Proc.devRef .tc main_while0b_v44 : DevRef τ sig).ty.Contents (Elt F)) = Cert.ReferenceIdeal.Step.b29 j s := by
  unfold Cert.ReferenceIdeal.Step.b29
  rw [← al_21 h, ← al_28 h]
  try rfl
set_option maxRecDepth 8192 in
theorem al_30 (h : Holds V0 s j) : (res_main_while0b_v45 V0 : (Proc.devRef .tc main_while0b_v45 : DevRef τ sig).ty.Contents (Elt F)) = Cert.ReferenceIdeal.Step.b30 j s := by
  unfold res_main_while0b_v45 Cert.ReferenceIdeal.Step.b30
  rw [← al_29 h]
  try rfl
set_option maxRecDepth 8192 in
theorem al_31 (h : Holds V0 s j) : (constant S_ .f32 0x00000000#32 : (Proc.devRef .tc main_while0b_cst_29 : DevRef τ sig).ty.Contents (Elt F)) = Cert.ReferenceIdeal.Step.b31 j s := by
  unfold Cert.ReferenceIdeal.Step.b31
  rfl
set_option maxRecDepth 8192 in
theorem al_32 (h : Holds V0 s j) : (Host.reduceAdd (res_main_while0b_v45 V0) (constant S_ .f32 0x00000000#32) reducesTo_S128x128_S128_d1 h_S_ : (Proc.devRef .tc main_while0b_v46 : DevRef τ sig).ty.Contents (Elt F)) = Cert.ReferenceIdeal.Step.b32 j s := by
  unfold Cert.ReferenceIdeal.Step.b32
  rw [← al_30 h, ← al_31 h]
  try rfl
set_option maxRecDepth 8192 in
theorem al_33 (h : Holds V0 s j) : (broadcastInDim S128x1 ![0] bcast_S128_S128x1_0 (Host.reduceAdd (res_main_while0b_v45 V0) (constant S_ .f32 0x00000000#32) reducesTo_S128x128_S128_d1 h_S_) : (Proc.devRef .tc main_while0b_v47 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (broadcastInDim S128x128 ![0, 1] bcast_S128x1_S128x128_0_1 (broadcastInDim S128x1 ![0] bcast_S128_S128x1_0 (Host.reduceAdd (res_main_while0b_v45 V0) (constant S_ .f32 0x00000000#32) reducesTo_S128x128_S128_d1 h_S_)) : (Proc.devRef .tc main_while0b_v48 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (res_main_while0b_v49 V0 : (Proc.devRef .tc main_while0b_v49 : DevRef τ sig).ty.Contents (Elt F)) = Cert.ReferenceIdeal.Step.b35 j s := by
  unfold res_main_while0b_v49 Cert.ReferenceIdeal.Step.b35
  rw [← al_30 h, ← al_34 h]
  try rfl
set_option maxRecDepth 8192 in
theorem al_36 (h : Holds V0 s j) : (Host.dotGeneral dot_S128x128_S128x128x128_S128x128_1_1_n_2_0_0 none (res_main_while0b_v49 V0) (V0 (Proc.devRef .tc main_v13_8)) : (Proc.devRef .tc main_while0b_v50 : DevRef τ sig).ty.Contents (Elt F)) = Cert.ReferenceIdeal.Step.b36 j s := by
  unfold Cert.ReferenceIdeal.Step.b36
  rw [← al_35 h, h.f_8]
  try rfl
set_option maxRecDepth 8192 in
theorem al_37 (h : Holds V0 s j) : (concatenate S128x256 1 [⟨S128x128, (addf (Host.dotGeneral dot_S128x1_S1x128_S128x128_1_0_0_1_n_n none (V0 (Proc.devRef .tc main_v13_18)) (transpose S1x128 [1, 0] (V0 (Proc.devRef .tc main_v13_1)) transposes_S128x1_S1x128_1_0)) (broadcastInDim S128x128 ![0, 1] bcast_S1x128_S128x128_0_1 (broadcastInDim S1x128 ![1] bcast_S128_S1x128_1 (V0 (Proc.devRef .tc main_v13_2)))))⟩, ⟨S128x128, (Host.dotGeneral dot_S128x128_S128x128x128_S128x128_1_1_n_2_0_0 none (res_main_while0b_v49 V0) (V0 (Proc.devRef .tc main_v13_8)))⟩] concatenates_S128x128_S128x128_S128x256_d1 : (Proc.devRef .tc main_while0b_v51 : DevRef τ sig).ty.Contents (Elt F)) = Cert.ReferenceIdeal.Step.b37 j s := by
  unfold Cert.ReferenceIdeal.Step.b37
  rw [← al_6 h, ← al_36 h]
  try rfl
set_option maxRecDepth 8192 in
theorem al_38 (h : Holds V0 s j) : (transpose S256x384 [1, 0] (V0 (Proc.devRef .tc main_v13_9)) transposes_S384x256_S256x384_1_0 : (Proc.devRef .tc main_while0b_v52 : DevRef τ sig).ty.Contents (Elt F)) = Cert.ReferenceIdeal.Step.b38 j s := by
  unfold Cert.ReferenceIdeal.Step.b38
  rw [h.f_9]
  try rfl
set_option maxRecDepth 8192 in
theorem al_39 (h : Holds V0 s j) : (Host.dotGeneral dot_S128x256_S256x384_S128x384_1_0_0_1_n_n none (concatenate S128x256 1 [⟨S128x128, (addf (Host.dotGeneral dot_S128x1_S1x128_S128x128_1_0_0_1_n_n none (V0 (Proc.devRef .tc main_v13_18)) (transpose S1x128 [1, 0] (V0 (Proc.devRef .tc main_v13_1)) transposes_S128x1_S1x128_1_0)) (broadcastInDim S128x128 ![0, 1] bcast_S1x128_S128x128_0_1 (broadcastInDim S1x128 ![1] bcast_S128_S1x128_1 (V0 (Proc.devRef .tc main_v13_2)))))⟩, ⟨S128x128, (Host.dotGeneral dot_S128x128_S128x128x128_S128x128_1_1_n_2_0_0 none (res_main_while0b_v49 V0) (V0 (Proc.devRef .tc main_v13_8)))⟩] concatenates_S128x128_S128x128_S128x256_d1) (transpose S256x384 [1, 0] (V0 (Proc.devRef .tc main_v13_9)) transposes_S384x256_S256x384_1_0) : (Proc.devRef .tc main_while0b_v53 : DevRef τ sig).ty.Contents (Elt F)) = Cert.ReferenceIdeal.Step.b39 j s := by
  unfold Cert.ReferenceIdeal.Step.b39
  rw [← al_37 h, ← al_38 h]
  try rfl
set_option maxRecDepth 8192 in
theorem al_40 (h : Holds V0 s j) : (broadcastInDim S1x384 ![1] bcast_S384_S1x384_1 (V0 (Proc.devRef .tc main_v13_10)) : (Proc.devRef .tc main_while0b_v54 : DevRef τ sig).ty.Contents (Elt F)) = Cert.ReferenceIdeal.Step.b40 j s := by
  unfold Cert.ReferenceIdeal.Step.b40
  rw [h.f_10]
  try rfl
set_option maxRecDepth 8192 in
theorem al_41 (h : Holds V0 s j) : (broadcastInDim S128x384 ![0, 1] bcast_S1x384_S128x384_0_1 (broadcastInDim S1x384 ![1] bcast_S384_S1x384_1 (V0 (Proc.devRef .tc main_v13_10))) : (Proc.devRef .tc main_while0b_v55 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (res_main_while0b_v56 V0 : (Proc.devRef .tc main_while0b_v56 : DevRef τ sig).ty.Contents (Elt F)) = Cert.ReferenceIdeal.Step.b42 j s := by
  unfold res_main_while0b_v56 Cert.ReferenceIdeal.Step.b42
  rw [← al_39 h, ← al_41 h]
  try rfl
set_option maxRecDepth 8192 in
theorem al_43 (h : Holds V0 s j) : (transpose S128x384 [1, 0] (V0 (Proc.devRef .tc main_v13_11)) transposes_S384x128_S128x384_1_0 : (Proc.devRef .tc main_while0b_v57 : DevRef τ sig).ty.Contents (Elt F)) = Cert.ReferenceIdeal.Step.b43 j s := by
  unfold Cert.ReferenceIdeal.Step.b43
  rw [h.f_11]
  try rfl
set_option maxRecDepth 8192 in
theorem al_44 (h : Holds V0 s j) : (Host.dotGeneral dot_S128x128_S128x384_S128x384_1_0_0_1_n_n none (V0 (Proc.devRef .tc main_v13_16)) (transpose S128x384 [1, 0] (V0 (Proc.devRef .tc main_v13_11)) transposes_S384x128_S128x384_1_0) : (Proc.devRef .tc main_while0b_v58 : DevRef τ sig).ty.Contents (Elt F)) = Cert.ReferenceIdeal.Step.b44 j s := by
  unfold Cert.ReferenceIdeal.Step.b44
  rw [← al_43 h, h.f_16]
  try rfl
set_option maxRecDepth 8192 in
theorem al_45 (h : Holds V0 s j) : (broadcastInDim S1x384 ![1] bcast_S384_S1x384_1 (V0 (Proc.devRef .tc main_v13_12)) : (Proc.devRef .tc main_while0b_v59 : DevRef τ sig).ty.Contents (Elt F)) = Cert.ReferenceIdeal.Step.b45 j s := by
  unfold Cert.ReferenceIdeal.Step.b45
  rw [h.f_12]
  try rfl
set_option maxRecDepth 8192 in
theorem al_46 (h : Holds V0 s j) : (broadcastInDim S128x384 ![0, 1] bcast_S1x384_S128x384_0_1 (broadcastInDim S1x384 ![1] bcast_S384_S1x384_1 (V0 (Proc.devRef .tc main_v13_12))) : (Proc.devRef .tc main_while0b_v60 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (res_main_while0b_v61 V0 : (Proc.devRef .tc main_while0b_v61 : DevRef τ sig).ty.Contents (Elt F)) = Cert.ReferenceIdeal.Step.b47 j s := by
  unfold res_main_while0b_v61 Cert.ReferenceIdeal.Step.b47
  rw [← al_44 h, ← al_46 h]
  try rfl
set_option maxRecDepth 8192 in
theorem al_48 (h : Holds V0 s j) : (extractStridedSlice S128x128 ![0, 0] (res_main_while0b_v56 V0) slices_S128x384_S128x128_0_0 : (Proc.devRef .tc main_while0b_v62 : DevRef τ sig).ty.Contents (Elt F)) = Cert.ReferenceIdeal.Step.b48 j s := by
  unfold Cert.ReferenceIdeal.Step.b48
  rw [← al_42 h]
  try rfl
set_option maxRecDepth 8192 in
theorem al_49 (h : Holds V0 s j) : (extractStridedSlice S128x128 ![0, 128] (res_main_while0b_v56 V0) slices_S128x384_S128x128_0_128 : (Proc.devRef .tc main_while0b_v63 : DevRef τ sig).ty.Contents (Elt F)) = Cert.ReferenceIdeal.Step.b49 j s := by
  unfold Cert.ReferenceIdeal.Step.b49
  rw [← al_42 h]
  try rfl
set_option maxRecDepth 8192 in
theorem al_50 (h : Holds V0 s j) : (extractStridedSlice S128x128 ![0, 256] (res_main_while0b_v56 V0) slices_S128x384_S128x128_0_256 : (Proc.devRef .tc main_while0b_v64 : DevRef τ sig).ty.Contents (Elt F)) = Cert.ReferenceIdeal.Step.b50 j s := by
  unfold Cert.ReferenceIdeal.Step.b50
  rw [← al_42 h]
  try rfl
set_option maxRecDepth 8192 in
theorem al_51 (h : Holds V0 s j) : (extractStridedSlice S128x128 ![0, 0] (res_main_while0b_v61 V0) slices_S128x384_S128x128_0_0 : (Proc.devRef .tc main_while0b_v65 : DevRef τ sig).ty.Contents (Elt F)) = Cert.ReferenceIdeal.Step.b51 j s := by
  unfold Cert.ReferenceIdeal.Step.b51
  rw [← al_47 h]
  try rfl
set_option maxRecDepth 8192 in
theorem al_52 (h : Holds V0 s j) : (extractStridedSlice S128x128 ![0, 128] (res_main_while0b_v61 V0) slices_S128x384_S128x128_0_128 : (Proc.devRef .tc main_while0b_v66 : DevRef τ sig).ty.Contents (Elt F)) = Cert.ReferenceIdeal.Step.b52 j s := by
  unfold Cert.ReferenceIdeal.Step.b52
  rw [← al_47 h]
  try rfl
set_option maxRecDepth 8192 in
theorem al_53 (h : Holds V0 s j) : (extractStridedSlice S128x128 ![0, 256] (res_main_while0b_v61 V0) slices_S128x384_S128x128_0_256 : (Proc.devRef .tc main_while0b_v67 : DevRef τ sig).ty.Contents (Elt F)) = Cert.ReferenceIdeal.Step.b53 j s := by
  unfold Cert.ReferenceIdeal.Step.b53
  rw [← al_47 h]
  try rfl
set_option maxRecDepth 8192 in
theorem al_54 (h : Holds V0 s j) : (addf (extractStridedSlice S128x128 ![0, 0] (res_main_while0b_v56 V0) slices_S128x384_S128x128_0_0) (extractStridedSlice S128x128 ![0, 0] (res_main_while0b_v61 V0) slices_S128x384_S128x128_0_0) : (Proc.devRef .tc main_while0b_v68 : DevRef τ sig).ty.Contents (Elt F)) = Cert.ReferenceIdeal.Step.b54 j s := by
  unfold Cert.ReferenceIdeal.Step.b54
  rw [← al_48 h, ← al_51 h]
  try rfl
set_option maxRecDepth 8192 in
theorem al_55 (h : Holds V0 s j) : (Host.negf (addf (extractStridedSlice S128x128 ![0, 0] (res_main_while0b_v56 V0) slices_S128x384_S128x128_0_0) (extractStridedSlice S128x128 ![0, 0] (res_main_while0b_v61 V0) slices_S128x384_S128x128_0_0)) : (Proc.devRef .tc main_while0b_v69 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (Host.exp (Host.negf (addf (extractStridedSlice S128x128 ![0, 0] (res_main_while0b_v56 V0) slices_S128x384_S128x128_0_0) (extractStridedSlice S128x128 ![0, 0] (res_main_while0b_v61 V0) slices_S128x384_S128x128_0_0))) : (Proc.devRef .tc main_while0b_v70 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (constant S_ .f32 0x3F800000#32 : (Proc.devRef .tc main_while0b_cst_30 : DevRef τ sig).ty.Contents (Elt F)) = Cert.ReferenceIdeal.Step.b57 j s := by
  unfold Cert.ReferenceIdeal.Step.b57
  rfl
set_option maxRecDepth 8192 in
theorem al_58 (h : Holds V0 s j) : (broadcastInDim S128x128 ![] bcast_S_S128x128 (constant S_ .f32 0x3F800000#32) : (Proc.devRef .tc main_while0b_v71 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (addf (broadcastInDim S128x128 ![] bcast_S_S128x128 (constant S_ .f32 0x3F800000#32)) (Host.exp (Host.negf (addf (extractStridedSlice S128x128 ![0, 0] (res_main_while0b_v56 V0) slices_S128x384_S128x128_0_0) (extractStridedSlice S128x128 ![0, 0] (res_main_while0b_v61 V0) slices_S128x384_S128x128_0_0)))) : (Proc.devRef .tc main_while0b_v72 : DevRef τ sig).ty.Contents (Elt F)) = Cert.ReferenceIdeal.Step.b59 j s := by
  unfold Cert.ReferenceIdeal.Step.b59
  rw [← al_58 h, ← al_56 h]
  try rfl
set_option maxRecDepth 8192 in
theorem al_60 (h : Holds V0 s j) : (constant S_ .f32 0x3F800000#32 : (Proc.devRef .tc main_while0b_cst_31 : DevRef τ sig).ty.Contents (Elt F)) = Cert.ReferenceIdeal.Step.b60 j s := by
  unfold Cert.ReferenceIdeal.Step.b60
  rfl
set_option maxRecDepth 8192 in
theorem al_61 (h : Holds V0 s j) : (broadcastInDim S128x128 ![] bcast_S_S128x128 (constant S_ .f32 0x3F800000#32) : (Proc.devRef .tc main_while0b_v73 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v56 V0) slices_S128x384_S128x128_0_0) (extractStridedSlice S128x128 ![0, 0] (res_main_while0b_v61 V0) slices_S128x384_S128x128_0_0))))) : (Proc.devRef .tc main_while0b_v74 : DevRef τ sig).ty.Contents (Elt F)) = Cert.ReferenceIdeal.Step.b62 j s := by
  unfold Cert.ReferenceIdeal.Step.b62
  rw [← al_61 h, ← al_59 h]
  try rfl
set_option maxRecDepth 8192 in
theorem al_63 (h : Holds V0 s j) : (addf (extractStridedSlice S128x128 ![0, 128] (res_main_while0b_v56 V0) slices_S128x384_S128x128_0_128) (extractStridedSlice S128x128 ![0, 128] (res_main_while0b_v61 V0) slices_S128x384_S128x128_0_128) : (Proc.devRef .tc main_while0b_v75 : DevRef τ sig).ty.Contents (Elt F)) = Cert.ReferenceIdeal.Step.b63 j s := by
  unfold Cert.ReferenceIdeal.Step.b63
  rw [← al_49 h, ← al_52 h]
  try rfl
set_option maxRecDepth 8192 in
theorem al_64 (h : Holds V0 s j) : (Host.negf (addf (extractStridedSlice S128x128 ![0, 128] (res_main_while0b_v56 V0) slices_S128x384_S128x128_0_128) (extractStridedSlice S128x128 ![0, 128] (res_main_while0b_v61 V0) slices_S128x384_S128x128_0_128)) : (Proc.devRef .tc main_while0b_v76 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (Host.exp (Host.negf (addf (extractStridedSlice S128x128 ![0, 128] (res_main_while0b_v56 V0) slices_S128x384_S128x128_0_128) (extractStridedSlice S128x128 ![0, 128] (res_main_while0b_v61 V0) slices_S128x384_S128x128_0_128))) : (Proc.devRef .tc main_while0b_v77 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (constant S_ .f32 0x3F800000#32 : (Proc.devRef .tc main_while0b_cst_32 : DevRef τ sig).ty.Contents (Elt F)) = Cert.ReferenceIdeal.Step.b66 j s := by
  unfold Cert.ReferenceIdeal.Step.b66
  rfl
set_option maxRecDepth 8192 in
theorem al_67 (h : Holds V0 s j) : (broadcastInDim S128x128 ![] bcast_S_S128x128 (constant S_ .f32 0x3F800000#32) : (Proc.devRef .tc main_while0b_v78 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (addf (broadcastInDim S128x128 ![] bcast_S_S128x128 (constant S_ .f32 0x3F800000#32)) (Host.exp (Host.negf (addf (extractStridedSlice S128x128 ![0, 128] (res_main_while0b_v56 V0) slices_S128x384_S128x128_0_128) (extractStridedSlice S128x128 ![0, 128] (res_main_while0b_v61 V0) slices_S128x384_S128x128_0_128)))) : (Proc.devRef .tc main_while0b_v79 : DevRef τ sig).ty.Contents (Elt F)) = Cert.ReferenceIdeal.Step.b68 j s := by
  unfold Cert.ReferenceIdeal.Step.b68
  rw [← al_67 h, ← al_65 h]
  try rfl
set_option maxRecDepth 8192 in
theorem al_69 (h : Holds V0 s j) : (constant S_ .f32 0x3F800000#32 : (Proc.devRef .tc main_while0b_cst_33 : DevRef τ sig).ty.Contents (Elt F)) = Cert.ReferenceIdeal.Step.b69 j s := by
  unfold Cert.ReferenceIdeal.Step.b69
  rfl
set_option maxRecDepth 8192 in
theorem al_70 (h : Holds V0 s j) : (broadcastInDim S128x128 ![] bcast_S_S128x128 (constant S_ .f32 0x3F800000#32) : (Proc.devRef .tc main_while0b_v80 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (res_main_while0b_v81 V0 : (Proc.devRef .tc main_while0b_v81 : DevRef τ sig).ty.Contents (Elt F)) = Cert.ReferenceIdeal.Step.b71 j s := by
  unfold res_main_while0b_v81 Cert.ReferenceIdeal.Step.b71
  rw [← al_70 h, ← al_68 h]
  try rfl
set_option maxRecDepth 8192 in
theorem al_72 (h : Holds V0 s j) : (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v56 V0) slices_S128x384_S128x128_0_0) (extractStridedSlice S128x128 ![0, 0] (res_main_while0b_v61 V0) slices_S128x384_S128x128_0_0)))))) (extractStridedSlice S128x128 ![0, 256] (res_main_while0b_v61 V0) slices_S128x384_S128x128_0_256) : (Proc.devRef .tc main_while0b_v82 : DevRef τ sig).ty.Contents (Elt F)) = Cert.ReferenceIdeal.Step.b72 j s := by
  unfold Cert.ReferenceIdeal.Step.b72
  rw [← al_62 h, ← al_53 h]
  try rfl
set_option maxRecDepth 8192 in
theorem al_73 (h : Holds V0 s j) : (addf (extractStridedSlice S128x128 ![0, 256] (res_main_while0b_v56 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v56 V0) slices_S128x384_S128x128_0_0) (extractStridedSlice S128x128 ![0, 0] (res_main_while0b_v61 V0) slices_S128x384_S128x128_0_0)))))) (extractStridedSlice S128x128 ![0, 256] (res_main_while0b_v61 V0) slices_S128x384_S128x128_0_256)) : (Proc.devRef .tc main_while0b_v83 : DevRef τ sig).ty.Contents (Elt F)) = Cert.ReferenceIdeal.Step.b73 j s := by
  unfold Cert.ReferenceIdeal.Step.b73
  rw [← al_50 h, ← al_72 h]
  try rfl
set_option maxRecDepth 8192 in
theorem al_74 (h : Holds V0 s j) : (Host.tanh (addf (extractStridedSlice S128x128 ![0, 256] (res_main_while0b_v56 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v56 V0) slices_S128x384_S128x128_0_0) (extractStridedSlice S128x128 ![0, 0] (res_main_while0b_v61 V0) slices_S128x384_S128x128_0_0)))))) (extractStridedSlice S128x128 ![0, 256] (res_main_while0b_v61 V0) slices_S128x384_S128x128_0_256))) : (Proc.devRef .tc main_while0b_v84 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (constant S_ .f32 0x3F800000#32 : (Proc.devRef .tc main_while0b_cst_34 : DevRef τ sig).ty.Contents (Elt F)) = Cert.ReferenceIdeal.Step.b75 j s := by
  unfold Cert.ReferenceIdeal.Step.b75
  rfl
set_option maxRecDepth 8192 in
theorem al_76 (h : Holds V0 s j) : (broadcastInDim S128x128 ![] bcast_S_S128x128 (constant S_ .f32 0x3F800000#32) : (Proc.devRef .tc main_while0b_v85 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (subf (broadcastInDim S128x128 ![] bcast_S_S128x128 (constant S_ .f32 0x3F800000#32)) (res_main_while0b_v81 V0) : (Proc.devRef .tc main_while0b_v86 : DevRef τ sig).ty.Contents (Elt F)) = Cert.ReferenceIdeal.Step.b77 j s := by
  unfold Cert.ReferenceIdeal.Step.b77
  rw [← al_76 h, ← al_71 h]
  try rfl
set_option maxRecDepth 8192 in
theorem al_78 (h : Holds V0 s j) : (mulf (subf (broadcastInDim S128x128 ![] bcast_S_S128x128 (constant S_ .f32 0x3F800000#32)) (res_main_while0b_v81 V0)) (Host.tanh (addf (extractStridedSlice S128x128 ![0, 256] (res_main_while0b_v56 V0) slices_S128x384_S128x128_0_256) (mulf (Host.divf (broadcastInDim S128x128 ![] bcast_S_S128x128 (constant S_ .f32 0x3F800000#32)) (addf (broadcastInDim S128x128 ![] bcast_S_S128x128 (constant S_ .f32 0x3F800000#32)) (Host.exp (Host.negf (addf (extractStridedSlice S128x128 ![0, 0] (res_main_while0b_v56 V0) slices_S128x384_S128x128_0_0) (extractStridedSlice S128x128 ![0, 0] (res_main_while0b_v61 V0) slices_S128x384_S128x128_0_0)))))) (extractStridedSlice S128x128 ![0, 256] (res_main_while0b_v61 V0) slices_S128x384_S128x128_0_256)))) : (Proc.devRef .tc main_while0b_v87 : DevRef τ sig).ty.Contents (Elt F)) = Cert.ReferenceIdeal.Step.b78 j s := by
  unfold Cert.ReferenceIdeal.Step.b78
  rw [← al_77 h, ← al_74 h]
  try rfl
set_option maxRecDepth 8192 in
theorem al_79 (h : Holds V0 s j) : (mulf (res_main_while0b_v81 V0) (V0 (Proc.devRef .tc main_v13_16)) : (Proc.devRef .tc main_while0b_v88 : DevRef τ sig).ty.Contents (Elt F)) = Cert.ReferenceIdeal.Step.b79 j s := by
  unfold Cert.ReferenceIdeal.Step.b79
  rw [← al_71 h, h.f_16]
  try rfl
set_option maxRecDepth 8192 in
theorem al_80 (h : Holds V0 s j) : (res_main_while0b_v89 V0 : (Proc.devRef .tc main_while0b_v89 : DevRef τ sig).ty.Contents (Elt F)) = Cert.ReferenceIdeal.Step.b80 j s := by
  unfold res_main_while0b_v89 Cert.ReferenceIdeal.Step.b80
  rw [← al_78 h, ← al_79 h]
  try rfl
set_option maxRecDepth 8192 in
theorem al_81 (h : Holds V0 s j) : (transpose S128x128 [1, 0] (V0 (Proc.devRef .tc main_v13_13)) transposes_S128x128_S128x128_1_0 : (Proc.devRef .tc main_while0b_v90 : DevRef τ sig).ty.Contents (Elt F)) = Cert.ReferenceIdeal.Step.b81 j s := by
  unfold Cert.ReferenceIdeal.Step.b81
  rw [h.f_13]
  try rfl
set_option maxRecDepth 8192 in
theorem al_82 (h : Holds V0 s j) : (Host.dotGeneral dot_S128x128_S128x128_S128x128_1_0_0_1_n_n none (res_main_while0b_v89 V0) (transpose S128x128 [1, 0] (V0 (Proc.devRef .tc main_v13_13)) transposes_S128x128_S128x128_1_0) : (Proc.devRef .tc main_while0b_v91 : DevRef τ sig).ty.Contents (Elt F)) = Cert.ReferenceIdeal.Step.b82 j s := by
  unfold Cert.ReferenceIdeal.Step.b82
  rw [← al_80 h, ← al_81 h]
  try rfl
set_option maxRecDepth 8192 in
theorem al_83 (h : Holds V0 s j) : (broadcastInDim S1x128 ![1] bcast_S128_S1x128_1 (V0 (Proc.devRef .tc main_v13_14)) : (Proc.devRef .tc main_while0b_v92 : DevRef τ sig).ty.Contents (Elt F)) = Cert.ReferenceIdeal.Step.b83 j s := by
  unfold Cert.ReferenceIdeal.Step.b83
  rw [h.f_14]
  try rfl
set_option maxRecDepth 8192 in
theorem al_84 (h : Holds V0 s j) : (broadcastInDim S128x128 ![0, 1] bcast_S1x128_S128x128_0_1 (broadcastInDim S1x128 ![1] bcast_S128_S1x128_1 (V0 (Proc.devRef .tc main_v13_14))) : (Proc.devRef .tc main_while0b_v93 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (res_main_while0b_v94 V0 : (Proc.devRef .tc main_while0b_v94 : DevRef τ sig).ty.Contents (Elt F)) = Cert.ReferenceIdeal.Step.b85 j s := by
  unfold res_main_while0b_v94 Cert.ReferenceIdeal.Step.b85
  rw [← al_82 h, ← al_84 h]
  try rfl
set_option maxRecDepth 8192 in
theorem al_86 (h : Holds V0 s j) : ((Host.topK S128x1 1 (FloatOps.cmpfTotal .gt) (res_main_while0b_v94 V0) sliceFits_S128x128_S128x1).1 : (Proc.devRef .tc main_while0b_values : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : ((Host.topK S128x1 1 (FloatOps.cmpfTotal .gt) (res_main_while0b_v94 V0) sliceFits_S128x128_S128x1).2 : (Proc.devRef .tc main_while0b_indices : DevRef τ sig).ty.Contents (Elt F)) = Cert.ReferenceIdeal.Step.b87 j s := by
  unfold Cert.ReferenceIdeal.Step.b87
  rw [← al_85 h]
  try rfl
set_option maxRecDepth 8192 in
theorem al_88 (h : Holds V0 s j) : (shapeCast S128 ((Host.topK S128x1 1 (FloatOps.cmpfTotal .gt) (res_main_while0b_v94 V0) sliceFits_S128x128_S128x1).2) shapeCasts_S128x1_S128 : (Proc.devRef .tc main_while0b_v95 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (broadcastInDim S128x1 ![0] bcast_S128_S128x1_0 (shapeCast S128 ((Host.topK S128x1 1 (FloatOps.cmpfTotal .gt) (res_main_while0b_v94 V0) sliceFits_S128x128_S128x1).2) shapeCasts_S128x1_S128) : (Proc.devRef .tc main_while0b_v96 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (sitofp .f32 (broadcastInDim S128x1 ![0] bcast_S128_S128x1_0 (shapeCast S128 ((Host.topK S128x1 1 (FloatOps.cmpfTotal .gt) (res_main_while0b_v94 V0) sliceFits_S128x128_S128x1).2) shapeCasts_S128x1_S128)) : (Proc.devRef .tc main_while0b_v97 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (constantI S_ 32 0#32 : (Proc.devRef .tc main_while0b_c_35 : DevRef τ sig).ty.Contents (Elt F)) = Cert.ReferenceIdeal.Step.b91 j s := by
  unfold Cert.ReferenceIdeal.Step.b91
  rfl
set_option maxRecDepth 8192 in
theorem al_92 (h : Holds V0 s j) : (res_main_while0b_v98 V0 : (Proc.devRef .tc main_while0b_v98 : DevRef τ sig).ty.Contents (Elt F)) = Cert.ReferenceIdeal.Step.b92 j s := by
  unfold res_main_while0b_v98 Cert.ReferenceIdeal.Step.b92
  rw [← al_1 h, ← al_91 h]
  try rfl
set_option maxRecDepth 8192 in
theorem al_93 (h : Holds V0 s j) : (constant S_ .f32 0xFF800000#32 : (Proc.devRef .tc main_while0b_cst_36 : DevRef τ sig).ty.Contents (Elt F)) = Cert.ReferenceIdeal.Step.b93 j s := by
  unfold Cert.ReferenceIdeal.Step.b93
  rfl
set_option maxRecDepth 8192 in
theorem al_94 (h : Holds V0 s j) : (broadcastInDim S128x128 ![] bcast_S_S128x128 (constant S_ .f32 0xFF800000#32) : (Proc.devRef .tc main_while0b_v99 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (constantI S_ 32 0#32 : (Proc.devRef .tc main_while0b_c_37 : DevRef τ sig).ty.Contents (Elt F)) = Cert.ReferenceIdeal.Step.b95 j s := by
  unfold Cert.ReferenceIdeal.Step.b95
  rfl
set_option maxRecDepth 8192 in
theorem al_96 (h : Holds V0 s j) : (broadcastInDim S1 ![] bcast_S_S1 (constantI S_ 32 0#32) : (Proc.devRef .tc main_while0b_v100 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (constant S_ .f32 0x3F800000#32 : (Proc.devRef .tc main_while0b_cst_38 : DevRef τ sig).ty.Contents (Elt F)) = Cert.ReferenceIdeal.Step.b97 j s := by
  unfold Cert.ReferenceIdeal.Step.b97
  rfl
set_option maxRecDepth 8192 in
theorem al_98 (h : Holds V0 s j) : (broadcastInDim S128 ![] bcast_S_S128 (constant S_ .f32 0x3F800000#32) : (Proc.devRef .tc main_while0b_v101 : DevRef τ sig).ty.Contents (Elt F)) = Cert.ReferenceIdeal.Step.b98 j s := by
  unfold Cert.ReferenceIdeal.Step.b98
  rw [← al_97 h]
  try rfl
set_option maxRecDepth 8192 in
theorem al_99 (h : Holds V0 s j) : (Host.scatter scatter_S128x128_S1_S128_0_1_1_0 (fun _ b => b) (broadcastInDim S128x128 ![] bcast_S_S128x128 (constant S_ .f32 0xFF800000#32)) (broadcastInDim S1 ![] bcast_S_S1 (constantI S_ 32 0#32)) (broadcastInDim S128 ![] bcast_S_S128 (constant S_ .f32 0x3F800000#32)) : (Proc.devRef .tc main_while0b_v102 : DevRef τ sig).ty.Contents (Elt F)) = Cert.ReferenceIdeal.Step.b99 j s := by
  unfold Cert.ReferenceIdeal.Step.b99
  rw [← al_94 h, ← al_96 h, ← al_98 h]
  try rfl
set_option maxRecDepth 8192 in
theorem al_100 (h : Holds V0 s j) : (res_main_while0b_v103 V0 : (Proc.devRef .tc main_while0b_v103 : DevRef τ sig).ty.Contents (Elt F)) = Cert.ReferenceIdeal.Step.b100 j s := by
  unfold res_main_while0b_v103 Cert.ReferenceIdeal.Step.b100
  rfl
set_option maxRecDepth 8192 in
theorem al_101 (h : Holds V0 s j) : (constantI S_ 32 0#32 : (Proc.devRef .tc main_while0b_c_39 : DevRef τ sig).ty.Contents (Elt F)) = Cert.ReferenceIdeal.Step.b101 j s := by
  unfold Cert.ReferenceIdeal.Step.b101
  rfl
set_option maxRecDepth 8192 in
theorem al_102 (h : Holds V0 s j) : (broadcastInDim S128 ![] bcast_S_S128 (constantI S_ 32 0#32) : (Proc.devRef .tc main_while0b_v104 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (cmpi .slt (res_main_while0b_v103 V0) (broadcastInDim S128 ![] bcast_S_S128 (constantI S_ 32 0#32)) : (Proc.devRef .tc main_while0b_v105 : DevRef τ sig).ty.Contents (Elt F)) = Cert.ReferenceIdeal.Step.b103 j s := by
  unfold Cert.ReferenceIdeal.Step.b103
  rw [← al_100 h, ← al_102 h]
  try rfl
set_option maxRecDepth 8192 in
theorem al_104 (h : Holds V0 s j) : (constantI S_ 32 128#32 : (Proc.devRef .tc main_while0b_c_40 : DevRef τ sig).ty.Contents (Elt F)) = Cert.ReferenceIdeal.Step.b104 j s := by
  unfold Cert.ReferenceIdeal.Step.b104
  rfl
set_option maxRecDepth 8192 in
theorem al_105 (h : Holds V0 s j) : (broadcastInDim S128 ![] bcast_S_S128 (constantI S_ 32 128#32) : (Proc.devRef .tc main_while0b_v106 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (addi (res_main_while0b_v103 V0) (broadcastInDim S128 ![] bcast_S_S128 (constantI S_ 32 128#32)) : (Proc.devRef .tc main_while0b_v107 : DevRef τ sig).ty.Contents (Elt F)) = Cert.ReferenceIdeal.Step.b106 j s := by
  unfold Cert.ReferenceIdeal.Step.b106
  rw [← al_100 h, ← al_105 h]
  try rfl
set_option maxRecDepth 8192 in
theorem al_107 (h : Holds V0 s j) : (select (cmpi .slt (res_main_while0b_v103 V0) (broadcastInDim S128 ![] bcast_S_S128 (constantI S_ 32 0#32))) (addi (res_main_while0b_v103 V0) (broadcastInDim S128 ![] bcast_S_S128 (constantI S_ 32 128#32))) (res_main_while0b_v103 V0) : (Proc.devRef .tc main_while0b_v108 : DevRef τ sig).ty.Contents (Elt F)) = Cert.ReferenceIdeal.Step.b107 j s := by
  unfold Cert.ReferenceIdeal.Step.b107
  rw [← al_103 h, ← al_106 h, ← al_100 h]
  try rfl
set_option maxRecDepth 8192 in
theorem al_108 (h : Holds V0 s j) : (constantI S_ 32 0#32 : (Proc.devRef .tc main_while0b_c_41 : DevRef τ sig).ty.Contents (Elt F)) = Cert.ReferenceIdeal.Step.b108 j s := by
  unfold Cert.ReferenceIdeal.Step.b108
  rfl
set_option maxRecDepth 8192 in
theorem al_109 (h : Holds V0 s j) : (broadcastInDim S128 ![] bcast_S_S128 (constantI S_ 32 0#32) : (Proc.devRef .tc main_while0b_v109 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (cmpi .slt (V0 (Proc.devRef .tc main_v13_19)) (broadcastInDim S128 ![] bcast_S_S128 (constantI S_ 32 0#32)) : (Proc.devRef .tc main_while0b_v110 : DevRef τ sig).ty.Contents (Elt F)) = Cert.ReferenceIdeal.Step.b110 j s := by
  unfold Cert.ReferenceIdeal.Step.b110
  rw [← al_109 h, h.f_19]
  try rfl
set_option maxRecDepth 8192 in
theorem al_111 (h : Holds V0 s j) : (constantI S_ 32 128#32 : (Proc.devRef .tc main_while0b_c_42 : DevRef τ sig).ty.Contents (Elt F)) = Cert.ReferenceIdeal.Step.b111 j s := by
  unfold Cert.ReferenceIdeal.Step.b111
  rfl
set_option maxRecDepth 8192 in
theorem al_112 (h : Holds V0 s j) : (broadcastInDim S128 ![] bcast_S_S128 (constantI S_ 32 128#32) : (Proc.devRef .tc main_while0b_v111 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (addi (V0 (Proc.devRef .tc main_v13_19)) (broadcastInDim S128 ![] bcast_S_S128 (constantI S_ 32 128#32)) : (Proc.devRef .tc main_while0b_v112 : DevRef τ sig).ty.Contents (Elt F)) = Cert.ReferenceIdeal.Step.b113 j s := by
  unfold Cert.ReferenceIdeal.Step.b113
  rw [← al_112 h, h.f_19]
  try rfl
set_option maxRecDepth 8192 in
theorem al_114 (h : Holds V0 s j) : (select (cmpi .slt (V0 (Proc.devRef .tc main_v13_19)) (broadcastInDim S128 ![] bcast_S_S128 (constantI S_ 32 0#32))) (addi (V0 (Proc.devRef .tc main_v13_19)) (broadcastInDim S128 ![] bcast_S_S128 (constantI S_ 32 128#32))) (V0 (Proc.devRef .tc main_v13_19)) : (Proc.devRef .tc main_while0b_v113 : DevRef τ sig).ty.Contents (Elt F)) = Cert.ReferenceIdeal.Step.b114 j s := by
  unfold Cert.ReferenceIdeal.Step.b114
  rw [← al_110 h, ← al_113 h, h.f_19]
  try rfl
set_option maxRecDepth 8192 in
theorem al_115 (h : Holds V0 s j) : (broadcastInDim S128x1 ![0] bcast_S128_S128x1_0 (select (cmpi .slt (res_main_while0b_v103 V0) (broadcastInDim S128 ![] bcast_S_S128 (constantI S_ 32 0#32))) (addi (res_main_while0b_v103 V0) (broadcastInDim S128 ![] bcast_S_S128 (constantI S_ 32 128#32))) (res_main_while0b_v103 V0)) : (Proc.devRef .tc main_while0b_v114 : DevRef τ sig).ty.Contents (Elt F)) = Cert.ReferenceIdeal.Step.b115 j s := by
  unfold Cert.ReferenceIdeal.Step.b115
  rw [← al_107 h]
  try rfl
set_option maxRecDepth 8192 in
theorem al_116 (h : Holds V0 s j) : (broadcastInDim S128x1 ![0] bcast_S128_S128x1_0 (select (cmpi .slt (V0 (Proc.devRef .tc main_v13_19)) (broadcastInDim S128 ![] bcast_S_S128 (constantI S_ 32 0#32))) (addi (V0 (Proc.devRef .tc main_v13_19)) (broadcastInDim S128 ![] bcast_S_S128 (constantI S_ 32 128#32))) (V0 (Proc.devRef .tc main_v13_19))) : (Proc.devRef .tc main_while0b_v115 : DevRef τ sig).ty.Contents (Elt F)) = Cert.ReferenceIdeal.Step.b116 j s := by
  unfold Cert.ReferenceIdeal.Step.b116
  rw [← al_114 h]
  try rfl
set_option maxRecDepth 8192 in
theorem al_117 (h : Holds V0 s j) : (concatenate S128x2 1 [⟨S128x1, (broadcastInDim S128x1 ![0] bcast_S128_S128x1_0 (select (cmpi .slt (res_main_while0b_v103 V0) (broadcastInDim S128 ![] bcast_S_S128 (constantI S_ 32 0#32))) (addi (res_main_while0b_v103 V0) (broadcastInDim S128 ![] bcast_S_S128 (constantI S_ 32 128#32))) (res_main_while0b_v103 V0)))⟩, ⟨S128x1, (broadcastInDim S128x1 ![0] bcast_S128_S128x1_0 (select (cmpi .slt (V0 (Proc.devRef .tc main_v13_19)) (broadcastInDim S128 ![] bcast_S_S128 (constantI S_ 32 0#32))) (addi (V0 (Proc.devRef .tc main_v13_19)) (broadcastInDim S128 ![] bcast_S_S128 (constantI S_ 32 128#32))) (V0 (Proc.devRef .tc main_v13_19))))⟩] concatenates_S128x1_S128x1_S128x2_d1 : (Proc.devRef .tc main_while0b_v116 : DevRef τ sig).ty.Contents (Elt F)) = Cert.ReferenceIdeal.Step.b117 j s := by
  unfold Cert.ReferenceIdeal.Step.b117
  rw [← al_115 h, ← al_116 h]
  try rfl
set_option maxRecDepth 8192 in
theorem al_118 (h : Holds V0 s j) : (constantI S_ 1 1#1 : (Proc.devRef .tc main_while0b_c_43 : DevRef τ sig).ty.Contents (Elt F)) = Cert.ReferenceIdeal.Step.b118 j s := by
  unfold Cert.ReferenceIdeal.Step.b118
  rfl
set_option maxRecDepth 8192 in
theorem al_119 (h : Holds V0 s j) : (broadcastInDim S128 ![] bcast_S_S128 (constantI S_ 1 1#1) : (Proc.devRef .tc main_while0b_v117 : DevRef τ sig).ty.Contents (Elt F)) = Cert.ReferenceIdeal.Step.b119 j s := by
  unfold Cert.ReferenceIdeal.Step.b119
  rw [← al_118 h]
  try rfl
set_option maxRecDepth 8192 in
theorem al_120 (h : Holds V0 s j) : (res_main_while0b_v118 V0 : (Proc.devRef .tc main_while0b_v118 : DevRef τ sig).ty.Contents (Elt F)) = Cert.ReferenceIdeal.Step.b120 j s := by
  unfold res_main_while0b_v118 Cert.ReferenceIdeal.Step.b120
  rw [← al_117 h, ← al_119 h, h.f_17]
  try rfl
set_option maxRecDepth 8192 in
theorem al_121 (h : Holds V0 s j) : (constant S_ .f32 0xFF800000#32 : (Proc.devRef .tc main_while0b_cst_44 : DevRef τ sig).ty.Contents (Elt F)) = Cert.ReferenceIdeal.Step.b121 j s := by
  unfold Cert.ReferenceIdeal.Step.b121
  rfl
set_option maxRecDepth 8192 in
theorem al_122 (h : Holds V0 s j) : (id (constant S_ .f32 0xFF800000#32) : (Proc.devRef .tc main_while0b_call1_v0 : DevRef τ sig).ty.Contents (Elt F)) = Cert.ReferenceIdeal.Step.b122 j s := by
  unfold Cert.ReferenceIdeal.Step.b122
  rw [← al_121 h]
  try rfl
set_option maxRecDepth 8192 in
theorem al_123 (h : Holds V0 s j) : (broadcastInDim S128x128 ![] bcast_S_S128x128 (id (constant S_ .f32 0xFF800000#32)) : (Proc.devRef .tc main_while0b_call1_v1 : DevRef τ sig).ty.Contents (Elt F)) = Cert.ReferenceIdeal.Step.b123 j s := by
  unfold Cert.ReferenceIdeal.Step.b123
  rw [← al_122 h]
  try rfl
set_option maxRecDepth 8192 in
theorem al_124 (h : Holds V0 s j) : (select (res_main_while0b_v118 V0) (broadcastInDim S128x128 ![] bcast_S_S128x128 (id (constant S_ .f32 0xFF800000#32))) (res_main_while0b_v94 V0) : (Proc.devRef .tc main_while0b_v119 : DevRef τ sig).ty.Contents (Elt F)) = Cert.ReferenceIdeal.Step.b124 j s := by
  unfold Cert.ReferenceIdeal.Step.b124
  rw [← al_120 h, ← al_123 h, ← al_85 h]
  try rfl
set_option maxRecDepth 8192 in
theorem al_125 (h : Holds V0 s j) : (res_main_while0b_v120 V0 : (Proc.devRef .tc main_while0b_v120 : DevRef τ sig).ty.Contents (Elt F)) = Cert.ReferenceIdeal.Step.b125 j s := by
  unfold res_main_while0b_v120 Cert.ReferenceIdeal.Step.b125
  rw [← al_92 h, ← al_99 h, ← al_124 h]
  try rfl
set_option maxRecDepth 8192 in
theorem al_126 (h : Holds V0 s j) : (select (broadcastInDim S128x128 ![] bcast_S_S128x128 (res_main_while0b_v98 V0)) (V0 (Proc.devRef .tc main_v13_17)) (res_main_while0b_v118 V0) : (Proc.devRef .tc main_while0b_v121 : DevRef τ sig).ty.Contents (Elt F)) = Cert.ReferenceIdeal.Step.b126 j s := by
  unfold Cert.ReferenceIdeal.Step.b126
  rw [← al_92 h, ← al_120 h, h.f_17]
  try rfl
set_option maxRecDepth 8192 in
theorem al_127 (h : Holds V0 s j) : ((Host.topK S128x1 1 (FloatOps.cmpfTotal .gt) (res_main_while0b_v120 V0) sliceFits_S128x128_S128x1).1 : (Proc.devRef .tc main_while0b_values_45 : DevRef τ sig).ty.Contents (Elt F)) = Cert.ReferenceIdeal.Step.b127 j s := by
  unfold Cert.ReferenceIdeal.Step.b127
  rw [← al_125 h]
  try rfl
set_option maxRecDepth 8192 in
theorem al_128 (h : Holds V0 s j) : ((Host.topK S128x1 1 (FloatOps.cmpfTotal .gt) (res_main_while0b_v120 V0) sliceFits_S128x128_S128x1).2 : (Proc.devRef .tc main_while0b_indices_46 : DevRef τ sig).ty.Contents (Elt F)) = Cert.ReferenceIdeal.Step.b128 j s := by
  unfold Cert.ReferenceIdeal.Step.b128
  rw [← al_125 h]
  try rfl
set_option maxRecDepth 8192 in
theorem al_129 (h : Holds V0 s j) : (res_main_while0b_v122 V0 : (Proc.devRef .tc main_while0b_v122 : DevRef τ sig).ty.Contents (Elt F)) = Cert.ReferenceIdeal.Step.b129 j s := by
  unfold res_main_while0b_v122 Cert.ReferenceIdeal.Step.b129
  rw [← al_128 h]
  try rfl
set_option maxRecDepth 8192 in
theorem al_130 (h : Holds V0 s j) : (constant S_ .f32 0xFF800000#32 : (Proc.devRef .tc main_while0b_call4_cst : DevRef τ sig).ty.Contents (Elt F)) = Cert.ReferenceIdeal.Step.b130 j s := by
  unfold Cert.ReferenceIdeal.Step.b130
  rfl
set_option maxRecDepth 8192 in
theorem al_131 (h : Holds V0 s j) : (Host.reduce FloatOps.maximumf (res_main_while0b_v120 V0) (constant S_ .f32 0xFF800000#32) reducesTo_S128x128_S128_d1 h_S_ : (Proc.devRef .tc main_while0b_call4_v0 : DevRef τ sig).ty.Contents (Elt F)) = Cert.ReferenceIdeal.Step.b131 j s := by
  unfold Cert.ReferenceIdeal.Step.b131
  rw [← al_125 h, ← al_130 h]
  try rfl
set_option maxRecDepth 8192 in
theorem al_132 (h : Holds V0 s j) : (constant S_ .f32 0xFF800000#32 : (Proc.devRef .tc main_while0b_call4_cst_0 : DevRef τ sig).ty.Contents (Elt F)) = Cert.ReferenceIdeal.Step.b132 j s := by
  unfold Cert.ReferenceIdeal.Step.b132
  rfl
set_option maxRecDepth 8192 in
theorem al_133 (h : Holds V0 s j) : (broadcastInDim S128 ![] bcast_S_S128 (constant S_ .f32 0xFF800000#32) : (Proc.devRef .tc main_while0b_call4_v1 : DevRef τ sig).ty.Contents (Elt F)) = Cert.ReferenceIdeal.Step.b133 j s := by
  unfold Cert.ReferenceIdeal.Step.b133
  rw [← al_132 h]
  try rfl
set_option maxRecDepth 8192 in
theorem al_134 (h : Holds V0 s j) : (maximumf (broadcastInDim S128 ![] bcast_S_S128 (constant S_ .f32 0xFF800000#32)) (Host.reduce FloatOps.maximumf (res_main_while0b_v120 V0) (constant S_ .f32 0xFF800000#32) reducesTo_S128x128_S128_d1 h_S_) : (Proc.devRef .tc main_while0b_call4_v2 : DevRef τ sig).ty.Contents (Elt F)) = Cert.ReferenceIdeal.Step.b134 j s := by
  unfold Cert.ReferenceIdeal.Step.b134
  rw [← al_133 h, ← al_131 h]
  try rfl
set_option maxRecDepth 8192 in
theorem al_135 (h : Holds V0 s j) : (broadcastInDim S128x1 ![0] bcast_S128_S128x1_0 (maximumf (broadcastInDim S128 ![] bcast_S_S128 (constant S_ .f32 0xFF800000#32)) (Host.reduce FloatOps.maximumf (res_main_while0b_v120 V0) (constant S_ .f32 0xFF800000#32) reducesTo_S128x128_S128_d1 h_S_)) : (Proc.devRef .tc main_while0b_call4_v3 : DevRef τ sig).ty.Contents (Elt F)) = Cert.ReferenceIdeal.Step.b135 j s := by
  unfold Cert.ReferenceIdeal.Step.b135
  rw [← al_134 h]
  try rfl
set_option maxRecDepth 8192 in
theorem al_136 (h : Holds V0 s j) : (broadcastInDim S128x128 ![0, 1] bcast_S128x1_S128x128_0_1 (broadcastInDim S128x1 ![0] bcast_S128_S128x1_0 (maximumf (broadcastInDim S128 ![] bcast_S_S128 (constant S_ .f32 0xFF800000#32)) (Host.reduce FloatOps.maximumf (res_main_while0b_v120 V0) (constant S_ .f32 0xFF800000#32) reducesTo_S128x128_S128_d1 h_S_))) : (Proc.devRef .tc main_while0b_call4_v4 : DevRef τ sig).ty.Contents (Elt F)) = Cert.ReferenceIdeal.Step.b136 j s := by
  unfold Cert.ReferenceIdeal.Step.b136
  rw [← al_135 h]
  try rfl
set_option maxRecDepth 8192 in
theorem al_137 (h : Holds V0 s j) : (res_main_while0b_call4_v5 V0 : (Proc.devRef .tc main_while0b_call4_v5 : DevRef τ sig).ty.Contents (Elt F)) = Cert.ReferenceIdeal.Step.b137 j s := by
  unfold res_main_while0b_call4_v5 Cert.ReferenceIdeal.Step.b137
  rw [← al_125 h, ← al_136 h]
  try rfl
set_option maxRecDepth 8192 in
theorem al_138 (h : Holds V0 s j) : (Host.exp (res_main_while0b_call4_v5 V0) : (Proc.devRef .tc main_while0b_call4_v6 : DevRef τ sig).ty.Contents (Elt F)) = Cert.ReferenceIdeal.Step.b138 j s := by
  unfold Cert.ReferenceIdeal.Step.b138
  rw [← al_137 h]
  try rfl
set_option maxRecDepth 8192 in
theorem al_139 (h : Holds V0 s j) : (constant S_ .f32 0x00000000#32 : (Proc.devRef .tc main_while0b_call4_cst_1 : DevRef τ sig).ty.Contents (Elt F)) = Cert.ReferenceIdeal.Step.b139 j s := by
  unfold Cert.ReferenceIdeal.Step.b139
  rfl
set_option maxRecDepth 8192 in
theorem al_140 (h : Holds V0 s j) : (Host.reduceAdd (Host.exp (res_main_while0b_call4_v5 V0)) (constant S_ .f32 0x00000000#32) reducesTo_S128x128_S128_d1 h_S_ : (Proc.devRef .tc main_while0b_call4_v7 : DevRef τ sig).ty.Contents (Elt F)) = Cert.ReferenceIdeal.Step.b140 j s := by
  unfold Cert.ReferenceIdeal.Step.b140
  rw [← al_138 h, ← al_139 h]
  try rfl
set_option maxRecDepth 8192 in
theorem al_141 (h : Holds V0 s j) : (broadcastInDim S128x1 ![0] bcast_S128_S128x1_0 (Host.reduceAdd (Host.exp (res_main_while0b_call4_v5 V0)) (constant S_ .f32 0x00000000#32) reducesTo_S128x128_S128_d1 h_S_) : (Proc.devRef .tc main_while0b_call4_v8 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (Host.log (broadcastInDim S128x1 ![0] bcast_S128_S128x1_0 (Host.reduceAdd (Host.exp (res_main_while0b_call4_v5 V0)) (constant S_ .f32 0x00000000#32) reducesTo_S128x128_S128_d1 h_S_)) : (Proc.devRef .tc main_while0b_call4_v9 : DevRef τ sig).ty.Contents (Elt F)) = Cert.ReferenceIdeal.Step.b142 j s := by
  unfold Cert.ReferenceIdeal.Step.b142
  rw [← al_141 h]
  try rfl
set_option maxRecDepth 8192 in
theorem al_143 (h : Holds V0 s j) : (broadcastInDim S128x128 ![0, 1] bcast_S128x1_S128x128_0_1 (Host.log (broadcastInDim S128x1 ![0] bcast_S128_S128x1_0 (Host.reduceAdd (Host.exp (res_main_while0b_call4_v5 V0)) (constant S_ .f32 0x00000000#32) reducesTo_S128x128_S128_d1 h_S_))) : (Proc.devRef .tc main_while0b_call4_v10 : DevRef τ sig).ty.Contents (Elt F)) = Cert.ReferenceIdeal.Step.b143 j s := by
  unfold Cert.ReferenceIdeal.Step.b143
  rw [← al_142 h]
  try rfl
set_option maxRecDepth 8192 in
theorem al_144 (h : Holds V0 s j) : (subf (res_main_while0b_call4_v5 V0) (broadcastInDim S128x128 ![0, 1] bcast_S128x1_S128x128_0_1 (Host.log (broadcastInDim S128x1 ![0] bcast_S128_S128x1_0 (Host.reduceAdd (Host.exp (res_main_while0b_call4_v5 V0)) (constant S_ .f32 0x00000000#32) reducesTo_S128x128_S128_d1 h_S_)))) : (Proc.devRef .tc main_while0b_v123 : DevRef τ sig).ty.Contents (Elt F)) = Cert.ReferenceIdeal.Step.b144 j s := by
  unfold Cert.ReferenceIdeal.Step.b144
  rw [← al_137 h, ← al_143 h]
  try rfl
set_option maxRecDepth 8192 in
theorem al_145 (h : Holds V0 s j) : (res_main_while0b_v124 V0 : (Proc.devRef .tc main_while0b_v124 : DevRef τ sig).ty.Contents (Elt F)) = Cert.ReferenceIdeal.Step.b145 j s := by
  unfold res_main_while0b_v124 Cert.ReferenceIdeal.Step.b145
  rw [← al_129 h]
  try rfl
set_option maxRecDepth 8192 in
theorem al_146 (h : Holds V0 s j) : (constantI S_ 32 0#32 : (Proc.devRef .tc main_while0b_call5_c : DevRef τ sig).ty.Contents (Elt F)) = Cert.ReferenceIdeal.Step.b146 j s := by
  unfold Cert.ReferenceIdeal.Step.b146
  rfl
set_option maxRecDepth 8192 in
theorem al_147 (h : Holds V0 s j) : (broadcastInDim S128x1 ![] bcast_S_S128x1 (constantI S_ 32 0#32) : (Proc.devRef .tc main_while0b_call5_v0 : DevRef τ sig).ty.Contents (Elt F)) = Cert.ReferenceIdeal.Step.b147 j s := by
  unfold Cert.ReferenceIdeal.Step.b147
  rw [← al_146 h]
  try rfl
set_option maxRecDepth 8192 in
theorem al_148 (h : Holds V0 s j) : (cmpi .slt (res_main_while0b_v124 V0) (broadcastInDim S128x1 ![] bcast_S_S128x1 (constantI S_ 32 0#32)) : (Proc.devRef .tc main_while0b_call5_v1 : DevRef τ sig).ty.Contents (Elt F)) = Cert.ReferenceIdeal.Step.b148 j s := by
  unfold Cert.ReferenceIdeal.Step.b148
  rw [← al_145 h, ← al_147 h]
  try rfl
set_option maxRecDepth 8192 in
theorem al_149 (h : Holds V0 s j) : (constantI S_ 32 128#32 : (Proc.devRef .tc main_while0b_call5_c_0 : DevRef τ sig).ty.Contents (Elt F)) = Cert.ReferenceIdeal.Step.b149 j s := by
  unfold Cert.ReferenceIdeal.Step.b149
  rfl
set_option maxRecDepth 8192 in
theorem al_150 (h : Holds V0 s j) : (broadcastInDim S128x1 ![] bcast_S_S128x1 (constantI S_ 32 128#32) : (Proc.devRef .tc main_while0b_call5_v2 : DevRef τ sig).ty.Contents (Elt F)) = Cert.ReferenceIdeal.Step.b150 j s := by
  unfold Cert.ReferenceIdeal.Step.b150
  rw [← al_149 h]
  try rfl
set_option maxRecDepth 8192 in
theorem al_151 (h : Holds V0 s j) : (addi (res_main_while0b_v124 V0) (broadcastInDim S128x1 ![] bcast_S_S128x1 (constantI S_ 32 128#32)) : (Proc.devRef .tc main_while0b_call5_v3 : DevRef τ sig).ty.Contents (Elt F)) = Cert.ReferenceIdeal.Step.b151 j s := by
  unfold Cert.ReferenceIdeal.Step.b151
  rw [← al_145 h, ← al_150 h]
  try rfl
set_option maxRecDepth 8192 in
theorem al_152 (h : Holds V0 s j) : (select (cmpi .slt (res_main_while0b_v124 V0) (broadcastInDim S128x1 ![] bcast_S_S128x1 (constantI S_ 32 0#32))) (addi (res_main_while0b_v124 V0) (broadcastInDim S128x1 ![] bcast_S_S128x1 (constantI S_ 32 128#32))) (res_main_while0b_v124 V0) : (Proc.devRef .tc main_while0b_call5_v4 : DevRef τ sig).ty.Contents (Elt F)) = Cert.ReferenceIdeal.Step.b152 j s := by
  unfold Cert.ReferenceIdeal.Step.b152
  rw [← al_148 h, ← al_151 h, ← al_145 h]
  try rfl
set_option maxRecDepth 8192 in
theorem al_153 (h : Holds V0 s j) : (res_main_while0b_call5_v5 V0 : (Proc.devRef .tc main_while0b_call5_v5 : DevRef τ sig).ty.Contents (Elt F)) = Cert.ReferenceIdeal.Step.b153 j s := by
  unfold res_main_while0b_call5_v5 Cert.ReferenceIdeal.Step.b153
  rw [← al_152 h]
  try rfl
set_option maxRecDepth 8192 in
theorem al_154 (h : Holds V0 s j) : (constantI S1 32 127#32 : (Proc.devRef .tc main_while0b_call5_c_1 : DevRef τ sig).ty.Contents (Elt F)) = Cert.ReferenceIdeal.Step.b154 j s := by
  unfold Cert.ReferenceIdeal.Step.b154
  rfl
set_option maxRecDepth 8192 in
theorem al_155 (h : Holds V0 s j) : (constantI S_ 32 0#32 : (Proc.devRef .tc main_while0b_call5_c_2 : DevRef τ sig).ty.Contents (Elt F)) = Cert.ReferenceIdeal.Step.b155 j s := by
  unfold Cert.ReferenceIdeal.Step.b155
  rfl
set_option maxRecDepth 8192 in
theorem al_156 (h : Holds V0 s j) : (broadcastInDim S128x1x1 ![] bcast_S_S128x1x1 (constantI S_ 32 0#32) : (Proc.devRef .tc main_while0b_call5_v6 : DevRef τ sig).ty.Contents (Elt F)) = Cert.ReferenceIdeal.Step.b156 j s := by
  unfold Cert.ReferenceIdeal.Step.b156
  rw [← al_155 h]
  try rfl
set_option maxRecDepth 8192 in
theorem al_157 (h : Holds V0 s j) : (cmpi .sge (res_main_while0b_call5_v5 V0) (broadcastInDim S128x1x1 ![] bcast_S_S128x1x1 (constantI S_ 32 0#32)) : (Proc.devRef .tc main_while0b_call5_v7 : DevRef τ sig).ty.Contents (Elt F)) = Cert.ReferenceIdeal.Step.b157 j s := by
  unfold Cert.ReferenceIdeal.Step.b157
  rw [← al_153 h, ← al_156 h]
  try rfl
set_option maxRecDepth 8192 in
theorem al_158 (h : Holds V0 s j) : (broadcastInDim S1x1x1 ![2] bcast_S1_S1x1x1_2 (constantI S1 32 127#32) : (Proc.devRef .tc main_while0b_call5_v8 : DevRef τ sig).ty.Contents (Elt F)) = Cert.ReferenceIdeal.Step.b158 j s := by
  unfold Cert.ReferenceIdeal.Step.b158
  rw [← al_154 h]
  try rfl
set_option maxRecDepth 8192 in
theorem al_159 (h : Holds V0 s j) : (broadcastInDim S128x1x1 ![0, 1, 2] bcast_S1x1x1_S128x1x1_0_1_2 (broadcastInDim S1x1x1 ![2] bcast_S1_S1x1x1_2 (constantI S1 32 127#32)) : (Proc.devRef .tc main_while0b_call5_v9 : DevRef τ sig).ty.Contents (Elt F)) = Cert.ReferenceIdeal.Step.b159 j s := by
  unfold Cert.ReferenceIdeal.Step.b159
  rw [← al_158 h]
  try rfl
set_option maxRecDepth 8192 in
theorem al_160 (h : Holds V0 s j) : (cmpi .sle (res_main_while0b_call5_v5 V0) (broadcastInDim S128x1x1 ![0, 1, 2] bcast_S1x1x1_S128x1x1_0_1_2 (broadcastInDim S1x1x1 ![2] bcast_S1_S1x1x1_2 (constantI S1 32 127#32))) : (Proc.devRef .tc main_while0b_call5_v10 : DevRef τ sig).ty.Contents (Elt F)) = Cert.ReferenceIdeal.Step.b160 j s := by
  unfold Cert.ReferenceIdeal.Step.b160
  rw [← al_153 h, ← al_159 h]
  try rfl
set_option maxRecDepth 8192 in
theorem al_161 (h : Holds V0 s j) : (andi (cmpi .sge (res_main_while0b_call5_v5 V0) (broadcastInDim S128x1x1 ![] bcast_S_S128x1x1 (constantI S_ 32 0#32))) (cmpi .sle (res_main_while0b_call5_v5 V0) (broadcastInDim S128x1x1 ![0, 1, 2] bcast_S1x1x1_S128x1x1_0_1_2 (broadcastInDim S1x1x1 ![2] bcast_S1_S1x1x1_2 (constantI S1 32 127#32)))) : (Proc.devRef .tc main_while0b_call5_v11 : DevRef τ sig).ty.Contents (Elt F)) = Cert.ReferenceIdeal.Step.b161 j s := by
  unfold Cert.ReferenceIdeal.Step.b161
  rw [← al_157 h, ← al_160 h]
  try rfl
set_option maxRecDepth 8192 in
theorem al_162 (h : Holds V0 s j) : (constantI S_ 1 1#1 : (Proc.devRef .tc main_while0b_call5_c_3 : DevRef τ sig).ty.Contents (Elt F)) = Cert.ReferenceIdeal.Step.b162 j s := by
  unfold Cert.ReferenceIdeal.Step.b162
  rfl
set_option maxRecDepth 8192 in
theorem al_163 (h : Holds V0 s j) : (Host.reduce IntOp.andi (andi (cmpi .sge (res_main_while0b_call5_v5 V0) (broadcastInDim S128x1x1 ![] bcast_S_S128x1x1 (constantI S_ 32 0#32))) (cmpi .sle (res_main_while0b_call5_v5 V0) (broadcastInDim S128x1x1 ![0, 1, 2] bcast_S1x1x1_S128x1x1_0_1_2 (broadcastInDim S1x1x1 ![2] bcast_S1_S1x1x1_2 (constantI S1 32 127#32))))) (constantI S_ 1 1#1) reducesTo_S128x1x1_S128x1_d2 h_S_ : (Proc.devRef .tc main_while0b_call5_v12 : DevRef τ sig).ty.Contents (Elt F)) = Cert.ReferenceIdeal.Step.b163 j s := by
  unfold Cert.ReferenceIdeal.Step.b163
  rw [← al_161 h, ← al_162 h]
  try rfl
set_option maxRecDepth 8192 in
theorem al_164 (h : Holds V0 s j) : (Host.gather gather_S128x128_S128x1x1_S128x1_n_1_0_0_1_2_11 (subf (res_main_while0b_call4_v5 V0) (broadcastInDim S128x128 ![0, 1] bcast_S128x1_S128x128_0_1 (Host.log (broadcastInDim S128x1 ![0] bcast_S128_S128x1_0 (Host.reduceAdd (Host.exp (res_main_while0b_call4_v5 V0)) (constant S_ .f32 0x00000000#32) reducesTo_S128x128_S128_d1 h_S_))))) (res_main_while0b_call5_v5 V0) : (Proc.devRef .tc main_while0b_call5_v13 : DevRef τ sig).ty.Contents (Elt F)) = Cert.ReferenceIdeal.Step.b164 j s := by
  unfold Cert.ReferenceIdeal.Step.b164
  rw [← al_144 h, ← al_153 h]
  try rfl
set_option maxRecDepth 8192 in
theorem al_165 (h : Holds V0 s j) : (constant S_ .f32 0x7FC00000#32 : (Proc.devRef .tc main_while0b_call5_cst : DevRef τ sig).ty.Contents (Elt F)) = Cert.ReferenceIdeal.Step.b165 j s := by
  unfold Cert.ReferenceIdeal.Step.b165
  rfl
set_option maxRecDepth 8192 in
theorem al_166 (h : Holds V0 s j) : (broadcastInDim S128x1 ![] bcast_S_S128x1 (constant S_ .f32 0x7FC00000#32) : (Proc.devRef .tc main_while0b_call5_v14 : DevRef τ sig).ty.Contents (Elt F)) = Cert.ReferenceIdeal.Step.b166 j s := by
  unfold Cert.ReferenceIdeal.Step.b166
  rw [← al_165 h]
  try rfl
set_option maxRecDepth 8192 in
theorem al_167 (h : Holds V0 s j) : (select (Host.reduce IntOp.andi (andi (cmpi .sge (res_main_while0b_call5_v5 V0) (broadcastInDim S128x1x1 ![] bcast_S_S128x1x1 (constantI S_ 32 0#32))) (cmpi .sle (res_main_while0b_call5_v5 V0) (broadcastInDim S128x1x1 ![0, 1, 2] bcast_S1x1x1_S128x1x1_0_1_2 (broadcastInDim S1x1x1 ![2] bcast_S1_S1x1x1_2 (constantI S1 32 127#32))))) (constantI S_ 1 1#1) reducesTo_S128x1x1_S128x1_d2 h_S_) (Host.gather gather_S128x128_S128x1x1_S128x1_n_1_0_0_1_2_11 (subf (res_main_while0b_call4_v5 V0) (broadcastInDim S128x128 ![0, 1] bcast_S128x1_S128x128_0_1 (Host.log (broadcastInDim S128x1 ![0] bcast_S128_S128x1_0 (Host.reduceAdd (Host.exp (res_main_while0b_call4_v5 V0)) (constant S_ .f32 0x00000000#32) reducesTo_S128x128_S128_d1 h_S_))))) (res_main_while0b_call5_v5 V0)) (broadcastInDim S128x1 ![] bcast_S_S128x1 (constant S_ .f32 0x7FC00000#32)) : (Proc.devRef .tc main_while0b_v125 : DevRef τ sig).ty.Contents (Elt F)) = Cert.ReferenceIdeal.Step.b167 j s := by
  unfold Cert.ReferenceIdeal.Step.b167
  rw [← al_163 h, ← al_164 h, ← al_166 h]
  try rfl
set_option maxRecDepth 8192 in
theorem al_168 (h : Holds V0 s j) : (shapeCast S128 (select (Host.reduce IntOp.andi (andi (cmpi .sge (res_main_while0b_call5_v5 V0) (broadcastInDim S128x1x1 ![] bcast_S_S128x1x1 (constantI S_ 32 0#32))) (cmpi .sle (res_main_while0b_call5_v5 V0) (broadcastInDim S128x1x1 ![0, 1, 2] bcast_S1x1x1_S128x1x1_0_1_2 (broadcastInDim S1x1x1 ![2] bcast_S1_S1x1x1_2 (constantI S1 32 127#32))))) (constantI S_ 1 1#1) reducesTo_S128x1x1_S128x1_d2 h_S_) (Host.gather gather_S128x128_S128x1x1_S128x1_n_1_0_0_1_2_11 (subf (res_main_while0b_call4_v5 V0) (broadcastInDim S128x128 ![0, 1] bcast_S128x1_S128x128_0_1 (Host.log (broadcastInDim S128x1 ![0] bcast_S128_S128x1_0 (Host.reduceAdd (Host.exp (res_main_while0b_call4_v5 V0)) (constant S_ .f32 0x00000000#32) reducesTo_S128x128_S128_d1 h_S_))))) (res_main_while0b_call5_v5 V0)) (broadcastInDim S128x1 ![] bcast_S_S128x1 (constant S_ .f32 0x7FC00000#32))) shapeCasts_S128x1_S128 : (Proc.devRef .tc main_while0b_v126 : DevRef τ sig).ty.Contents (Elt F)) = Cert.ReferenceIdeal.Step.b168 j s := by
  unfold Cert.ReferenceIdeal.Step.b168
  rw [← al_167 h]
  try rfl
set_option maxRecDepth 8192 in
theorem al_169 (h : Holds V0 s j) : (sitofp .f32 (res_main_while0b_v122 V0) : (Proc.devRef .tc main_while0b_v127 : DevRef τ sig).ty.Contents (Elt F)) = Cert.ReferenceIdeal.Step.b169 j s := by
  unfold Cert.ReferenceIdeal.Step.b169
  rw [← al_129 h]
  try rfl
set_option maxRecDepth 8192 in
theorem al_170 (h : Holds V0 s j) : (broadcastInDim S1x128x128 ![1, 2] bcast_S128x128_S1x128x128_1_2 (res_main_while0b_v49 V0) : (Proc.devRef .tc main_while0b_call6_v0 : DevRef τ sig).ty.Contents (Elt F)) = Cert.ReferenceIdeal.Step.b170 j s := by
  unfold Cert.ReferenceIdeal.Step.b170
  rw [← al_35 h]
  try rfl
set_option maxRecDepth 8192 in
theorem al_171 (h : Holds V0 s j) : (constantI S_ 32 0#32 : (Proc.devRef .tc main_while0b_call6_c : DevRef τ sig).ty.Contents (Elt F)) = Cert.ReferenceIdeal.Step.b171 j s := by
  unfold Cert.ReferenceIdeal.Step.b171
  rfl
set_option maxRecDepth 8192 in
theorem al_172 (h : Holds V0 s j) : (constantI S_ 32 0#32 : (Proc.devRef .tc main_while0b_call6_c_0 : DevRef τ sig).ty.Contents (Elt F)) = Cert.ReferenceIdeal.Step.b172 j s := by
  unfold Cert.ReferenceIdeal.Step.b172
  rfl
set_option maxRecDepth 8192 in
theorem al_173 (h : Holds V0 s j) : (Host.dynamicUpdateSlice (V0 (Proc.devRef .tc main_v13_20)) (broadcastInDim S1x128x128 ![1, 2] bcast_S128x128_S1x128x128_1_2 (res_main_while0b_v49 V0)) (fun k => (((![V0 (Proc.devRef .tc main_v13_15), constantI S_ 32 0#32, constantI S_ 32 0#32] : Fin 3 → (⟨S_, .i32⟩ : BufTy).Contents (Elt F))) k (Shape.Idx.first h_S_)).toInt) updateFits_S128x128x128_S1x128x128 : (Proc.devRef .tc main_while0b_v128 : DevRef τ sig).ty.Contents (Elt F)) = Cert.ReferenceIdeal.Step.b173 j s := by
  unfold Cert.ReferenceIdeal.Step.b173
  rw [← al_170 h, ← al_171 h, ← al_172 h, h.f_20, h.n_15]
  try rfl
set_option maxRecDepth 8192 in
theorem al_174 (h : Holds V0 s j) : (broadcastInDim S1x128 ![1] bcast_S128_S1x128_1 (sitofp .f32 (res_main_while0b_v122 V0)) : (Proc.devRef .tc main_while0b_call7_v0 : DevRef τ sig).ty.Contents (Elt F)) = Cert.ReferenceIdeal.Step.b174 j s := by
  unfold Cert.ReferenceIdeal.Step.b174
  rw [← al_169 h]
  try rfl
set_option maxRecDepth 8192 in
theorem al_175 (h : Holds V0 s j) : (constantI S_ 32 0#32 : (Proc.devRef .tc main_while0b_call7_c : DevRef τ sig).ty.Contents (Elt F)) = Cert.ReferenceIdeal.Step.b175 j s := by
  unfold Cert.ReferenceIdeal.Step.b175
  rfl
set_option maxRecDepth 8192 in
theorem al_176 (h : Holds V0 s j) : (Host.dynamicUpdateSlice (V0 (Proc.devRef .tc main_v13_21)) (broadcastInDim S1x128 ![1] bcast_S128_S1x128_1 (sitofp .f32 (res_main_while0b_v122 V0))) (fun k => (((![V0 (Proc.devRef .tc main_v13_15), constantI S_ 32 0#32] : Fin 2 → (⟨S_, .i32⟩ : BufTy).Contents (Elt F))) k (Shape.Idx.first h_S_)).toInt) updateFits_S128x128_S1x128 : (Proc.devRef .tc main_while0b_v129 : DevRef τ sig).ty.Contents (Elt F)) = Cert.ReferenceIdeal.Step.b176 j s := by
  unfold Cert.ReferenceIdeal.Step.b176
  rw [← al_174 h, ← al_175 h, h.f_21, h.n_15]
  try rfl
set_option maxRecDepth 8192 in
theorem al_177 (h : Holds V0 s j) : (broadcastInDim S1x128 ![1] bcast_S128_S1x128_1 (shapeCast S128 (select (Host.reduce IntOp.andi (andi (cmpi .sge (res_main_while0b_call5_v5 V0) (broadcastInDim S128x1x1 ![] bcast_S_S128x1x1 (constantI S_ 32 0#32))) (cmpi .sle (res_main_while0b_call5_v5 V0) (broadcastInDim S128x1x1 ![0, 1, 2] bcast_S1x1x1_S128x1x1_0_1_2 (broadcastInDim S1x1x1 ![2] bcast_S1_S1x1x1_2 (constantI S1 32 127#32))))) (constantI S_ 1 1#1) reducesTo_S128x1x1_S128x1_d2 h_S_) (Host.gather gather_S128x128_S128x1x1_S128x1_n_1_0_0_1_2_11 (subf (res_main_while0b_call4_v5 V0) (broadcastInDim S128x128 ![0, 1] bcast_S128x1_S128x128_0_1 (Host.log (broadcastInDim S128x1 ![0] bcast_S128_S128x1_0 (Host.reduceAdd (Host.exp (res_main_while0b_call4_v5 V0)) (constant S_ .f32 0x00000000#32) reducesTo_S128x128_S128_d1 h_S_))))) (res_main_while0b_call5_v5 V0)) (broadcastInDim S128x1 ![] bcast_S_S128x1 (constant S_ .f32 0x7FC00000#32))) shapeCasts_S128x1_S128) : (Proc.devRef .tc main_while0b_call8_v0 : DevRef τ sig).ty.Contents (Elt F)) = Cert.ReferenceIdeal.Step.b177 j s := by
  unfold Cert.ReferenceIdeal.Step.b177
  rw [← al_168 h]
  try rfl
set_option maxRecDepth 8192 in
theorem al_178 (h : Holds V0 s j) : (constantI S_ 32 0#32 : (Proc.devRef .tc main_while0b_call8_c : DevRef τ sig).ty.Contents (Elt F)) = Cert.ReferenceIdeal.Step.b178 j s := by
  unfold Cert.ReferenceIdeal.Step.b178
  rfl
set_option maxRecDepth 8192 in
theorem al_179 (h : Holds V0 s j) : (Host.dynamicUpdateSlice (V0 (Proc.devRef .tc main_v13_22)) (broadcastInDim S1x128 ![1] bcast_S128_S1x128_1 (shapeCast S128 (select (Host.reduce IntOp.andi (andi (cmpi .sge (res_main_while0b_call5_v5 V0) (broadcastInDim S128x1x1 ![] bcast_S_S128x1x1 (constantI S_ 32 0#32))) (cmpi .sle (res_main_while0b_call5_v5 V0) (broadcastInDim S128x1x1 ![0, 1, 2] bcast_S1x1x1_S128x1x1_0_1_2 (broadcastInDim S1x1x1 ![2] bcast_S1_S1x1x1_2 (constantI S1 32 127#32))))) (constantI S_ 1 1#1) reducesTo_S128x1x1_S128x1_d2 h_S_) (Host.gather gather_S128x128_S128x1x1_S128x1_n_1_0_0_1_2_11 (subf (res_main_while0b_call4_v5 V0) (broadcastInDim S128x128 ![0, 1] bcast_S128x1_S128x128_0_1 (Host.log (broadcastInDim S128x1 ![0] bcast_S128_S128x1_0 (Host.reduceAdd (Host.exp (res_main_while0b_call4_v5 V0)) (constant S_ .f32 0x00000000#32) reducesTo_S128x128_S128_d1 h_S_))))) (res_main_while0b_call5_v5 V0)) (broadcastInDim S128x1 ![] bcast_S_S128x1 (constant S_ .f32 0x7FC00000#32))) shapeCasts_S128x1_S128)) (fun k => (((![V0 (Proc.devRef .tc main_v13_15), constantI S_ 32 0#32] : Fin 2 → (⟨S_, .i32⟩ : BufTy).Contents (Elt F))) k (Shape.Idx.first h_S_)).toInt) updateFits_S128x128_S1x128 : (Proc.devRef .tc main_while0b_v130 : DevRef τ sig).ty.Contents (Elt F)) = Cert.ReferenceIdeal.Step.b179 j s := by
  unfold Cert.ReferenceIdeal.Step.b179
  rw [← al_177 h, ← al_178 h, h.f_22, h.n_15]
  try rfl

/-! One trip's step of the carried values is `step`, field by field; a counter steps to the next number. -/

theorem step_16 (h : Holds V0 s j) : step_main_v13_16 V0 = (step j s).main_v13_16 := by
  unfold step_main_v13_16 Cert.ReferenceIdeal.Step.step
  show id (res_main_while0b_v89 V0) = _
  rw [al_80 h]
  try rfl
theorem step_17 (h : Holds V0 s j) : step_main_v13_17 V0 = (step j s).main_v13_17 := by
  unfold step_main_v13_17 Cert.ReferenceIdeal.Step.step
  show id (select (broadcastInDim S128x128 ![] bcast_S_S128x128 (res_main_while0b_v98 V0)) (V0 (Proc.devRef .tc main_v13_17)) (res_main_while0b_v118 V0)) = _
  rw [al_126 h]
  try rfl
theorem step_18 (h : Holds V0 s j) : step_main_v13_18 V0 = (step j s).main_v13_18 := by
  unfold step_main_v13_18 Cert.ReferenceIdeal.Step.step
  show id (sitofp .f32 (broadcastInDim S128x1 ![0] bcast_S128_S128x1_0 (shapeCast S128 ((Host.topK S128x1 1 (FloatOps.cmpfTotal .gt) (res_main_while0b_v94 V0) sliceFits_S128x128_S128x1).2) shapeCasts_S128x1_S128))) = _
  rw [al_90 h]
  try rfl
theorem step_19 (h : Holds V0 s j) : step_main_v13_19 V0 = (step j s).main_v13_19 := by
  unfold step_main_v13_19 Cert.ReferenceIdeal.Step.step
  show id (res_main_while0b_v122 V0) = _
  rw [al_129 h]
  try rfl
theorem step_20 (h : Holds V0 s j) : step_main_v13_20 V0 = (step j s).main_v13_20 := by
  unfold step_main_v13_20 Cert.ReferenceIdeal.Step.step
  show id (Host.dynamicUpdateSlice (V0 (Proc.devRef .tc main_v13_20)) (broadcastInDim S1x128x128 ![1, 2] bcast_S128x128_S1x128x128_1_2 (res_main_while0b_v49 V0)) (fun k => (((![V0 (Proc.devRef .tc main_v13_15), constantI S_ 32 0#32, constantI S_ 32 0#32] : Fin 3 → (⟨S_, .i32⟩ : BufTy).Contents (Elt F))) k (Shape.Idx.first h_S_)).toInt) updateFits_S128x128x128_S1x128x128) = _
  exact al_173 h
theorem step_21 (h : Holds V0 s j) : step_main_v13_21 V0 = (step j s).main_v13_21 := by
  unfold step_main_v13_21 Cert.ReferenceIdeal.Step.step
  show id (Host.dynamicUpdateSlice (V0 (Proc.devRef .tc main_v13_21)) (broadcastInDim S1x128 ![1] bcast_S128_S1x128_1 (sitofp .f32 (res_main_while0b_v122 V0))) (fun k => (((![V0 (Proc.devRef .tc main_v13_15), constantI S_ 32 0#32] : Fin 2 → (⟨S_, .i32⟩ : BufTy).Contents (Elt F))) k (Shape.Idx.first h_S_)).toInt) updateFits_S128x128_S1x128) = _
  exact al_176 h
theorem step_22 (h : Holds V0 s j) : step_main_v13_22 V0 = (step j s).main_v13_22 := by
  unfold step_main_v13_22 Cert.ReferenceIdeal.Step.step
  show id (Host.dynamicUpdateSlice (V0 (Proc.devRef .tc main_v13_22)) (broadcastInDim S1x128 ![1] bcast_S128_S1x128_1 (shapeCast S128 (select (Host.reduce IntOp.andi (andi (cmpi .sge (res_main_while0b_call5_v5 V0) (broadcastInDim S128x1x1 ![] bcast_S_S128x1x1 (constantI S_ 32 0#32))) (cmpi .sle (res_main_while0b_call5_v5 V0) (broadcastInDim S128x1x1 ![0, 1, 2] bcast_S1x1x1_S128x1x1_0_1_2 (broadcastInDim S1x1x1 ![2] bcast_S1_S1x1x1_2 (constantI S1 32 127#32))))) (constantI S_ 1 1#1) reducesTo_S128x1x1_S128x1_d2 h_S_) (Host.gather gather_S128x128_S128x1x1_S128x1_n_1_0_0_1_2_11 (subf (res_main_while0b_call4_v5 V0) (broadcastInDim S128x128 ![0, 1] bcast_S128x1_S128x128_0_1 (Host.log (broadcastInDim S128x1 ![0] bcast_S128_S128x1_0 (Host.reduceAdd (Host.exp (res_main_while0b_call4_v5 V0)) (constant S_ .f32 0x00000000#32) reducesTo_S128x128_S128_d1 h_S_))))) (res_main_while0b_call5_v5 V0)) (broadcastInDim S128x1 ![] bcast_S_S128x1 (constant S_ .f32 0x7FC00000#32))) shapeCasts_S128x1_S128)) (fun k => (((![V0 (Proc.devRef .tc main_v13_15), constantI S_ 32 0#32] : Fin 2 → (⟨S_, .i32⟩ : BufTy).Contents (Elt F))) k (Shape.Idx.first h_S_)).toInt) updateFits_S128x128_S1x128) = _
  exact al_179 h
theorem step_15 (h : Holds V0 s j) : step_main_v13_15 V0 = constantI S_ 32 (BitVec.ofNat 32 (j + 1)) := by
  unfold step_main_v13_15
  rw [h.n_15]
  funext i
  show BitVec.ofNat 32 j + 1#32 = BitVec.ofNat 32 (j + 1)
  simp only [BitVec.ofNat_add]

set_option maxRecDepth 8192 in
theorem out_main_v16_holds (h : Holds V0 s j) : out_main_v16 V0 = Cert.ReferenceIdeal.Step.R_main_v16 s := by
  unfold out_main_v16 Cert.ReferenceIdeal.Step.R_main_v16
  rw [h.f_21]
  try rfl

set_option maxRecDepth 8192 in
theorem out_main_v17_holds (h : Holds V0 s j) : out_main_v17 V0 = Cert.ReferenceIdeal.Step.R_main_v17 s := by
  unfold out_main_v17 Cert.ReferenceIdeal.Step.R_main_v17
  rw [h.f_22]
  try rfl

set_option maxRecDepth 8192 in
theorem out_main_v14_holds (h : Holds V0 s j) : out_main_v14 V0 = Cert.ReferenceIdeal.Step.R_main_v14 s := by
  unfold out_main_v14 Cert.ReferenceIdeal.Step.R_main_v14
  rw [h.f_20]
  try rfl

/-- One trip keeps the valuation holding: `step` of the state, the same set-up values, the next number. -/
theorem holds_step (h : Holds V0 s j) : Holds (STEP V0) (step j s) (j + 1) where
  f_16 := (STEP_main_v13_16 V0).trans (step_16 h)
  f_17 := (STEP_main_v13_17 V0).trans (step_17 h)
  f_18 := (STEP_main_v13_18 V0).trans (step_18 h)
  f_19 := (STEP_main_v13_19 V0).trans (step_19 h)
  f_20 := (STEP_main_v13_20 V0).trans (step_20 h)
  f_21 := (STEP_main_v13_21 V0).trans (step_21 h)
  f_22 := (STEP_main_v13_22 V0).trans (step_22 h)
  n_15 := (STEP_main_v13_15 V0).trans (step_15 h)
  k_0 := (STEP_main_v13_0 V0).trans h.k_0
  f_1 := (STEP_main_v13_1 V0).trans h.f_1
  f_2 := (STEP_main_v13_2 V0).trans h.f_2
  f_3 := (STEP_main_v13_3 V0).trans h.f_3
  f_4 := (STEP_main_v13_4 V0).trans h.f_4
  f_5 := (STEP_main_v13_5 V0).trans h.f_5
  f_6 := (STEP_main_v13_6 V0).trans h.f_6
  f_7 := (STEP_main_v13_7 V0).trans h.f_7
  f_8 := (STEP_main_v13_8 V0).trans h.f_8
  f_9 := (STEP_main_v13_9 V0).trans h.f_9
  f_10 := (STEP_main_v13_10 V0).trans h.f_10
  f_11 := (STEP_main_v13_11 V0).trans h.f_11
  f_12 := (STEP_main_v13_12 V0).trans h.f_12
  f_13 := (STEP_main_v13_13 V0).trans h.f_13
  f_14 := (STEP_main_v13_14 V0).trans h.f_14

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg0)) (m ((c.tc : Thread nD τ).loc main_arg10)) (m ((c.tc : Thread nD τ).loc main_arg12)) (m ((c.tc : Thread nD τ).loc main_arg11)) (m ((c.tc : Thread nD τ).loc main_arg13)) (m ((c.tc : Thread nD τ).loc main_arg14)) (m ((c.tc : Thread nD τ).loc main_arg15)) (m ((c.tc : Thread nD τ).loc main_arg1)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 900000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v16) = Cert.ReferenceIdeal.Step.R_main_v16 (it c 128)
      ∧ r.2.mem ((c.tc : Thread nD τ).loc main_v17) = Cert.ReferenceIdeal.Step.R_main_v17 (it c 128)
      ∧ r.2.mem ((c.tc : Thread nD τ).loc main_v14) = Cert.ReferenceIdeal.Step.R_main_v14 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 128
    ⟨(h c).1.trans (out_main_v16_holds hk), (h c).2.1.trans (out_main_v17_holds hk), (h c).2.2.1.trans (out_main_v14_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2⟩) (Value.run m ρ)

end Cert.Proof.RefRun

end
-- ==== Proof.Algebraic.lean ====
module

public import proofs.«01_k».proof.Defs
public import proofs.«01_k».proof.Proof.Gen.Pre_finite_inputs
public import proofs.«01_k».proof.Proof.KernelIdealArrays
public import proofs.«01_k».proof.Proof.KVals
public import proofs.«01_k».proof.Proof.RVals
public import proofs.«01_k».proof.Proof.RefRun

@[expose] public section

/-! The kernel and the reference start the decoder in the same state with the same weights, so, each being that decoder
    in every batch row, they return the same three arrays. -/

set_option maxRecDepth 16384

noncomputable section

namespace Cert.Proof.Algebraic
open Idealize.ShloMosaic Idealize.ShloMosaic.TcCoe Cert.Proof.Spec Cert.Proof.FirstMax Cert.Proof.KVals Cert.Proof.RVals Idealize.SL.Sem

/-- The decoder's first state in batch row `b`. -/
def σ0 (h : Vec Ideal Cert.KernelIdeal.S1x128x128 .f32) (b : Fin 128) : St := ⟨fun t => h (ix3 0 b t), 1, fun _ => False, 0⟩

/-- Entry `i` of the key of position `t` in batch row `b`. -/
def keyAt (e : Vec Ideal Cert.KernelIdeal.S128x128x128 .f32) (u : Vec Ideal Cert.KernelIdeal.S128x128 .f32) (v : Vec Ideal Cert.KernelIdeal.S128 .f32) (b t i : Fin 128) : EReal :=
  ∑ x, e (ix3 b t x) * u (ix2 i x) + v (ix1 i)

section Kernel
open Cert.Proof.KernelIdeal Cert.KernelIdeal Cert.KernelIdeal.Gen
variable (m : (ℓ : Loc nD τ sig) → Buf (Elt Ideal) ℓ) (c : Dev nD)

def wK : Wts Ideal := wtsOf (in3 m c) (in4 m c) (in5 m c) (in6 m c) (in9 m c) (in10 m c) (in11 m c) (in12 m c) (in13 m c) (in14 m c) (in15 m c) (in16 m c)
def kK : Vec Ideal S128x128x128 .f32 := keysP (in7 m c) (in8 m c) (in0 m c)

theorem one_f32 : FloatOps.ofBits (F := Ideal) .f32 0x3F800000#32 = (1 : EReal) := by
  show Ideal.ieee 8 23 0x3F800000#32 = _
  simp [Ideal.ieee, -EReal.coe_mul]
  norm_num

theorem col0_at (x : Vec Ideal S1x128x128 .f32) (i b : Fin 128) :
    transpose S128x128 [1, 0] (shapeCast S128x128 x shapeCasts_S1x128x128_S128x128) transposes_S128x128_S128x128_1_0 (ix2 i b) = x (ix3 0 b i) := by
  have h : ∀ p q : Fin 128, shapeCast S128x128 x shapeCasts_S1x128x128_S128x128 (ix2 p q) = x (ix3 0 p q) := fun p q => by
    pointwise []
  generalize shapeCast S128x128 x shapeCasts_S1x128x128_S128x128 = y at h
  rw [← h]
  pointwise []

theorem relK0 (b : Fin 128) : RelK b (st0 (in2 m c)) (σ0 (m ((c : Thread nD τ).loc main_arg1)) b) where
  h := funext fun i => by
    have h1 : k0_pay4 (in2 m c) = in2 m c := by
      generalize in2 m c = x
      funext y
      pointwise [k0_pay4]
    have h2 : in2 m c (ix2 i b) = m ((c : Thread nD τ).loc main_arg1) (ix3 0 b i) := by
      unfold in2
      exact col0_at _ i b
    show k0_pay4 (in2 m c) (ix2 i b) = _
    rw [h1, h2]
    rfl
  d := by
    show k0_pay3 (ix2 0 b) = 1
    pointwise [k0_pay3]
  m := fun i => by
    refine ⟨fun h => h.elim, fun _ => ?_⟩
    show k0_pay1 k0_pay375 (ix2 i b) = 0
    pointwise [k0_pay1, k0_pay375]
  o := fun i => by
    have h : (st0 (in2 m c)).o (ix2 i b) = FloatOps.sitofp (F := Ideal) .f32 (BitVec.setWidth 32 (IntOp.cmpi .eq (BitVec.ofNat 32 i.val) 0#32)) := by
      show k0_pay2 (iota Kind.tc S128x128 32 [0] iota_S128x128_d0_w32) (ix2 i b) = _
      pointwise [k0_pay2]
    rw [h]
    have key : ∀ i : Fin 128, IntOp.cmpi .eq (BitVec.ofNat 32 i.val) 0#32 = if i = 0 then 1#1 else 0#1 := by decide
    rw [key]
    show (i = 0 → _) ∧ (i ≠ 0 → _)
    by_cases hi : i = 0
    · refine ⟨fun _ => ?_, fun h => absurd hi h⟩
      rw [if_pos hi]
      show (((1 : ℤ) : ℝ) : EReal) = 1
      norm_num
    · refine ⟨fun h => absurd h hi, fun _ => ?_⟩
      rw [if_neg hi]
      show (((0 : ℤ) : ℝ) : EReal) = 0
      norm_num

theorem kK_at (b t i : Fin 128) : colK (kK m c) b t i = keyAt (m ((c : Thread nD τ).loc main_arg0)) (m ((c : Thread nD τ).loc main_arg6)) (m ((c : Thread nD τ).loc main_arg7)) b t i := by
  unfold colK kK keysP
  pointwise [k0_pay368, in7, in8, in0, rowAt]
  exact congrArg (· + _) (Finset.sum_congr rfl fun x _ => mul_comm _ _)

theorem h22 (x b : Fin 128) : (wK m c).v22 (ix2 x b) = BitVec.ofNat 32 x.val := by
  show iota Kind.tc S128x128 32 [0] iota_S128x128_d0_w32 (ix2 x b) = _
  pointwise []
theorem h38 : (wK m c).cst_38 = ⊥ := rfl

theorem att_k (t i b : Fin 128) : attA m c (ix3 t i b) = attP (wK m c) (kK m c) (stP (wK m c) (in1 m c) (kK m c) (st0 (in2 m c)) t.val) (ix2 i b) := by
  unfold attA attO
  pointwise [k0_pay182]
  rfl
theorem idx_k (t b : Fin 128) : idxA m c (ix3 t 0 b) = FloatOps.sitofp (F := Ideal) .f32 (idxP (wK m c) (in1 m c) (kK m c) t.val (stP (wK m c) (in1 m c) (kK m c) (st0 (in2 m c)) t.val) (ix2 0 b)) := by
  unfold idxA idxO
  pointwise [k0_pay366]
  rfl
theorem lp_k (t b : Fin 128) : lpA m c (ix3 t 0 b) = lpP (wK m c) (in1 m c) (kK m c) t.val (stP (wK m c) (in1 m c) (kK m c) (st0 (in2 m c)) t.val) (ix3 0 0 b) := by
  unfold lpA lpO
  rfl
end Kernel

section Ref
open Cert.ReferenceIdeal Cert.ReferenceIdeal.Step Cert.ReferenceIdeal.Gen Cert.Proof.RefRun
variable (m : (ℓ : Loc nD τ sig) → Buf (Elt Ideal) ℓ) (c : Dev nD)

theorem relR0 (b : Fin 128) : RelR b (initState m c) (σ0 (m ((c : Thread nD τ).loc main_arg1)) b) where
  h := funext fun i => by
    unfold row initState init
    pointwise [A_main_v5]
    rfl
  d := by
    unfold initState init
    pointwise [K_main_v7, K_main_cst]
    rfl
  m := fun i => by
    refine ⟨fun h => h.elim, fun _ => ?_⟩
    unfold initState init
    pointwise [K_main_v6, K_main_c]
  p := by
    unfold initState init
    pointwise [K_main_v8, K_main_c_0]
    rfl

theorem rowK_at (b t i : Fin 128) : rowK (initState m c) b t i = keyAt (m ((c : Thread nD τ).loc main_arg0)) (m ((c : Thread nD τ).loc main_arg6)) (m ((c : Thread nD τ).loc main_arg7)) b t i := by
  unfold rowK initState init
  pointwise [A_main_v4, A_main_v3, A_main_v2, A_main_v1, A_main_v0]
  rfl

end Ref

/-! ### The weights -/

/-- The decoder's weights, of the arguments. -/
def wtA (a2 : Vec Ideal Cert.KernelIdeal.S128x1 .f32) (a3 : Vec Ideal Cert.KernelIdeal.S128 .f32) (a4 : Vec Ideal Cert.KernelIdeal.S128x128 .f32)
    (a5 : Vec Ideal Cert.KernelIdeal.S128 .f32) (a8 : Vec Ideal Cert.KernelIdeal.S1x128 .f32) (a9 : Vec Ideal Cert.KernelIdeal.S1 .f32)
    (a10 : Vec Ideal Cert.KernelIdeal.S384x256 .f32) (a11 : Vec Ideal Cert.KernelIdeal.S384x128 .f32) (a12 a13 : Vec Ideal Cert.KernelIdeal.S384 .f32)
    (a14 : Vec Ideal Cert.KernelIdeal.S128x128 .f32) (a15 : Vec Ideal Cert.KernelIdeal.S128 .f32) : Wt where
  embW i := a2 (ix2 i 0)
  embB i := a3 (ix1 i)
  waW i x := a4 (ix2 i x)
  waB i := a5 (ix1 i)
  vaW x := a8 (ix2 0 x)
  vaB := a9 (ix1 0)
  wih o x := a10 (ix2 o x)
  whh o x := a11 (ix2 o x)
  bih o := a12 (ix1 o)
  bhh o := a13 (ix1 o)
  outW i x := a14 (ix2 i x)
  outB i := a15 (ix1 i)

theorem wt_ext {a b : Wt} (h1 : ∀ i, a.embW i = b.embW i) (h2 : ∀ i, a.embB i = b.embB i) (h3 : ∀ i x, a.waW i x = b.waW i x)
    (h4 : ∀ i, a.waB i = b.waB i) (h5 : ∀ i, a.vaW i = b.vaW i) (h6 : a.vaB = b.vaB) (h7 : ∀ i x, a.wih i x = b.wih i x)
    (h8 : ∀ i x, a.whh i x = b.whh i x) (h9 : ∀ i, a.bih i = b.bih i) (h10 : ∀ i, a.bhh i = b.bhh i)
    (h11 : ∀ i x, a.outW i x = b.outW i x) (h12 : ∀ i, a.outB i = b.outB i) : a = b := by
  obtain ⟨a1, a2, a3, a4, a5, a6, a7, a8, a9, a10, a11, a12⟩ := a
  obtain ⟨b1, b2, b3, b4, b5, b6, b7, b8, b9, b10, b11, b12⟩ := b
  rw [Wt.mk.injEq]
  exact ⟨funext h1, funext h2, funext fun i => funext (h3 i), funext h4, funext h5, h6, funext fun i => funext (h7 i),
    funext fun i => funext (h8 i), funext h9, funext h10, funext fun i => funext (h11 i), funext h12⟩

section KernelWeights
open Cert.Proof.KernelIdeal Cert.KernelIdeal Cert.KernelIdeal.Gen
variable (m : (ℓ : Loc nD τ sig) → Buf (Elt Ideal) ℓ) (c : Dev nD)

theorem col128_at (x : Vec Ideal S128 .f32) (i : Fin 128) : broadcastInDim S128x1 ![0] bcast_S128_S128x1_0 x (ix2 i 0) = x (ix1 i) := by
  pointwise []
theorem col384_at (x : Vec Ideal S384 .f32) (i : Fin 384) : broadcastInDim S384x1 ![0] bcast_S384_S384x1_0 x (ix2 i 0) = x (ix1 i) := by
  pointwise []
theorem col1_at (x : Vec Ideal S1 .f32) : broadcastInDim S1x1 ![1] bcast_S1_S1x1_1 x (ix2 0 0) = x (ix1 0) := by
  pointwise []
theorem pay369_at (x : Vec Ideal S128x1 .f32) (i : Fin 128) : k0_pay369 x (ix2 i 0) = x (ix2 i 0) := by pointwise [k0_pay369]
theorem pay370_at (x : Vec Ideal S128x1 .f32) (i : Fin 128) : k0_pay370 x (ix2 i 0) = x (ix2 i 0) := by pointwise [k0_pay370]
theorem pay371_at (x : Vec Ideal S1x1 .f32) : k0_pay371 x (ix2 0 0) = x (ix2 0 0) := by pointwise [k0_pay371]
theorem pay372_at (x : Vec Ideal S384x1 .f32) (i : Fin 384) : k0_pay372 x (ix2 i 0) = x (ix2 i 0) := by pointwise [k0_pay372]
theorem pay373_at (x : Vec Ideal S384x1 .f32) (i : Fin 384) : k0_pay373 x (ix2 i 0) = x (ix2 i 0) := by pointwise [k0_pay373]
theorem pay374_at (x : Vec Ideal S128x1 .f32) (i : Fin 128) : k0_pay374 x (ix2 i 0) = x (ix2 i 0) := by pointwise [k0_pay374]

theorem wtK_eq : wtK (wK m c) = wtA (m ((c : Thread nD τ).loc main_arg2)) (m ((c : Thread nD τ).loc main_arg3)) (m ((c : Thread nD τ).loc main_arg4))
    (m ((c : Thread nD τ).loc main_arg5)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) :=
  wt_ext (fun _ => rfl) (fun i => (pay369_at _ i).trans (col128_at _ i)) (fun _ _ => rfl) (fun i => (pay370_at _ i).trans (col128_at _ i))
    (fun _ => rfl) ((pay371_at _).trans (col1_at _)) (fun _ _ => rfl) (fun _ _ => rfl) (fun i => (pay372_at _ i).trans (col384_at _ i))
    (fun i => (pay373_at _ i).trans (col384_at _ i)) (fun _ _ => rfl) (fun i => (pay374_at _ i).trans (col128_at _ i))
end KernelWeights

section ReferenceWeights
open Cert.ReferenceIdeal Cert.Proof.RefRun
theorem wtR_eq (m : (ℓ : Loc nD τ sig) → Buf (Elt Ideal) ℓ) (c : Dev nD) : wtR (initState m c) = wtA (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := rfl
end ReferenceWeights

/-! ### The precondition -/

theorem fin_of_lt (x : EReal) (h : FloatOps.absf (F := Ideal) (φ := .f32) x < Ideal.ofBits .f32 2139095040#32) : Fin' x := by
  have hb : Ideal.ofBits .f32 2139095040#32 = ⊤ := by
    show Ideal.ieee 8 23 2139095040#32 = _
    simp [Ideal.ieee]
  rw [hb] at h
  induction x using EReal.rec with
  | bot => exact absurd h (by show ¬ ((⊤ : EReal) < ⊤); simp)
  | top => exact absurd h (by show ¬ ((⊤ : EReal) < ⊤); simp)
  | coe r => exact ⟨r, rfl⟩

theorem and_one {p q r : Bool} : IntOp.andi (IntOp.andi (BitVec.ofBool p) (BitVec.ofBool q)) (BitVec.ofBool r) = 1#1 → p = true ∧ q = true ∧ r = true := by
  cases p <;> cases q <;> cases r <;> decide

theorem finite_of_pre (m : (ℓ : Loc Cert.KernelIdeal.nD Cert.KernelIdeal.τ Cert.KernelIdeal.sig) → Buf (Elt Ideal) ℓ)
    (h : Cert.Pre_KernelIdeal_finite_inputs (hPre_finite_inputs := Cert.Pre_finite_inputs.Gen.facts) m) (c : Dev Cert.KernelIdeal.nD) :
    (∀ b x : Fin 128, Fin' (m ((c : Thread Cert.KernelIdeal.nD Cert.KernelIdeal.τ).loc Cert.KernelIdeal.main_arg1) (ix3 0 b x)))
    ∧ (∀ i x : Fin 128, Fin' (m ((c : Thread Cert.KernelIdeal.nD Cert.KernelIdeal.τ).loc Cert.KernelIdeal.main_arg14) (ix2 i x)))
    ∧ ∀ i : Fin 128, Fin' (m ((c : Thread Cert.KernelIdeal.nD Cert.KernelIdeal.τ).loc Cert.KernelIdeal.main_arg15) (ix1 i)) := by
  have key : ∀ (a1 : Vec Ideal Cert.KernelIdeal.S1x128x128 .f32) (a14 : Vec Ideal Cert.KernelIdeal.S128x128 .f32) (a15 : Vec Ideal Cert.KernelIdeal.S128 .f32) (e0 e2 e3 e4 e5 e6 e7 e8 e9 e10 e11 e12 e13),
      Cert.Pre_finite_inputs.fn (F := Ideal) e0 a1 e2 e3 e4 e5 e6 e7 e8 e9 e10 e11 e12 e13 a14 a15 = (fun _ => 1#1) →
      (∀ b x : Fin 128, Fin' (a1 (ix3 0 b x))) ∧ (∀ i x : Fin 128, Fin' (a14 (ix2 i x))) ∧ ∀ i : Fin 128, Fin' (a15 (ix1 i)) := by
    intro a1 a14 a15 e0 e2 e3 e4 e5 e6 e7 e8 e9 e10 e11 e12 e13 h
    have h1 : ∀ r l : Fin 128, Cert.Pre_finite_inputs.fn (F := Ideal) e0 a1 e2 e3 e4 e5 e6 e7 e8 e9 e10 e11 e12 e13 a14 a15 (ix2 r l) = 1#1 := fun r l => congrFun h _
    have h2 : ∀ r l : Fin 128, Fin' (a1 (ix3 0 r l)) ∧ Fin' (a14 (ix2 r l)) ∧ Fin' (a15 (ix1 l)) := by
      intro r l
      have h3 : Cert.Pre_finite_inputs.fn (F := Ideal) e0 a1 e2 e3 e4 e5 e6 e7 e8 e9 e10 e11 e12 e13 a14 a15 (ix2 r l)
          = IntOp.andi (IntOp.andi (BitVec.ofBool (decide (FloatOps.absf (F := Ideal) (φ := .f32) (a1 (ix3 0 r l)) < Ideal.ofBits .f32 2139095040#32)))
              (BitVec.ofBool (decide (FloatOps.absf (F := Ideal) (φ := .f32) (a14 (ix2 r l)) < Ideal.ofBits .f32 2139095040#32))))
            (BitVec.ofBool (decide (FloatOps.absf (F := Ideal) (φ := .f32) (a15 (ix1 l)) < Ideal.ofBits .f32 2139095040#32))) := by
        pointwise [Cert.Pre_finite_inputs.fn]
      obtain ⟨p, q, s⟩ := and_one (h3.symm.trans (h1 r l))
      exact ⟨fin_of_lt _ (of_decide_eq_true p), fin_of_lt _ (of_decide_eq_true q), fin_of_lt _ (of_decide_eq_true s)⟩
    exact ⟨fun b x => (h2 b x).1, fun i x => (h2 i x).2.1, fun i => (h2 0 i).2.2⟩
  exact key _ _ _ _ _ _ _ _ _ _ _ _ _ _ _ _ (h c)

/-! ### The results -/

section Results
open Cert.Proof.KernelIdeal Cert.KernelIdeal Cert.KernelIdeal.Gen Cert.Proof.RefRun
variable (m : (ℓ : Loc nD τ sig) → Buf (Elt Ideal) ℓ) (c : Dev nD) (it : ℕ → Cert.ReferenceIdeal.Step.State Ideal)
  (hw : wtR (it 0) = wtK (wK m c)) (hE : rowE (it 0) = colE (in1 m c)) (hK : rowK (it 0) = colK (kK m c))
  (hr : Rows it (σ0 (m ((c : Thread nD τ).loc main_arg1))) 128)

include hw hE hK in
theorem state_eq (b t : Fin 128) : RelK b (stP (wK m c) (in1 m c) (kK m c) (st0 (in2 m c)) t.val) (sR it (σ0 (m ((c : Thread nD τ).loc main_arg1))) b t.val) := by
  unfold sR
  rw [hw, hE, hK]
  exact relK_st (wK m c) (in1 m c) (kK m c) (relK0 m c b) (fun x => h22 m c x b) (h38 m c) t.val t.isLt.le

include hw hE hK hr in
theorem att_eq (t b i : Fin 128) : attA m c (ix3 t i b) = (it 128).main_v13_20 (ix3 t b i) := by
  rw [att_k, KVals.att_at, (state_eq m c it hw hE hK b t).h, hr.att t b i t.isLt, hw, hK]

include hw hE hK hr in
theorem idx_eq (t b : Fin 128) : idxA m c (ix3 t 0 b) = (it 128).main_v13_21 (ix2 t b) := by
  rw [idx_k, KVals.idx_at (wK m c) (in1 m c) (kK m c) t.val (state_eq m c it hw hE hK b t) (fun x => h22 m c x b) (h38 m c) t.isLt,
    hr.idx t b t.isLt, hw, hE, hK]
  rfl

include hw hE hK hr in
theorem lp_eq (t b : Fin 128) : lpA m c (ix3 t 0 b) = (it 128).main_v13_22 (ix2 t b) := by
  rw [lp_k, KVals.lp_at (wK m c) (in1 m c) (kK m c) t.val (state_eq m c it hw hE hK b t) (fun x => h22 m c x b) (h38 m c) t.isLt,
    hr.lp t b t.isLt, hw, hE, hK]

theorem flat_at (x : Vec Ideal S128x1x128 .f32) (p q : Fin 128) : shapeCast S128x128 x shapeCasts_S128x1x128_S128x128 (ix2 p q) = x (ix3 p 0 q) := by
  pointwise []

include hw hE hK hr in
theorem res0_eq : broadcastInDim S128x1x128 ![0, 2] bcast_S128x128_S128x1x128_0_2
    (transpose S128x128 [1, 0] (shapeCast S128x128 (idxA m c) shapeCasts_S128x1x128_S128x128) transposes_S128x128_S128x128_1_0)
      = Cert.ReferenceIdeal.Step.R_main_v16 (it 128) := by
  have h : shapeCast S128x128 (idxA m c) shapeCasts_S128x1x128_S128x128 = (it 128).main_v13_21 := funext fun y => by
    have hy : y = ix2 (y 0) (y 1) := funext fun a => by fin_cases a <;> rfl
    rw [hy]
    exact (flat_at _ _ _).trans (idx_eq m c it hw hE hK hr _ _)
  rw [h]
  rfl

include hw hE hK hr in
theorem res1_eq : transpose S128x128 [1, 0] (shapeCast S128x128 (lpA m c) shapeCasts_S128x1x128_S128x128) transposes_S128x128_S128x128_1_0
      = Cert.ReferenceIdeal.Step.R_main_v17 (it 128) := by
  have h : shapeCast S128x128 (lpA m c) shapeCasts_S128x1x128_S128x128 = (it 128).main_v13_22 := funext fun y => by
    have hy : y = ix2 (y 0) (y 1) := funext fun a => by fin_cases a <;> rfl
    rw [hy]
    exact (flat_at _ _ _).trans (lp_eq m c it hw hE hK hr _ _)
  rw [h]
  rfl

theorem turn_at (x : Vec Ideal S128x128x128 .f32) (b t i : Fin 128) :
    transpose S128x128x128 [2, 0, 1] x transposes_S128x128x128_S128x128x128_2_0_1 (ix3 b t i) = x (ix3 t i b) := by
  pointwise []

theorem ref_turn_at (s : Cert.ReferenceIdeal.Step.State Ideal) (b t i : Fin 128) :
    Cert.ReferenceIdeal.Step.R_main_v14 s (ix3 b t i) = s.main_v13_20 (ix3 t b i) := by
  pointwise [Cert.ReferenceIdeal.Step.R_main_v14]

include hw hE hK hr in
theorem res2_eq : transpose S128x128x128 [2, 0, 1] (attA m c) transposes_S128x128x128_S128x128x128_2_0_1
      = Cert.ReferenceIdeal.Step.R_main_v14 (it 128) := funext fun y => by
  have hy : y = ix3 (y 0) (y 1) (y 2) := funext fun a => by fin_cases a <;> rfl
  rw [hy]
  exact ((turn_at _ _ _ _).trans (att_eq m c it hw hE hK hr _ _ _)).trans (ref_turn_at _ _ _ _).symm
end Results

/-- The kernel and the reference return equal results, at finite `encoder_hidden`, `out_W` and `out_b`. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hag
  let it : Dev Cert.ReferenceIdeal.nD → ℕ → Cert.ReferenceIdeal.Step.State Ideal := fun c n =>
    Nat.rec (RefRun.initState m' c) (fun k s => Cert.ReferenceIdeal.Step.step k s) n
  have hit0 : ∀ c, it c 0 = RefRun.initState m' c := fun c => rfl
  have hits : ∀ c n, it c (n + 1) = Cert.ReferenceIdeal.Step.step n (it c n) := fun c n => rfl
  clear_value it
  have hres : ∀ c : Dev Cert.KernelIdeal.nD, _ := fun c => by
    obtain ⟨g0, g1, g2, g3, g4, g5, g6, g7, g8, g9, g10, g11, g12, g13, g14, g15⟩ := hag c
    obtain ⟨f1, f14, f15⟩ := finite_of_pre m hpre c
    have hwA := wtR_eq m' c
    rw [g2, g3, g4, g5, g8, g9, g10, g11, g12, g13, g14, g15] at hwA
    have hw : wtR (it c 0) = wtK (wK m c) := by rw [hit0, wtK_eq]; exact hwA
    have hE : rowE (it c 0) = colE (KernelIdeal.in1 m c) := by
      rw [hit0]
      funext b t i
      exact congrFun g0 (ix3 b t i)
    have hK : rowK (it c 0) = colK (kK m c) := by
      rw [hit0]
      funext b t i
      have h := rowK_at m' c b t i
      rw [g0, g6, g7] at h
      exact h.trans (kK_at m c b t i).symm
    have h0 : ∀ b, RelR b (it c 0) (σ0 (m ((c.tc : Thread Cert.KernelIdeal.nD Cert.KernelIdeal.τ).loc Cert.KernelIdeal.main_arg1)) b) := fun b => by
      have h := relR0 m' c b
      rw [g1] at h
      rw [hit0]
      exact h
    have hr := rows (it c) (hits c) _ h0 (fun b t => by
      refine fin_first _ _ _ _ (fun i h => h) (fun x => f1 b x) (fun i x => ?_) (fun i => ?_) t.val t.isLt
      · rw [hw, wtK_eq]; exact f14 i x
      · rw [hw, wtK_eq]; exact f15 i) 128 le_rfl
    exact And.intro (res0_eq m c (it c) hw hE hK hr) (And.intro (res1_eq m c (it c) hw hE hK hr) (res2_eq m c (it c) hw hE hK hr))
  refine ⟨fun c => Cert.ReferenceIdeal.Step.R_main_v16 (it c 128), fun c => Cert.ReferenceIdeal.Step.R_main_v17 (it c 128),
    fun c => Cert.ReferenceIdeal.Step.R_main_v14 (it c 128), ?_, ?_⟩
  · refine (θ_run Cert.KernelIdeal.defs _ _).mono (fun r h c => ?_) (KernelIdeal.run_main m g)
    obtain ⟨q0, q1, q2⟩ := KernelIdeal.results_of m c r h.1
    obtain ⟨e0, e1, e2⟩ := hres c
    exact ⟨q0.trans e0, q1.trans e1, q2.trans e2, KernelIdeal.args_of m r h.1 c⟩
  · exact RefRun.run_iter m' g' it hit0 hits

end Cert.Proof.Algebraic
-- ==== Proof.lean ====
module

public import proofs.«01_k».proof.Defs
public import proofs.«01_k».proof.Proof.KernelLaunch
public import proofs.«01_k».proof.Proof.KernelIdealLaunch
public import proofs.«01_k».proof.Proof.Gen.ReferenceIdeal.Run
public import proofs.«01_k».proof.Proof.Gen.ReferenceIdeal.Step
public import proofs.«01_k».proof.Proof.Gen.Pre_finite_inputs
public import proofs.«01_k».proof.Proof.Algebraic

@[expose] public section

noncomputable section

namespace Cert.Proof

open Idealize.ShloMosaic Idealize.SL.Sem

/-- The kernel's frame. -/
theorem frame_Kernel : Cert.quiescent_Kernel (hKernel := Cert.Kernel.Gen.facts) := fun m ρ _ =>
  (θ_run Cert.Kernel.defs _ _).mono (fun r h => ⟨Kernel.args_of m r h.1, h.2⟩) (Kernel.run_main m ρ)

/-- The idealization's frame. -/
theorem frame_KernelIdeal : Cert.quiescent_KernelIdeal (hKernelIdeal := Cert.KernelIdeal.Gen.facts) := fun m ρ _ =>
  (θ_run Cert.KernelIdeal.defs _ _).mono (fun r h => ⟨KernelIdeal.args_of m r h.1, h.2⟩) (KernelIdeal.run_main m ρ)

/-- The reference's frame: its arguments are unchanged, and it declares no semaphore. -/
theorem frame_ReferenceIdeal : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.Pre_finite_inputs.Gen.facts,
  frame_Kernel, frame_KernelIdeal, fun m ρ _ => frame_KernelIdeal m ρ trivial, frame_ReferenceIdeal,
  fun m ρ _ => frame_ReferenceIdeal m ρ trivial, trivial, Algebraic.algebraic⟩

end Cert.Proof

end
